-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x16x64 : Shape := ⟨4, ![4, 4096, 16, 64]⟩
abbrev S1 : Shape := ⟨1, ![1]⟩
abbrev S_ : Shape := ⟨0, ![]⟩

class Facts : Prop where
  bcast_S_S4x4096x16x64 : S_.BroadcastsInDim S4x4096x16x64 (![] : Fin 0 → Fin S4x4096x16x64.rank)

variable [Facts]

def fn {F : FTy → Type} [FloatOps F] (main_arg0 : FVec F S4x4096x16x64 .f32) (main_arg1 : FVec F S4x4096x16x64 .f32) (main_arg2 : FVec F S4x4096x16x64 .f32) (main_arg3 : IVec S1 1) : IVec S4x4096x16x64 1 × IVec S4x4096x16x64 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_v3 : FVec F S4x4096x16x64 .f32 := Host.absf main_arg1
  let main_cst_0 : FVec F S_ .f32 := constant S_ .f32 0x7F800000#32
  let main_v4 : FVec F S4x4096x16x64 .f32 := broadcastInDim S4x4096x16x64 ![] bcast_S_S4x4096x16x64 main_cst_0
  let main_v5 : IVec S4x4096x16x64 1 := cmpf .olt main_v3 main_v4
  (main_v2, main_v5)
-- ==== Kernel.lean ====
abbrev S4x4096x16x64 : Shape := ⟨4, ![4, 4096, 16, 64]⟩
abbrev S1 : Shape := ⟨1, ![1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x128 : Shape := ⟨2, ![64, 128]⟩
abbrev S128x64 : Shape := ⟨2, ![128, 64]⟩
abbrev S4x64x64x1024 : Shape := ⟨4, ![4, 64, 64, 1024]⟩
abbrev S4x64x1024x64 : Shape := ⟨4, ![4, 64, 1024, 64]⟩
abbrev S4x64x64 : Shape := ⟨3, ![4, 64, 64]⟩
abbrev S1x64x128x64 : Shape := ⟨4, ![1, 64, 128, 64]⟩
abbrev S1x64x64 : Shape := ⟨3, ![1, 64, 64]⟩
abbrev S64x1x64 : Shape := ⟨3, ![64, 1, 64]⟩
abbrev S64x128x64 : Shape := ⟨3, ![64, 128, 64]⟩
abbrev S8192x64 : Shape := ⟨2, ![8192, 64]⟩
abbrev S16384x64 : Shape := ⟨2, ![16384, 64]⟩
abbrev S16384x128 : Shape := ⟨2, ![16384, 128]⟩
abbrev S64x8192 : Shape := ⟨2, ![64, 8192]⟩
abbrev S64x32768 : Shape := ⟨2, ![64, 32768]⟩
abbrev S128x32768 : Shape := ⟨2, ![128, 32768]⟩
abbrev S8 : Shape := ⟨1, ![8]⟩
abbrev S4x8 : Shape := ⟨2, ![4, 8]⟩
abbrev S1x1x1 : Shape := ⟨3, ![1, 1, 1]⟩
abbrev S1x1 : Shape := ⟨2, ![1, 1]⟩
abbrev S4 : Shape := ⟨1, ![4]⟩
abbrev S4x1 : Shape := ⟨2, ![4, 1]⟩
abbrev S4x4096x1024 : Shape := ⟨3, ![4, 4096, 1024]⟩
abbrev S1x256x1024 : Shape := ⟨3, ![1, 256, 1024]⟩
abbrev S4360x1024 : Shape := ⟨2, ![4360, 1024]⟩
abbrev S4096x1024 : Shape := ⟨2, ![4096, 1024]⟩
abbrev S1x4096x1024 : Shape := ⟨3, ![1, 4096, 1024]⟩
abbrev S264x1024 : Shape := ⟨2, ![264, 1024]⟩
abbrev S1x264x1024 : Shape := ⟨3, ![1, 264, 1024]⟩
abbrev S260x1024 : Shape := ⟨2, ![260, 1024]⟩
abbrev S258x1024 : Shape := ⟨2, ![258, 1024]⟩
abbrev S257x1024 : Shape := ⟨2, ![257, 1024]⟩
abbrev S256x1024 : Shape := ⟨2, ![256, 1024]⟩

abbrev nBuf : Space → Nat
  | .hbm => 56
  | .vmem => 21
  | .smem => 4
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x16x64, .f32⟩
  | .hbm, ⟨3, _⟩ => ⟨S1, .i1⟩
  | .hbm, ⟨4, _⟩ => ⟨S64, .i32⟩
  | .hbm, ⟨5, _⟩ => ⟨S64x1, .i32⟩
  | .hbm, ⟨6, _⟩ => ⟨S1x64, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x128, .f32⟩
  | .hbm, ⟨30, _⟩ => ⟨S128x64, .f32⟩
  | .hbm, ⟨31, _⟩ => ⟨S4x64x64x1024, .f32⟩
  | .hbm, ⟨32, _⟩ => ⟨S4x64x1024x64, .f32⟩
  | .hbm, ⟨33, _⟩ => ⟨S4x64x64x1024, .f32⟩
  | .hbm, ⟨34, _⟩ => ⟨S4x64x1024x64, .f32⟩
  | .hbm, ⟨35, _⟩ => ⟨S4x64x64, .f32⟩
  | .hbm, ⟨36, _⟩ => ⟨S4x64x64, .f32⟩
  | .hbm, ⟨37, _⟩ => ⟨S8, .i32⟩
  | .hbm, ⟨38, _⟩ => ⟨S4x8, .f32⟩
  | .hbm, ⟨39, _⟩ => ⟨S_, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4x1, .f32⟩
  | .hbm, ⟨45, _⟩ => ⟨S4x8, .f32⟩
  | .hbm, ⟨46, _⟩ => ⟨S4x8, .f32⟩
  | .hbm, ⟨47, _⟩ => ⟨S4x8, .f32⟩
  | .hbm, ⟨48, _⟩ => ⟨S_, .f32⟩
  | .hbm, ⟨49, _⟩ => ⟨S4, .f32⟩
  | .hbm, ⟨50, _⟩ => ⟨S4x1, .f32⟩
  | .hbm, ⟨51, _⟩ => ⟨S4x8, .f32⟩
  | .hbm, ⟨52, _⟩ => ⟨S4x8, .f32⟩
  | .hbm, ⟨53, _⟩ => ⟨S4x4096x1024, .f32⟩
  | .hbm, ⟨54, _⟩ => ⟨S4x4096x1024, .f32⟩
  | .hbm, ⟨55, _⟩ => ⟨S4x4096x16x64, .f32⟩
  | .local _ .vmem, ⟨0, _⟩ => ⟨S1x64x128x64, .f32⟩
  | .local _ .vmem, ⟨1, _⟩ => ⟨S1x64x128x64, .f32⟩
  | .local _ .vmem, ⟨2, _⟩ => ⟨S1x64x128x64, .f32⟩
  | .local _ .vmem, ⟨3, _⟩ => ⟨S1x64x128x64, .f32⟩
  | .local _ .vmem, ⟨4, _⟩ => ⟨S64x128, .f32⟩
  | .local _ .vmem, ⟨5, _⟩ => ⟨S128x64, .f32⟩
  | .local _ .vmem, ⟨6, _⟩ => ⟨S64x64, .f32⟩
  | .local _ .vmem, ⟨7, _⟩ => ⟨S64x64, .f32⟩
  | .local _ .vmem, ⟨8, _⟩ => ⟨S1x64x64, .f32⟩
  | .local _ .vmem, ⟨9, _⟩ => ⟨S1x64x64, .f32⟩
  | .local _ .vmem, ⟨10, _⟩ => ⟨S1x64x64, .f32⟩
  | .local _ .vmem, ⟨11, _⟩ => ⟨S1x64x64, .f32⟩
  | .local _ .vmem, ⟨12, _⟩ => ⟨S4x64x64, .f32⟩
  | .local _ .vmem, ⟨13, _⟩ => ⟨S4x64x64, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S64x64, .f32⟩
  | .local _ .vmem, ⟨18, _⟩ => ⟨S1x256x1024, .f32⟩
  | .local _ .vmem, ⟨19, _⟩ => ⟨S1x256x1024, .f32⟩
  | .local _ .vmem, ⟨20, _⟩ => ⟨S4360x1024, .f32⟩
  | .local _ .smem, ⟨0, _⟩ => ⟨S8, .i32⟩
  | .local _ .smem, ⟨1, _⟩ => ⟨S4x8, .f32⟩
  | .local _ .smem, ⟨2, _⟩ => ⟨S8, .i32⟩
  | .local _ .smem, ⟨3, _⟩ => ⟨S4x8, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v28_0 : Ref sig .tc := ⟨.hbm, 37, rfl⟩
abbrev main_v28_1 : Ref sig .tc := ⟨.hbm, 38, rfl⟩
abbrev main_cst_3 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc1_stg6_0 : Ref sig .tc := ⟨.smem, 0, rfl⟩
abbrev cc1_stg7_0 : Ref sig .tc := ⟨.smem, 1, rfl⟩
abbrev cc2_stg0_0 : Ref sig .tc := ⟨.smem, 2, rfl⟩
abbrev cc2_stg1_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc2_sem0_0 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := .none

abbrev stage1_0 : Fin 1 → Memref sig .tc .vmem S4x64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .smem S8 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .smem S4x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := ⟨2, ![4, 16], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k2_off1 (i : grid2.Coords) : Fin 3 → Nat :=
  let arg0 : BitVec 32 := BitVec.ofNat 32 (i 0).val
  let c0_i32_217 : BitVec 32 := 0#32
  let c0_i32_218 : BitVec 32 := 0#32
  ![arg0.toNat, 0, 0]
def k2_off2 (i : grid2.Coords) : Fin 3 → Nat :=
  let arg0 : BitVec 32 := BitVec.ofNat 32 (i 0).val
  let c0_i32_221 : BitVec 32 := 0#32
  let c0_i32_222 : BitVec 32 := 0#32
  ![arg0.toNat, 0, 0]
def k2_mult1 (i : grid2.Coords) (v4 : BitVec 32) : BitVec 32 :=
  let arg1 : BitVec 32 := BitVec.ofNat 32 (i 1).val
  let c256_i32 : BitVec 32 := 256#32
  let v3 : BitVec 32 := Scalar.muli arg1 c256_i32
  let v5 : BitVec 32 := Scalar.addi v3 v4
  let c4096_i32 : BitVec 32 := 4096#32
  let v6 : BitVec 1 := Scalar.cmpi .sge v5 c4096_i32
  let c4096_i32_1 : BitVec 32 := 4096#32
  let v7 : BitVec 32 := Scalar.subi v5 c4096_i32_1
  let v8 : BitVec 32 := Scalar.select v6 v7 v5
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c8_i32 : BitVec 32 := 8#32
  let c0_i32_4 : BitVec 32 := 0#32
  let v15 : BitVec 1 := Scalar.cmpi .sgt c8_i32 c0_i32_4
  let v16 : BitVec 32 := Scalar.extui v15
  let c0_i32_5 : BitVec 32 := 0#32
  let v17 : BitVec 1 := Scalar.cmpi .slt c8_i32 c0_i32_5
  let v18 : BitVec 32 := Scalar.extui v17
  let v19 : BitVec 32 := Scalar.subi v16 v18
  let v20 : BitVec 1 := Scalar.cmpi .ne v14 v19
  let v21 : BitVec 32 := Scalar.remsi v8 c8_i32
  let c0_i32_6 : BitVec 32 := 0#32
  let v22 : BitVec 1 := Scalar.cmpi .ne v21 c0_i32_6
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_7 : BitVec 32 := 8#32
  let v26 : BitVec 32 := Scalar.muli v25 c8_i32_7
  v26

def k2_off3 (i : grid2.Coords) (v4 : BitVec 32) : Fin 2 → Nat :=
  let arg1 : BitVec 32 := BitVec.ofNat 32 (i 1).val
  let c256_i32 : BitVec 32 := 256#32
  let v3 : BitVec 32 := Scalar.muli arg1 c256_i32
  let v5 : BitVec 32 := Scalar.addi v3 v4
  let c4096_i32 : BitVec 32 := 4096#32
  let v6 : BitVec 1 := Scalar.cmpi .sge v5 c4096_i32
  let c4096_i32_1 : BitVec 32 := 4096#32
  let v7 : BitVec 32 := Scalar.subi v5 c4096_i32_1
  let v8 : BitVec 32 := Scalar.select v6 v7 v5
  let c0_i32_2 : BitVec 32 := 0#32
  let v10 : BitVec 1 := Scalar.cmpi .sgt v8 c0_i32_2
  let v11 : BitVec 32 := Scalar.extui v10
  let c0_i32_3 : BitVec 32 := 0#32
  let v12 : BitVec 1 := Scalar.cmpi .slt v8 c0_i32_3
  let v13 : BitVec 32 := Scalar.extui v12
  let v14 : BitVec 32 := Scalar.subi v11 v13
  let c8_i32 : BitVec 32 := 8#32
  let c0_i32_4 : BitVec 32 := 0#32
  let v15 : BitVec 1 := Scalar.cmpi .sgt c8_i32 c0_i32_4
  let v16 : BitVec 32 := Scalar.extui v15
  let c0_i32_5 : BitVec 32 := 0#32
  let v17 : BitVec 1 := Scalar.cmpi .slt c8_i32 c0_i32_5
  let v18 : BitVec 32 := Scalar.extui v17
  let v19 : BitVec 32 := Scalar.subi v16 v18
  let v20 : BitVec 1 := Scalar.cmpi .ne v14 v19
  let v21 : BitVec 32 := Scalar.remsi v8 c8_i32
  let c0_i32_6 : BitVec 32 := 0#32
  let v22 : BitVec 1 := Scalar.cmpi .ne v21 c0_i32_6
  let v23 : BitVec 1 := Scalar.andi v20 v22
  let v9 : BitVec 32 := Scalar.divsi v8 c8_i32
  let c1_i32 : BitVec 32 := 1#32
  let v24 : BitVec 32 := Scalar.subi v9 c1_i32
  let v25 : BitVec 32 := Scalar.select v23 v24 v9
  let c8_i32_7 : BitVec 32 := 8#32
  let v26 : BitVec 32 := Scalar.muli v25 c8_i32_7
  let v27 : BitVec 32 := v26
  let v29 : Index := Scalar.indexCast v27
  let c0_8 : Index := 0#32
  ![v29.toNat, 0]

def k2_chk1 (i : grid2.Coords) (v4 : BitVec 32) : Prop :=
  (8 ∣ (k2_mult1 i v4).toNat) ∧
  (∀ a, (k2_off3 i v4) a + S264x1024.size a ≤ S4360x1024.size a)
theorem k2_mult1_dvd : ∀ (i : grid2.Coords) (v4 : BitVec 32) (k2_hw1 : k2_chk1 i v4), 8 ∣ (k2_mult1 i v4).toNat := fun i v4 k2_hw1 => k2_hw1.1
theorem k2_off3_inb : ∀ (i : grid2.Coords) (v4 : BitVec 32) (k2_hw1 : k2_chk1 i v4), ∀ a, (k2_off3 i v4) a + S264x1024.size a ≤ S4360x1024.size a := fun i v4 k2_hw1 => k2_hw1.2

def k2_off4 (i : grid2.Coords) : Fin 2 → Nat :=
  let arg0 : BitVec 32 := BitVec.ofNat 32 (i 0).val
  let v64 : Index := Scalar.indexCast arg0
  let c0_22 : Index := 0#32
  ![v64.toNat, 0]
def k2_mult2 (i : grid2.Coords) (v68 : BitVec 32) : BitVec 32 :=
  let arg1 : BitVec 32 := BitVec.ofNat 32 (i 1).val
  let c256_i32 : BitVec 32 := 256#32
  let v3 : BitVec 32 := Scalar.muli arg1 c256_i32
  let v69 : BitVec 32 := Scalar.addi v3 v68
  let c4096_i32_23 : BitVec 32 := 4096#32
  let v70 : BitVec 1 := Scalar.cmpi .sge v69 c4096_i32_23
  let c4096_i32_24 : BitVec 32 := 4096#32
  let v71 : BitVec 32 := Scalar.subi v69 c4096_i32_24
  let v72 : BitVec 32 := Scalar.select v70 v71 v69
  let c0_i32_26 : BitVec 32 := 0#32
  let v74 : BitVec 1 := Scalar.cmpi .sgt v72 c0_i32_26
  let v75 : BitVec 32 := Scalar.extui v74
  let c0_i32_27 : BitVec 32 := 0#32
  let v76 : BitVec 1 := Scalar.cmpi .slt v72 c0_i32_27
  let v77 : BitVec 32 := Scalar.extui v76
  let v78 : BitVec 32 := Scalar.subi v75 v77
  let c8_i32_25 : BitVec 32 := 8#32
  let c0_i32_28 : BitVec 32 := 0#32
  let v79 : BitVec 1 := Scalar.cmpi .sgt c8_i32_25 c0_i32_28
  let v80 : BitVec 32 := Scalar.extui v79
  let c0_i32_29 : BitVec 32 := 0#32
  let v81 : BitVec 1 := Scalar.cmpi .slt c8_i32_25 c0_i32_29
  let v82 : BitVec 32 := Scalar.extui v81
  let v83 : BitVec 32 := Scalar.subi v80 v82
  let v84 : BitVec 1 := Scalar.cmpi .ne v78 v83
  let v85 : BitVec 32 := Scalar.remsi v72 c8_i32_25
  let c0_i32_30 : BitVec 32 := 0#32
  let v86 : BitVec 1 := Scalar.cmpi .ne v85 c0_i32_30
  let v87 : BitVec 1 := Scalar.andi v84 v86
  let v73 : BitVec 32 := Scalar.divsi v72 c8_i32_25
  let c1_i32_31 : BitVec 32 := 1#32
  let v88 : BitVec 32 := Scalar.subi v73 c1_i32_31
  let v89 : BitVec 32 := Scalar.select v87 v88 v73
  let c8_i32_32 : BitVec 32 := 8#32
  let v90 : BitVec 32 := Scalar.muli v89 c8_i32_32
  v90

def k2_off5 (i : grid2.Coords) (v68 : BitVec 32) : Fin 2 → Nat :=
  let arg1 : BitVec 32 := BitVec.ofNat 32 (i 1).val
  let c256_i32 : BitVec 32 := 256#32
  let v3 : BitVec 32 := Scalar.muli arg1 c256_i32
  let v69 : BitVec 32 := Scalar.addi v3 v68
  let c4096_i32_23 : BitVec 32 := 4096#32
  let v70 : BitVec 1 := Scalar.cmpi .sge v69 c4096_i32_23
  let c4096_i32_24 : BitVec 32 := 4096#32
  let v71 : BitVec 32 := Scalar.subi v69 c4096_i32_24
  let v72 : BitVec 32 := Scalar.select v70 v71 v69
  let c0_i32_26 : BitVec 32 := 0#32
  let v74 : BitVec 1 := Scalar.cmpi .sgt v72 c0_i32_26
  let v75 : BitVec 32 := Scalar.extui v74
  let c0_i32_27 : BitVec 32 := 0#32
  let v76 : BitVec 1 := Scalar.cmpi .slt v72 c0_i32_27
  let v77 : BitVec 32 := Scalar.extui v76
  let v78 : BitVec 32 := Scalar.subi v75 v77
  let c8_i32_25 : BitVec 32 := 8#32
  let c0_i32_28 : BitVec 32 := 0#32
  let v79 : BitVec 1 := Scalar.cmpi .sgt c8_i32_25 c0_i32_28
  let v80 : BitVec 32 := Scalar.extui v79
  let c0_i32_29 : BitVec 32 := 0#32
  let v81 : BitVec 1 := Scalar.cmpi .slt c8_i32_25 c0_i32_29
  let v82 : BitVec 32 := Scalar.extui v81
  let v83 : BitVec 32 := Scalar.subi v80 v82
  let v84 : BitVec 1 := Scalar.cmpi .ne v78 v83
  let v85 : BitVec 32 := Scalar.remsi v72 c8_i32_25
  let c0_i32_30 : BitVec 32 := 0#32
  let v86 : BitVec 1 := Scalar.cmpi .ne v85 c0_i32_30
  let v87 : BitVec 1 := Scalar.andi v84 v86
  let v73 : BitVec 32 := Scalar.divsi v72 c8_i32_25
  let c1_i32_31 : BitVec 32 := 1#32
  let v88 : BitVec 32 := Scalar.subi v73 c1_i32_31
  let v89 : BitVec 32 := Scalar.select v87 v88 v73
  let c8_i32_32 : BitVec 32 := 8#32
  let v90 : BitVec 32 := Scalar.muli v89 c8_i32_32
  let v91 : BitVec 32 := v90
  let v93 : Index := Scalar.indexCast v91
  let c0_33 : Index := 0#32
  ![v93.toNat, 0]

def k2_chk2 (i : grid2.Coords) (v68 : BitVec 32) : Prop :=
  (8 ∣ (k2_mult2 i v68).toNat) ∧
  (∀ a, (k2_off5 i v68) a + S264x1024.size a ≤ S4360x1024.size a)
theorem k2_mult2_dvd : ∀ (i : grid2.Coords) (v68 : BitVec 32) (k2_hw2 : k2_chk2 i v68), 8 ∣ (k2_mult2 i v68).toNat := fun i v68 k2_hw2 => k2_hw2.1
theorem k2_off5_inb : ∀ (i : grid2.Coords) (v68 : BitVec 32) (k2_hw2 : k2_chk2 i v68), ∀ a, (k2_off5 i v68) a + S264x1024.size a ≤ S4360x1024.size a := fun i v68 k2_hw2 => k2_hw2.2

def k2_off6 (i : grid2.Coords) : Fin 2 → Nat :=
  let arg0 : BitVec 32 := BitVec.ofNat 32 (i 0).val
  let v128 : Index := Scalar.indexCast arg0
  let c1_49 : Index := 1#32
  ![v128.toNat, 1]
def k2_mult3 (i : grid2.Coords) (v133 : BitVec 32) : BitVec 32 :=
  let arg1 : BitVec 32 := BitVec.ofNat 32 (i 1).val
  let c256_i32 : BitVec 32 := 256#32
  let v3 : BitVec 32 := Scalar.muli arg1 c256_i32
  let v134 : BitVec 32 := Scalar.addi v3 v133
  let c4096_i32_50 : BitVec 32 := 4096#32
  let v135 : BitVec 1 := Scalar.cmpi .sge v134 c4096_i32_50
  let c4096_i32_51 : BitVec 32 := 4096#32
  let v136 : BitVec 32 := Scalar.subi v134 c4096_i32_51
  let v137 : BitVec 32 := Scalar.select v135 v136 v134
  let c0_i32_53 : BitVec 32 := 0#32
  let v139 : BitVec 1 := Scalar.cmpi .sgt v137 c0_i32_53
  let v140 : BitVec 32 := Scalar.extui v139
  let c0_i32_54 : BitVec 32 := 0#32
  let v141 : BitVec 1 := Scalar.cmpi .slt v137 c0_i32_54
  let v142 : BitVec 32 := Scalar.extui v141
  let v143 : BitVec 32 := Scalar.subi v140 v142
  let c8_i32_52 : BitVec 32 := 8#32
  let c0_i32_55 : BitVec 32 := 0#32
  let v144 : BitVec 1 := Scalar.cmpi .sgt c8_i32_52 c0_i32_55
  let v145 : BitVec 32 := Scalar.extui v144
  let c0_i32_56 : BitVec 32 := 0#32
  let v146 : BitVec 1 := Scalar.cmpi .slt c8_i32_52 c0_i32_56
  let v147 : BitVec 32 := Scalar.extui v146
  let v148 : BitVec 32 := Scalar.subi v145 v147
  let v149 : BitVec 1 := Scalar.cmpi .ne v143 v148
  let v150 : BitVec 32 := Scalar.remsi v137 c8_i32_52
  let c0_i32_57 : BitVec 32 := 0#32
  let v151 : BitVec 1 := Scalar.cmpi .ne v150 c0_i32_57
  let v152 : BitVec 1 := Scalar.andi v149 v151
  let v138 : BitVec 32 := Scalar.divsi v137 c8_i32_52
  let c1_i32_58 : BitVec 32 := 1#32
  let v153 : BitVec 32 := Scalar.subi v138 c1_i32_58
  let v154 : BitVec 32 := Scalar.select v152 v153 v138
  let c8_i32_59 : BitVec 32 := 8#32
  let v155 : BitVec 32 := Scalar.muli v154 c8_i32_59
  v155

def k2_off7 (i : grid2.Coords) (v133 : BitVec 32) : Fin 2 → Nat :=
  let arg1 : BitVec 32 := BitVec.ofNat 32 (i 1).val
  let c256_i32 : BitVec 32 := 256#32
  let v3 : BitVec 32 := Scalar.muli arg1 c256_i32
  let v134 : BitVec 32 := Scalar.addi v3 v133
  let c4096_i32_50 : BitVec 32 := 4096#32
  let v135 : BitVec 1 := Scalar.cmpi .sge v134 c4096_i32_50
  let c4096_i32_51 : BitVec 32 := 4096#32
  let v136 : BitVec 32 := Scalar.subi v134 c4096_i32_51
  let v137 : BitVec 32 := Scalar.select v135 v136 v134
  let c0_i32_53 : BitVec 32 := 0#32
  let v139 : BitVec 1 := Scalar.cmpi .sgt v137 c0_i32_53
  let v140 : BitVec 32 := Scalar.extui v139
  let c0_i32_54 : BitVec 32 := 0#32
  let v141 : BitVec 1 := Scalar.cmpi .slt v137 c0_i32_54
  let v142 : BitVec 32 := Scalar.extui v141
  let v143 : BitVec 32 := Scalar.subi v140 v142
  let c8_i32_52 : BitVec 32 := 8#32
  let c0_i32_55 : BitVec 32 := 0#32
  let v144 : BitVec 1 := Scalar.cmpi .sgt c8_i32_52 c0_i32_55
  let v145 : BitVec 32 := Scalar.extui v144
  let c0_i32_56 : BitVec 32 := 0#32
  let v146 : BitVec 1 := Scalar.cmpi .slt c8_i32_52 c0_i32_56
  let v147 : BitVec 32 := Scalar.extui v146
  let v148 : BitVec 32 := Scalar.subi v145 v147
  let v149 : BitVec 1 := Scalar.cmpi .ne v143 v148
  let v150 : BitVec 32 := Scalar.remsi v137 c8_i32_52
  let c0_i32_57 : BitVec 32 := 0#32
  let v151 : BitVec 1 := Scalar.cmpi .ne v150 c0_i32_57
  let v152 : BitVec 1 := Scalar.andi v149 v151
  let v138 : BitVec 32 := Scalar.divsi v137 c8_i32_52
  let c1_i32_58 : BitVec 32 := 1#32
  let v153 : BitVec 32 := Scalar.subi v138 c1_i32_58
  let v154 : BitVec 32 := Scalar.select v152 v153 v138
  let c8_i32_59 : BitVec 32 := 8#32
  let v155 : BitVec 32 := Scalar.muli v154 c8_i32_59
  let v156 : BitVec 32 := v155
  let v158 : Index := Scalar.indexCast v156
  let c0_60 : Index := 0#32
  ![v158.toNat, 0]

def k2_chk3 (i : grid2.Coords) (v133 : BitVec 32) : Prop :=
  (8 ∣ (k2_mult3 i v133).toNat) ∧
  (∀ a, (k2_off7 i v133) a + S264x1024.size a ≤ S4360x1024.size a)
theorem k2_mult3_dvd : ∀ (i : grid2.Coords) (v133 : BitVec 32) (k2_hw3 : k2_chk3 i v133), 8 ∣ (k2_mult3 i v133).toNat := fun i v133 k2_hw3 => k2_hw3.1
theorem k2_off7_inb : ∀ (i : grid2.Coords) (v133 : BitVec 32) (k2_hw3 : k2_chk3 i v133), ∀ a, (k2_off7 i v133) a + S264x1024.size a ≤ S4360x1024.size a := fun i v133 k2_hw3 => k2_hw3.2

def k2_off8 (i : grid2.Coords) : Fin 2 → Nat :=
  let arg0 : BitVec 32 := BitVec.ofNat 32 (i 0).val
  let v193 : Index := Scalar.indexCast arg0
  let c2_76 : Index := 2#32
  ![v193.toNat, 2]
def k2_mult4 (i : grid2.Coords) (v198 : BitVec 32) : BitVec 32 :=
  let arg1 : BitVec 32 := BitVec.ofNat 32 (i 1).val
  let c256_i32 : BitVec 32 := 256#32
  let v3 : BitVec 32 := Scalar.muli arg1 c256_i32
  let v199 : BitVec 32 := Scalar.addi v3 v198
  let c4096_i32_77 : BitVec 32 := 4096#32
  let v200 : BitVec 1 := Scalar.cmpi .sge v199 c4096_i32_77
  let c4096_i32_78 : BitVec 32 := 4096#32
  let v201 : BitVec 32 := Scalar.subi v199 c4096_i32_78
  let v202 : BitVec 32 := Scalar.select v200 v201 v199
  let c0_i32_80 : BitVec 32 := 0#32
  let v204 : BitVec 1 := Scalar.cmpi .sgt v202 c0_i32_80
  let v205 : BitVec 32 := Scalar.extui v204
  let c0_i32_81 : BitVec 32 := 0#32
  let v206 : BitVec 1 := Scalar.cmpi .slt v202 c0_i32_81
  let v207 : BitVec 32 := Scalar.extui v206
  let v208 : BitVec 32 := Scalar.subi v205 v207
  let c8_i32_79 : BitVec 32 := 8#32
  let c0_i32_82 : BitVec 32 := 0#32
  let v209 : BitVec 1 := Scalar.cmpi .sgt c8_i32_79 c0_i32_82
  let v210 : BitVec 32 := Scalar.extui v209
  let c0_i32_83 : BitVec 32 := 0#32
  let v211 : BitVec 1 := Scalar.cmpi .slt c8_i32_79 c0_i32_83
  let v212 : BitVec 32 := Scalar.extui v211
  let v213 : BitVec 32 := Scalar.subi v210 v212
  let v214 : BitVec 1 := Scalar.cmpi .ne v208 v213
  let v215 : BitVec 32 := Scalar.remsi v202 c8_i32_79
  let c0_i32_84 : BitVec 32 := 0#32
  let v216 : BitVec 1 := Scalar.cmpi .ne v215 c0_i32_84
  let v217 : BitVec 1 := Scalar.andi v214 v216
  let v203 : BitVec 32 := Scalar.divsi v202 c8_i32_79
  let c1_i32_85 : BitVec 32 := 1#32
  let v218 : BitVec 32 := Scalar.subi v203 c1_i32_85
  let v219 : BitVec 32 := Scalar.select v217 v218 v203
  let c8_i32_86 : BitVec 32 := 8#32
  let v220 : BitVec 32 := Scalar.muli v219 c8_i32_86
  v220

def k2_off9 (i : grid2.Coords) (v198 : BitVec 32) : Fin 2 → Nat :=
  let arg1 : BitVec 32 := BitVec.ofNat 32 (i 1).val
  let c256_i32 : BitVec 32 := 256#32
  let v3 : BitVec 32 := Scalar.muli arg1 c256_i32
  let v199 : BitVec 32 := Scalar.addi v3 v198
  let c4096_i32_77 : BitVec 32 := 4096#32
  let v200 : BitVec 1 := Scalar.cmpi .sge v199 c4096_i32_77
  let c4096_i32_78 : BitVec 32 := 4096#32
  let v201 : BitVec 32 := Scalar.subi v199 c4096_i32_78
  let v202 : BitVec 32 := Scalar.select v200 v201 v199
  let c0_i32_80 : BitVec 32 := 0#32
  let v204 : BitVec 1 := Scalar.cmpi .sgt v202 c0_i32_80
  let v205 : BitVec 32 := Scalar.extui v204
  let c0_i32_81 : BitVec 32 := 0#32
  let v206 : BitVec 1 := Scalar.cmpi .slt v202 c0_i32_81
  let v207 : BitVec 32 := Scalar.extui v206
  let v208 : BitVec 32 := Scalar.subi v205 v207
  let c8_i32_79 : BitVec 32 := 8#32
  let c0_i32_82 : BitVec 32 := 0#32
  let v209 : BitVec 1 := Scalar.cmpi .sgt c8_i32_79 c0_i32_82
  let v210 : BitVec 32 := Scalar.extui v209
  let c0_i32_83 : BitVec 32 := 0#32
  let v211 : BitVec 1 := Scalar.cmpi .slt c8_i32_79 c0_i32_83
  let v212 : BitVec 32 := Scalar.extui v211
  let v213 : BitVec 32 := Scalar.subi v210 v212
  let v214 : BitVec 1 := Scalar.cmpi .ne v208 v213
  let v215 : BitVec 32 := Scalar.remsi v202 c8_i32_79
  let c0_i32_84 : BitVec 32 := 0#32
  let v216 : BitVec 1 := Scalar.cmpi .ne v215 c0_i32_84
  let v217 : BitVec 1 := Scalar.andi v214 v216
  let v203 : BitVec 32 := Scalar.divsi v202 c8_i32_79
  let c1_i32_85 : BitVec 32 := 1#32
  let v218 : BitVec 32 := Scalar.subi v203 c1_i32_85
  let v219 : BitVec 32 := Scalar.select v217 v218 v203
  let c8_i32_86 : BitVec 32 := 8#32
  let v220 : BitVec 32 := Scalar.muli v219 c8_i32_86
  let v221 : BitVec 32 := v220
  let v223 : Index := Scalar.indexCast v221
  let c0_87 : Index := 0#32
  ![v223.toNat, 0]

def k2_chk4 (i : grid2.Coords) (v198 : BitVec 32) : Prop :=
  (8 ∣ (k2_mult4 i v198).toNat) ∧
  (∀ a, (k2_off9 i v198) a + S264x1024.size a ≤ S4360x1024.size a)
theorem k2_mult4_dvd : ∀ (i : grid2.Coords) (v198 : BitVec 32) (k2_hw4 : k2_chk4 i v198), 8 ∣ (k2_mult4 i v198).toNat := fun i v198 k2_hw4 => k2_hw4.1
theorem k2_off9_inb : ∀ (i : grid2.Coords) (v198 : BitVec 32) (k2_hw4 : k2_chk4 i v198), ∀ a, (k2_off9 i v198) a + S264x1024.size a ≤ S4360x1024.size a := fun i v198 k2_hw4 => k2_hw4.2

def k2_off10 (i : grid2.Coords) : Fin 2 → Nat :=
  let arg0 : BitVec 32 := BitVec.ofNat 32 (i 0).val
  let v258 : Index := Scalar.indexCast arg0
  let c3_103 : Index := 3#32
  ![v258.toNat, 3]
def k2_mult5 (i : grid2.Coords) (v263 : BitVec 32) : BitVec 32 :=
  let arg1 : BitVec 32 := BitVec.ofNat 32 (i 1).val
  let c256_i32 : BitVec 32 := 256#32
  let v3 : BitVec 32 := Scalar.muli arg1 c256_i32
  let v264 : BitVec 32 := Scalar.addi v3 v263
  let c4096_i32_104 : BitVec 32 := 4096#32
  let v265 : BitVec 1 := Scalar.cmpi .sge v264 c4096_i32_104
  let c4096_i32_105 : BitVec 32 := 4096#32
  let v266 : BitVec 32 := Scalar.subi v264 c4096_i32_105
  let v267 : BitVec 32 := Scalar.select v265 v266 v264
  let c0_i32_107 : BitVec 32 := 0#32
  let v269 : BitVec 1 := Scalar.cmpi .sgt v267 c0_i32_107
  let v270 : BitVec 32 := Scalar.extui v269
  let c0_i32_108 : BitVec 32 := 0#32
  let v271 : BitVec 1 := Scalar.cmpi .slt v267 c0_i32_108
  let v272 : BitVec 32 := Scalar.extui v271
  let v273 : BitVec 32 := Scalar.subi v270 v272
  let c8_i32_106 : BitVec 32 := 8#32
  let c0_i32_109 : BitVec 32 := 0#32
  let v274 : BitVec 1 := Scalar.cmpi .sgt c8_i32_106 c0_i32_109
  let v275 : BitVec 32 := Scalar.extui v274
  let c0_i32_110 : BitVec 32 := 0#32
  let v276 : BitVec 1 := Scalar.cmpi .slt c8_i32_106 c0_i32_110
  let v277 : BitVec 32 := Scalar.extui v276
  let v278 : BitVec 32 := Scalar.subi v275 v277
  let v279 : BitVec 1 := Scalar.cmpi .ne v273 v278
  let v280 : BitVec 32 := Scalar.remsi v267 c8_i32_106
  let c0_i32_111 : BitVec 32 := 0#32
  let v281 : BitVec 1 := Scalar.cmpi .ne v280 c0_i32_111
  let v282 : BitVec 1 := Scalar.andi v279 v281
  let v268 : BitVec 32 := Scalar.divsi v267 c8_i32_106
  let c1_i32_112 : BitVec 32 := 1#32
  let v283 : BitVec 32 := Scalar.subi v268 c1_i32_112
  let v284 : BitVec 32 := Scalar.select v282 v283 v268
  let c8_i32_113 : BitVec 32 := 8#32
  let v285 : BitVec 32 := Scalar.muli v284 c8_i32_113
  v285

def k2_off11 (i : grid2.Coords) (v263 : BitVec 32) : Fin 2 → Nat :=
  let arg1 : BitVec 32 := BitVec.ofNat 32 (i 1).val
  let c256_i32 : BitVec 32 := 256#32
  let v3 : BitVec 32 := Scalar.muli arg1 c256_i32
  let v264 : BitVec 32 := Scalar.addi v3 v263
  let c4096_i32_104 : BitVec 32 := 4096#32
  let v265 : BitVec 1 := Scalar.cmpi .sge v264 c4096_i32_104
  let c4096_i32_105 : BitVec 32 := 4096#32
  let v266 : BitVec 32 := Scalar.subi v264 c4096_i32_105
  let v267 : BitVec 32 := Scalar.select v265 v266 v264
  let c0_i32_107 : BitVec 32 := 0#32
  let v269 : BitVec 1 := Scalar.cmpi .sgt v267 c0_i32_107
  let v270 : BitVec 32 := Scalar.extui v269
  let c0_i32_108 : BitVec 32 := 0#32
  let v271 : BitVec 1 := Scalar.cmpi .slt v267 c0_i32_108
  let v272 : BitVec 32 := Scalar.extui v271
  let v273 : BitVec 32 := Scalar.subi v270 v272
  let c8_i32_106 : BitVec 32 := 8#32
  let c0_i32_109 : BitVec 32 := 0#32
  let v274 : BitVec 1 := Scalar.cmpi .sgt c8_i32_106 c0_i32_109
  let v275 : BitVec 32 := Scalar.extui v274
  let c0_i32_110 : BitVec 32 := 0#32
  let v276 : BitVec 1 := Scalar.cmpi .slt c8_i32_106 c0_i32_110
  let v277 : BitVec 32 := Scalar.extui v276
  let v278 : BitVec 32 := Scalar.subi v275 v277
  let v279 : BitVec 1 := Scalar.cmpi .ne v273 v278
  let v280 : BitVec 32 := Scalar.remsi v267 c8_i32_106
  let c0_i32_111 : BitVec 32 := 0#32
  let v281 : BitVec 1 := Scalar.cmpi .ne v280 c0_i32_111
  let v282 : BitVec 1 := Scalar.andi v279 v281
  let v268 : BitVec 32 := Scalar.divsi v267 c8_i32_106
  let c1_i32_112 : BitVec 32 := 1#32
  let v283 : BitVec 32 := Scalar.subi v268 c1_i32_112
  let v284 : BitVec 32 := Scalar.select v282 v283 v268
  let c8_i32_113 : BitVec 32 := 8#32
  let v285 : BitVec 32 := Scalar.muli v284 c8_i32_113
  let v286 : BitVec 32 := v285
  let v288 : Index := Scalar.indexCast v286
  let c0_114 : Index := 0#32
  ![v288.toNat, 0]

def k2_chk5 (i : grid2.Coords) (v263 : BitVec 32) : Prop :=
  (8 ∣ (k2_mult5 i v263).toNat) ∧
  (∀ a, (k2_off11 i v263) a + S264x1024.size a ≤ S4360x1024.size a)
theorem k2_mult5_dvd : ∀ (i : grid2.Coords) (v263 : BitVec 32) (k2_hw5 : k2_chk5 i v263), 8 ∣ (k2_mult5 i v263).toNat := fun i v263 k2_hw5 => k2_hw5.1
theorem k2_off11_inb : ∀ (i : grid2.Coords) (v263 : BitVec 32) (k2_hw5 : k2_chk5 i v263), ∀ a, (k2_off11 i v263) a + S264x1024.size a ≤ S4360x1024.size a := fun i v263 k2_hw5 => k2_hw5.2

def k2_off12 (i : grid2.Coords) : Fin 2 → Nat :=
  let arg0 : BitVec 32 := BitVec.ofNat 32 (i 0).val
  let v323 : Index := Scalar.indexCast arg0
  let c4_130 : Index := 4#32
  ![v323.toNat, 4]
def k2_mult6 (i : grid2.Coords) (v328 : BitVec 32) : BitVec 32 :=
  let arg1 : BitVec 32 := BitVec.ofNat 32 (i 1).val
  let c256_i32 : BitVec 32 := 256#32
  let v3 : BitVec 32 := Scalar.muli arg1 c256_i32
  let v329 : BitVec 32 := Scalar.addi v3 v328
  let c4096_i32_131 : BitVec 32 := 4096#32
  let v330 : BitVec 1 := Scalar.cmpi .sge v329 c4096_i32_131
  let c4096_i32_132 : BitVec 32 := 4096#32
  let v331 : BitVec 32 := Scalar.subi v329 c4096_i32_132
  let v332 : BitVec 32 := Scalar.select v330 v331 v329
  let c0_i32_134 : BitVec 32 := 0#32
  let v334 : BitVec 1 := Scalar.cmpi .sgt v332 c0_i32_134
  let v335 : BitVec 32 := Scalar.extui v334
  let c0_i32_135 : BitVec 32 := 0#32
  let v336 : BitVec 1 := Scalar.cmpi .slt v332 c0_i32_135
  let v337 : BitVec 32 := Scalar.extui v336
  let v338 : BitVec 32 := Scalar.subi v335 v337
  let c8_i32_133 : BitVec 32 := 8#32
  let c0_i32_136 : BitVec 32 := 0#32
  let v339 : BitVec 1 := Scalar.cmpi .sgt c8_i32_133 c0_i32_136
  let v340 : BitVec 32 := Scalar.extui v339
  let c0_i32_137 : BitVec 32 := 0#32
  let v341 : BitVec 1 := Scalar.cmpi .slt c8_i32_133 c0_i32_137
  let v342 : BitVec 32 := Scalar.extui v341
  let v343 : BitVec 32 := Scalar.subi v340 v342
  let v344 : BitVec 1 := Scalar.cmpi .ne v338 v343
  let v345 : BitVec 32 := Scalar.remsi v332 c8_i32_133
  let c0_i32_138 : BitVec 32 := 0#32
  let v346 : BitVec 1 := Scalar.cmpi .ne v345 c0_i32_138
  let v347 : BitVec 1 := Scalar.andi v344 v346
  let v333 : BitVec 32 := Scalar.divsi v332 c8_i32_133
  let c1_i32_139 : BitVec 32 := 1#32
  let v348 : BitVec 32 := Scalar.subi v333 c1_i32_139
  let v349 : BitVec 32 := Scalar.select v347 v348 v333
  let c8_i32_140 : BitVec 32 := 8#32
  let v350 : BitVec 32 := Scalar.muli v349 c8_i32_140
  v350

def k2_off13 (i : grid2.Coords) (v328 : BitVec 32) : Fin 2 → Nat :=
  let arg1 : BitVec 32 := BitVec.ofNat 32 (i 1).val
  let c256_i32 : BitVec 32 := 256#32
  let v3 : BitVec 32 := Scalar.muli arg1 c256_i32
  let v329 : BitVec 32 := Scalar.addi v3 v328
  let c4096_i32_131 : BitVec 32 := 4096#32
  let v330 : BitVec 1 := Scalar.cmpi .sge v329 c4096_i32_131
  let c4096_i32_132 : BitVec 32 := 4096#32
  let v331 : BitVec 32 := Scalar.subi v329 c4096_i32_132
  let v332 : BitVec 32 := Scalar.select v330 v331 v329
  let c0_i32_134 : BitVec 32 := 0#32
  let v334 : BitVec 1 := Scalar.cmpi .sgt v332 c0_i32_134
  let v335 : BitVec 32 := Scalar.extui v334
  let c0_i32_135 : BitVec 32 := 0#32
  let v336 : BitVec 1 := Scalar.cmpi .slt v332 c0_i32_135
  let v337 : BitVec 32 := Scalar.extui v336
  let v338 : BitVec 32 := Scalar.subi v335 v337
  let c8_i32_133 : BitVec 32 := 8#32
  let c0_i32_136 : BitVec 32 := 0#32
  let v339 : BitVec 1 := Scalar.cmpi .sgt c8_i32_133 c0_i32_136
  let v340 : BitVec 32 := Scalar.extui v339
  let c0_i32_137 : BitVec 32 := 0#32
  let v341 : BitVec 1 := Scalar.cmpi .slt c8_i32_133 c0_i32_137
  let v342 : BitVec 32 := Scalar.extui v341
  let v343 : BitVec 32 := Scalar.subi v340 v342
  let v344 : BitVec 1 := Scalar.cmpi .ne v338 v343
  let v345 : BitVec 32 := Scalar.remsi v332 c8_i32_133
  let c0_i32_138 : BitVec 32 := 0#32
  let v346 : BitVec 1 := Scalar.cmpi .ne v345 c0_i32_138
  let v347 : BitVec 1 := Scalar.andi v344 v346
  let v333 : BitVec 32 := Scalar.divsi v332 c8_i32_133
  let c1_i32_139 : BitVec 32 := 1#32
  let v348 : BitVec 32 := Scalar.subi v333 c1_i32_139
  let v349 : BitVec 32 := Scalar.select v347 v348 v333
  let c8_i32_140 : BitVec 32 := 8#32
  let v350 : BitVec 32 := Scalar.muli v349 c8_i32_140
  let v351 : BitVec 32 := v350
  let v353 : Index := Scalar.indexCast v351
  let c0_141 : Index := 0#32
  ![v353.toNat, 0]

def k2_chk6 (i : grid2.Coords) (v328 : BitVec 32) : Prop :=
  (8 ∣ (k2_mult6 i v328).toNat) ∧
  (∀ a, (k2_off13 i v328) a + S264x1024.size a ≤ S4360x1024.size a)
theorem k2_mult6_dvd : ∀ (i : grid2.Coords) (v328 : BitVec 32) (k2_hw6 : k2_chk6 i v328), 8 ∣ (k2_mult6 i v328).toNat := fun i v328 k2_hw6 => k2_hw6.1
theorem k2_off13_inb : ∀ (i : grid2.Coords) (v328 : BitVec 32) (k2_hw6 : k2_chk6 i v328), ∀ a, (k2_off13 i v328) a + S264x1024.size a ≤ S4360x1024.size a := fun i v328 k2_hw6 => k2_hw6.2

def k2_off14 (i : grid2.Coords) : Fin 2 → Nat :=
  let arg0 : BitVec 32 := BitVec.ofNat 32 (i 0).val
  let v388 : Index := Scalar.indexCast arg0
  let c5_157 : Index := 5#32
  ![v388.toNat, 5]
def k2_mult7 (i : grid2.Coords) (v393 : BitVec 32) : BitVec 32 :=
  let arg1 : BitVec 32 := BitVec.ofNat 32 (i 1).val
  let c256_i32 : BitVec 32 := 256#32
  let v3 : BitVec 32 := Scalar.muli arg1 c256_i32
  let v394 : BitVec 32 := Scalar.addi v3 v393
  let c4096_i32_158 : BitVec 32 := 4096#32
  let v395 : BitVec 1 := Scalar.cmpi .sge v394 c4096_i32_158
  let c4096_i32_159 : BitVec 32 := 4096#32
  let v396 : BitVec 32 := Scalar.subi v394 c4096_i32_159
  let v397 : BitVec 32 := Scalar.select v395 v396 v394
  let c0_i32_161 : BitVec 32 := 0#32
  let v399 : BitVec 1 := Scalar.cmpi .sgt v397 c0_i32_161
  let v400 : BitVec 32 := Scalar.extui v399
  let c0_i32_162 : BitVec 32 := 0#32
  let v401 : BitVec 1 := Scalar.cmpi .slt v397 c0_i32_162
  let v402 : BitVec 32 := Scalar.extui v401
  let v403 : BitVec 32 := Scalar.subi v400 v402
  let c8_i32_160 : BitVec 32 := 8#32
  let c0_i32_163 : BitVec 32 := 0#32
  let v404 : BitVec 1 := Scalar.cmpi .sgt c8_i32_160 c0_i32_163
  let v405 : BitVec 32 := Scalar.extui v404
  let c0_i32_164 : BitVec 32 := 0#32
  let v406 : BitVec 1 := Scalar.cmpi .slt c8_i32_160 c0_i32_164
  let v407 : BitVec 32 := Scalar.extui v406
  let v408 : BitVec 32 := Scalar.subi v405 v407
  let v409 : BitVec 1 := Scalar.cmpi .ne v403 v408
  let v410 : BitVec 32 := Scalar.remsi v397 c8_i32_160
  let c0_i32_165 : BitVec 32 := 0#32
  let v411 : BitVec 1 := Scalar.cmpi .ne v410 c0_i32_165
  let v412 : BitVec 1 := Scalar.andi v409 v411
  let v398 : BitVec 32 := Scalar.divsi v397 c8_i32_160
  let c1_i32_166 : BitVec 32 := 1#32
  let v413 : BitVec 32 := Scalar.subi v398 c1_i32_166
  let v414 : BitVec 32 := Scalar.select v412 v413 v398
  let c8_i32_167 : BitVec 32 := 8#32
  let v415 : BitVec 32 := Scalar.muli v414 c8_i32_167
  v415

def k2_off15 (i : grid2.Coords) (v393 : BitVec 32) : Fin 2 → Nat :=
  let arg1 : BitVec 32 := BitVec.ofNat 32 (i 1).val
  let c256_i32 : BitVec 32 := 256#32
  let v3 : BitVec 32 := Scalar.muli arg1 c256_i32
  let v394 : BitVec 32 := Scalar.addi v3 v393
  let c4096_i32_158 : BitVec 32 := 4096#32
  let v395 : BitVec 1 := Scalar.cmpi .sge v394 c4096_i32_158
  let c4096_i32_159 : BitVec 32 := 4096#32
  let v396 : BitVec 32 := Scalar.subi v394 c4096_i32_159
  let v397 : BitVec 32 := Scalar.select v395 v396 v394
  let c0_i32_161 : BitVec 32 := 0#32
  let v399 : BitVec 1 := Scalar.cmpi .sgt v397 c0_i32_161
  let v400 : BitVec 32 := Scalar.extui v399
  let c0_i32_162 : BitVec 32 := 0#32
  let v401 : BitVec 1 := Scalar.cmpi .slt v397 c0_i32_162
  let v402 : BitVec 32 := Scalar.extui v401
  let v403 : BitVec 32 := Scalar.subi v400 v402
  let c8_i32_160 : BitVec 32 := 8#32
  let c0_i32_163 : BitVec 32 := 0#32
  let v404 : BitVec 1 := Scalar.cmpi .sgt c8_i32_160 c0_i32_163
  let v405 : BitVec 32 := Scalar.extui v404
  let c0_i32_164 : BitVec 32 := 0#32
  let v406 : BitVec 1 := Scalar.cmpi .slt c8_i32_160 c0_i32_164
  let v407 : BitVec 32 := Scalar.extui v406
  let v408 : BitVec 32 := Scalar.subi v405 v407
  let v409 : BitVec 1 := Scalar.cmpi .ne v403 v408
  let v410 : BitVec 32 := Scalar.remsi v397 c8_i32_160
  let c0_i32_165 : BitVec 32 := 0#32
  let v411 : BitVec 1 := Scalar.cmpi .ne v410 c0_i32_165
  let v412 : BitVec 1 := Scalar.andi v409 v411
  let v398 : BitVec 32 := Scalar.divsi v397 c8_i32_160
  let c1_i32_166 : BitVec 32 := 1#32
  let v413 : BitVec 32 := Scalar.subi v398 c1_i32_166
  let v414 : BitVec 32 := Scalar.select v412 v413 v398
  let c8_i32_167 : BitVec 32 := 8#32
  let v415 : BitVec 32 := Scalar.muli v414 c8_i32_167
  let v416 : BitVec 32 := v415
  let v418 : Index := Scalar.indexCast v416
  let c0_168 : Index := 0#32
  ![v418.toNat, 0]

def k2_chk7 (i : grid2.Coords) (v393 : BitVec 32) : Prop :=
  (8 ∣ (k2_mult7 i v393).toNat) ∧
  (∀ a, (k2_off15 i v393) a + S264x1024.size a ≤ S4360x1024.size a)
theorem k2_mult7_dvd : ∀ (i : grid2.Coords) (v393 : BitVec 32) (k2_hw7 : k2_chk7 i v393), 8 ∣ (k2_mult7 i v393).toNat := fun i v393 k2_hw7 => k2_hw7.1
theorem k2_off15_inb : ∀ (i : grid2.Coords) (v393 : BitVec 32) (k2_hw7 : k2_chk7 i v393), ∀ a, (k2_off15 i v393) a + S264x1024.size a ≤ S4360x1024.size a := fun i v393 k2_hw7 => k2_hw7.2

def k2_off16 (i : grid2.Coords) : Fin 2 → Nat :=
  let arg0 : BitVec 32 := BitVec.ofNat 32 (i 0).val
  let v453 : Index := Scalar.indexCast arg0
  let c6_184 : Index := 6#32
  ![v453.toNat, 6]
def k2_mult8 (i : grid2.Coords) (v458 : BitVec 32) : BitVec 32 :=
  let arg1 : BitVec 32 := BitVec.ofNat 32 (i 1).val
  let c256_i32 : BitVec 32 := 256#32
  let v3 : BitVec 32 := Scalar.muli arg1 c256_i32
  let v459 : BitVec 32 := Scalar.addi v3 v458
  let c4096_i32_185 : BitVec 32 := 4096#32
  let v460 : BitVec 1 := Scalar.cmpi .sge v459 c4096_i32_185
  let c4096_i32_186 : BitVec 32 := 4096#32
  let v461 : BitVec 32 := Scalar.subi v459 c4096_i32_186
  let v462 : BitVec 32 := Scalar.select v460 v461 v459
  let c0_i32_188 : BitVec 32 := 0#32
  let v464 : BitVec 1 := Scalar.cmpi .sgt v462 c0_i32_188
  let v465 : BitVec 32 := Scalar.extui v464
  let c0_i32_189 : BitVec 32 := 0#32
  let v466 : BitVec 1 := Scalar.cmpi .slt v462 c0_i32_189
  let v467 : BitVec 32 := Scalar.extui v466
  let v468 : BitVec 32 := Scalar.subi v465 v467
  let c8_i32_187 : BitVec 32 := 8#32
  let c0_i32_190 : BitVec 32 := 0#32
  let v469 : BitVec 1 := Scalar.cmpi .sgt c8_i32_187 c0_i32_190
  let v470 : BitVec 32 := Scalar.extui v469
  let c0_i32_191 : BitVec 32 := 0#32
  let v471 : BitVec 1 := Scalar.cmpi .slt c8_i32_187 c0_i32_191
  let v472 : BitVec 32 := Scalar.extui v471
  let v473 : BitVec 32 := Scalar.subi v470 v472
  let v474 : BitVec 1 := Scalar.cmpi .ne v468 v473
  let v475 : BitVec 32 := Scalar.remsi v462 c8_i32_187
  let c0_i32_192 : BitVec 32 := 0#32
  let v476 : BitVec 1 := Scalar.cmpi .ne v475 c0_i32_192
  let v477 : BitVec 1 := Scalar.andi v474 v476
  let v463 : BitVec 32 := Scalar.divsi v462 c8_i32_187
  let c1_i32_193 : BitVec 32 := 1#32
  let v478 : BitVec 32 := Scalar.subi v463 c1_i32_193
  let v479 : BitVec 32 := Scalar.select v477 v478 v463
  let c8_i32_194 : BitVec 32 := 8#32
  let v480 : BitVec 32 := Scalar.muli v479 c8_i32_194
  v480

def k2_off17 (i : grid2.Coords) (v458 : BitVec 32) : Fin 2 → Nat :=
  let arg1 : BitVec 32 := BitVec.ofNat 32 (i 1).val
  let c256_i32 : BitVec 32 := 256#32
  let v3 : BitVec 32 := Scalar.muli arg1 c256_i32
  let v459 : BitVec 32 := Scalar.addi v3 v458
  let c4096_i32_185 : BitVec 32 := 4096#32
  let v460 : BitVec 1 := Scalar.cmpi .sge v459 c4096_i32_185
  let c4096_i32_186 : BitVec 32 := 4096#32
  let v461 : BitVec 32 := Scalar.subi v459 c4096_i32_186
  let v462 : BitVec 32 := Scalar.select v460 v461 v459
  let c0_i32_188 : BitVec 32 := 0#32
  let v464 : BitVec 1 := Scalar.cmpi .sgt v462 c0_i32_188
  let v465 : BitVec 32 := Scalar.extui v464
  let c0_i32_189 : BitVec 32 := 0#32
  let v466 : BitVec 1 := Scalar.cmpi .slt v462 c0_i32_189
  let v467 : BitVec 32 := Scalar.extui v466
  let v468 : BitVec 32 := Scalar.subi v465 v467
  let c8_i32_187 : BitVec 32 := 8#32
  let c0_i32_190 : BitVec 32 := 0#32
  let v469 : BitVec 1 := Scalar.cmpi .sgt c8_i32_187 c0_i32_190
  let v470 : BitVec 32 := Scalar.extui v469
  let c0_i32_191 : BitVec 32 := 0#32
  let v471 : BitVec 1 := Scalar.cmpi .slt c8_i32_187 c0_i32_191
  let v472 : BitVec 32 := Scalar.extui v471
  let v473 : BitVec 32 := Scalar.subi v470 v472
  let v474 : BitVec 1 := Scalar.cmpi .ne v468 v473
  let v475 : BitVec 32 := Scalar.remsi v462 c8_i32_187
  let c0_i32_192 : BitVec 32 := 0#32
  let v476 : BitVec 1 := Scalar.cmpi .ne v475 c0_i32_192
  let v477 : BitVec 1 := Scalar.andi v474 v476
  let v463 : BitVec 32 := Scalar.divsi v462 c8_i32_187
  let c1_i32_193 : BitVec 32 := 1#32
  let v478 : BitVec 32 := Scalar.subi v463 c1_i32_193
  let v479 : BitVec 32 := Scalar.select v477 v478 v463
  let c8_i32_194 : BitVec 32 := 8#32
  let v480 : BitVec 32 := Scalar.muli v479 c8_i32_194
  let v481 : BitVec 32 := v480
  let v483 : Index := Scalar.indexCast v481
  let c0_195 : Index := 0#32
  ![v483.toNat, 0]

def k2_chk8 (i : grid2.Coords) (v458 : BitVec 32) : Prop :=
  (8 ∣ (k2_mult8 i v458).toNat) ∧
  (∀ a, (k2_off17 i v458) a + S264x1024.size a ≤ S4360x1024.size a)
theorem k2_mult8_dvd : ∀ (i : grid2.Coords) (v458 : BitVec 32) (k2_hw8 : k2_chk8 i v458), 8 ∣ (k2_mult8 i v458).toNat := fun i v458 k2_hw8 => k2_hw8.1
theorem k2_off17_inb : ∀ (i : grid2.Coords) (v458 : BitVec 32) (k2_hw8 : k2_chk8 i v458), ∀ a, (k2_off17 i v458) a + S264x1024.size a ≤ S4360x1024.size a := fun i v458 k2_hw8 => k2_hw8.2

def k2_off18 (i : grid2.Coords) : Fin 2 → Nat :=
  let arg0 : BitVec 32 := BitVec.ofNat 32 (i 0).val
  let v518 : Index := Scalar.indexCast arg0
  let c7_211 : Index := 7#32
  ![v518.toNat, 7]
def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .smem S8 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .smem S4x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S4x4096x16x64 : Shape := ⟨4, ![4, 4096, 16, 64]⟩
abbrev S1 : Shape := ⟨1, ![1]⟩
abbrev S4x16x64x4096 : Shape := ⟨4, ![4, 16, 64, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4x64x4096 : Shape := ⟨3, ![4, 64, 4096]⟩
abbrev S4x4096 : Shape := ⟨2, ![4, 4096]⟩
abbrev S8 : Shape := ⟨1, ![8]⟩
abbrev S8x1 : Shape := ⟨2, ![8, 1]⟩
abbrev S4x8 : Shape := ⟨2, ![4, 8]⟩
abbrev S4 : Shape := ⟨1, ![4]⟩
abbrev S4x1 : Shape := ⟨2, ![4, 1]⟩
abbrev S1x8 : Shape := ⟨2, ![1, 8]⟩
abbrev S4096x8 : Shape := ⟨2, ![4096, 8]⟩
abbrev S4096x8x1 : Shape := ⟨3, ![4096, 8, 1]⟩
abbrev S4x4096x8x16x64 : Shape := ⟨5, ![4, 4096, 8, 16, 64]⟩
abbrev S4x1x8x1x1 : Shape := ⟨5, ![4, 1, 8, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x16x64, .f32⟩
  | .hbm, ⟨3, _⟩ => ⟨S1, .i1⟩
  | .hbm, ⟨4, _⟩ => ⟨S4x16x64x4096, .f32⟩
  | .hbm, ⟨5, _⟩ => ⟨S4x16x64x4096, .f32⟩
  | .hbm, ⟨6, _⟩ => ⟨S4096, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x1, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4x16x64x4096, .f32⟩
  | .hbm, ⟨25, _⟩ => ⟨S4x16x64x4096, .f32⟩
  | .hbm, ⟨26, _⟩ => ⟨S4x16x64x4096, .f32⟩
  | .hbm, ⟨27, _⟩ => ⟨S4x16x64x4096, .f32⟩
  | .hbm, ⟨28, _⟩ => ⟨S4x16x64x4096, .f32⟩
  | .hbm, ⟨29, _⟩ => ⟨S4x16x64x4096, .f32⟩
  | .hbm, ⟨30, _⟩ => ⟨S4x16x64x4096, .f32⟩
  | .hbm, ⟨31, _⟩ => ⟨S4x16x64x4096, .f32⟩
  | .hbm, ⟨32, _⟩ => ⟨S4x16x64x4096, .f32⟩
  | .hbm, ⟨33, _⟩ => ⟨S4x16x64x4096, .f32⟩
  | .hbm, ⟨34, _⟩ => ⟨S4x16x64x4096, .f32⟩
  | .hbm, ⟨35, _⟩ => ⟨S4x16x64x4096, .f32⟩
  | .hbm, ⟨36, _⟩ => ⟨S4x16x64x4096, .f32⟩
  | .hbm, ⟨37, _⟩ => ⟨S4x16x64x4096, .f32⟩
  | .hbm, ⟨38, _⟩ => ⟨S4x16x64x4096, .f32⟩
  | .hbm, ⟨39, _⟩ => ⟨S_, .f32⟩
  | .hbm, ⟨40, _⟩ => ⟨S4x16x64x4096, .f32⟩
  | .hbm, ⟨41, _⟩ => ⟨S4x16x64x4096, .f32⟩
  | .hbm, ⟨42, _⟩ => ⟨S_, .f32⟩
  | .hbm, ⟨43, _⟩ => ⟨S4x64x4096, .f32⟩
  | .hbm, ⟨44, _⟩ => ⟨S_, .f32⟩
  | .hbm, ⟨45, _⟩ => ⟨S4x64x4096, .f32⟩
  | .hbm, ⟨46, _⟩ => ⟨S4x64x4096, .f32⟩
  | .hbm, ⟨47, _⟩ => ⟨S_, .f32⟩
  | .hbm, ⟨48, _⟩ => ⟨S4x4096, .f32⟩
  | .hbm, ⟨49, _⟩ => ⟨S_, .f32⟩
  | .hbm, ⟨50, _⟩ => ⟨S4x4096, .f32⟩
  | .hbm, ⟨51, _⟩ => ⟨S4x4096, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S8, .f32⟩
  | .hbm, ⟨58, _⟩ => ⟨S8, .i32⟩
  | .hbm, ⟨59, _⟩ => ⟨S8x1, .i32⟩
  | .hbm, ⟨60, _⟩ => ⟨S4x8, .f32⟩
  | .hbm, ⟨61, _⟩ => ⟨S_, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S4x1, .f32⟩
  | .hbm, ⟨67, _⟩ => ⟨S4x8, .f32⟩
  | .hbm, ⟨68, _⟩ => ⟨S4x8, .f32⟩
  | .hbm, ⟨69, _⟩ => ⟨S4x8, .f32⟩
  | .hbm, ⟨70, _⟩ => ⟨S_, .f32⟩
  | .hbm, ⟨71, _⟩ => ⟨S4, .f32⟩
  | .hbm, ⟨72, _⟩ => ⟨S4x1, .f32⟩
  | .hbm, ⟨73, _⟩ => ⟨S4x8, .f32⟩
  | .hbm, ⟨74, _⟩ => ⟨S4x8, .f32⟩
  | .hbm, ⟨75, _⟩ => ⟨S4096x1, .i32⟩
  | .hbm, ⟨76, _⟩ => ⟨S1x8, .i32⟩
  | .hbm, ⟨77, _⟩ => ⟨S4096x8, .i32⟩
  | .hbm, ⟨78, _⟩ => ⟨S4096x8, .i32⟩
  | .hbm, ⟨79, _⟩ => ⟨S4096x8, .i32⟩
  | .hbm, ⟨80, _⟩ => ⟨S_, .i32⟩
  | .hbm, ⟨81, _⟩ => ⟨S4096x8, .i32⟩
  | .hbm, ⟨82, _⟩ => ⟨S4096x8, .i32⟩
  | .hbm, ⟨83, _⟩ => ⟨S4096x8x1, .i32⟩
  | .hbm, ⟨84, _⟩ => ⟨S4x4096x8x16x64, .f32⟩
  | .hbm, ⟨85, _⟩ => ⟨S4x1x8x1x1, .f32⟩
  | .hbm, ⟨86, _⟩ => ⟨S4x4096x8x16x64, .f32⟩
  | .hbm, ⟨87, _⟩ => ⟨S4x4096x8x16x64, .f32⟩
  | .hbm, ⟨88, _⟩ => ⟨S_, .f32⟩
  | .hbm, ⟨89, _⟩ => ⟨S4x4096x16x64, .f32⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_values : Ref sig .tc := ⟨.hbm, 57, rfl⟩
abbrev main_indices : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== Proof.SameText.lean ====
/- The kernel and the idealized kernel are one program text, the two names of it: what is proved of the one, for every reading of the floats, holds of the other. -/
module

public import proofs.«01_k».proof.Proof.Gen.Kernel
public import proofs.«01_k».proof.Proof.Gen.KernelIdeal

@[expose] public section

set_option maxRecDepth 65536
set_option maxHeartbeats 0

noncomputable section

namespace Cert.SameText

open Idealize.ShloMosaic

variable {F : FTy → Type} [FloatOps F]

attribute [local instance] Cert.Kernel.Gen.facts Cert.KernelIdeal.Gen.facts

/-- The three bodies are the same. -/
theorem bodies : Cert.Kernel.defs₀ (F := F) = Cert.KernelIdeal.defs₀ (F := F) := by
  unfold Cert.Kernel.defs₀ Cert.KernelIdeal.defs₀
  refine congrArg Defs.onTc ?_
  funext ℓ a
  match ℓ, a with
  | 0, (t, s) => rfl
  | 1, (t, s) => rfl
  | 2, (t, s) => rfl

/-- The three calls are windowed in the same way. -/
theorem windows : Cert.Kernel.pcfgs (F := F) = Cert.KernelIdeal.pcfgs (F := F) := rfl

/-- The definitions that the programs run with are the same. -/
theorem defs : Cert.Kernel.defs (F := F) = Cert.KernelIdeal.defs (F := F) := by
  unfold Cert.Kernel.defs Cert.KernelIdeal.defs
  exact congrArg (Pipeline.defs (Cert.KernelIdeal.pcfgs (F := F))) bodies

/-- The host programs are the same. -/
theorem main : Cert.Kernel.main (F := F) = Cert.KernelIdeal.main (F := F) := rfl

end Cert.SameText

end
-- ==== Proof.KernelIdeal.Corr.lean ====
/- The first call (the correlation spectra), from any entry contents `V` of the buffers: the body run in its two
   cases (first block of a batch, later block), what its two results hold after each grid point, and the body obligation.  -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The kernel body on any staging memrefs: a subtype the run finds -/

abbrev VO0_6 : View sig .tc .vmem S1x64x64 .f32 := (Memref.whole cc0_stg6_0 : Memref sig .tc .vmem S1x64x64 .f32).view
abbrev VO0_7 : View sig .tc .vmem S1x64x64 .f32 := (Memref.whole cc0_stg7_0 : Memref sig .tc .vmem S1x64x64 .f32).view
abbrev ms0_0 (t : Fin cfg0.N) : Memref sig .tc .vmem S1x64x128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64x64 .f32 := win0_7.stage (cfg0.slots t 7)
abbrev hs0_7 (t : Fin cfg0.N) : (ms0_7 t).IsWhole := hstage0_7 ((cfg0.slots t 7).cast nbuf0_7)

set_option maxHeartbeats 1000000 in
noncomputable def kernelRun0_A (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) :
    Σ' (L6 : List (View.Piece (Elt F) S1x64x64 .f32)), { L7 : List (View.Piece (Elt F) S1x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__corr_body i arg2 harg2 arg3 harg3 arg4 harg4 arg5 harg5 arg6 harg6 arg7 harg7 arg8 harg8 arg9 harg9) K } := by
  refine ⟨?_, ?_, fun E K => ?run⟩
  case run =>
    simp only [cc0__corr_body_eq_skeleton]; unfold cc0__corr_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

theorem cover0_A_6 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) (y : S1x64x64.Idx) :
    ∃ pc ∈ (kernelRun0_A c i arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).1 S1x64x64.size (by sl_kernel_rfl) y

def out0_A_6 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) : Vec F S1x64x64 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4 x5).1)

theorem cover0_A_7 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) (y : S1x64x64.Idx) :
    ∃ pc ∈ (kernelRun0_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 x0 x1 x2 x3 x4 x5).2.1 S1x64x64.size (by sl_kernel_rfl) y

def out0_A_7 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) : Vec F S1x64x64 .f32 :=
  VO0_7.read (Elt F) (VO0_7.writes (Elt F) VO0_7.junk (kernelRun0_A c i arg2 harg2 arg3 harg3 arg4 harg4 arg5 harg5 arg6 harg6 arg7 harg7 arg8 harg8 arg9 harg9 hc0 x0 x1 x2 x3 x4 x5).2.1)

set_option maxHeartbeats 1000000 in
noncomputable def kernelRun0_B (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : ¬cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) (xo6 : Vec F S1x64x64 .f32) (xo7 : Vec F S1x64x64 .f32) :
    Σ' (L6 : List (View.Piece (Elt F) S1x64x64 .f32)), { L7 : List (View.Piece (Elt F) S1x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__corr_body i arg2 harg2 arg3 harg3 arg4 harg4 arg5 harg5 arg6 harg6 arg7 harg7 arg8 harg8 arg9 harg9) K } := by
  refine ⟨?_, ?_, fun E K => ?run⟩
  case run =>
    simp only [cc0__corr_body_eq_skeleton]; unfold cc0__corr_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

theorem cover0_B_6 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : ¬cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) (xo6 : Vec F S1x64x64 .f32) (xo7 : Vec F S1x64x64 .f32) (y : S1x64x64.Idx) :
    ∃ pc ∈ (kernelRun0_B c i arg2 harg2 arg3 harg3 arg4 harg4 arg5 harg5 arg6 harg6 arg7 harg7 arg8 harg8 arg9 harg9 hc0 x0 x1 x2 x3 x4 x5 xo6 xo7).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xo6 xo7).1 S1x64x64.size (by sl_kernel_rfl) y

def out0_B_6 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : ¬cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) (xo6 : Vec F S1x64x64 .f32) (xo7 : Vec F S1x64x64 .f32) : Vec F S1x64x64 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 x5 xo6 xo7).1)

theorem cover0_B_7 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : ¬cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) (xo6 : Vec F S1x64x64 .f32) (xo7 : Vec F S1x64x64 .f32) (y : S1x64x64.Idx) :
    ∃ pc ∈ (kernelRun0_B c i arg2 harg2 arg3 harg3 arg4 harg4 arg5 harg5 arg6 harg6 arg7 harg7 arg8 harg8 arg9 harg9 hc0 x0 x1 x2 x3 x4 x5 xo6 xo7).2.1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 xo6 xo7).2.1 S1x64x64.size (by sl_kernel_rfl) y

def out0_B_7 (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : ¬cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) (xo6 : Vec F S1x64x64 .f32) (xo7 : Vec F S1x64x64 .f32) : Vec F S1x64x64 .f32 :=
  VO0_7.read (Elt F) (VO0_7.writes (Elt F) VO0_7.junk (kernelRun0_B c i arg2 harg2 arg3 harg3 arg4 harg4 arg5 harg5 arg6 harg6 arg7 harg7 arg8 harg8 arg9 harg9 hc0 x0 x1 x2 x3 x4 x5 xo6 xo7).2.1)

/-! ## What the outputs hold after each point -/

def outsAt0 (c : Dev nD) : (n : ℕ) → n < cfg0.N → Vec F S1x64x64 .f32 × Vec F S1x64x64 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 8 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).1 (outsAt0 c n (Nat.lt_of_succ_lt hn)).2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).1 (outsAt0 c n (Nat.lt_of_succ_lt hn)).2)

theorem outsAt0_A (c : Dev nD) (t : Fin cfg0.N) (h0 : t.val % 8 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).1 (outsAt0 V c (t.val - 1) (Nat.lt_of_le_of_lt (Nat.sub_le _ _) t.isLt)).2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6_B (c : Dev nD) (t : Fin cfg0.N) (h0 : ¬t.val % 8 = 0) (d) :
    (dat0 V c).before 6 t d = (outsAt0 V c (t.val - 1) (Nat.lt_of_le_of_lt (Nat.sub_le _ _) t.isLt)).1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dat0]
theorem before0_7_B (c : Dev nD) (t : Fin cfg0.N) (h0 : ¬t.val % 8 = 0) (d) :
    (dat0 V c).before 7 t d = (outsAt0 V c (t.val - 1) (Nat.lt_of_le_of_lt (Nat.sub_le _ _) t.isLt)).2 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  have hN : t.val < 32 := lt_of_lt_of_eq t.isLt (show cfg0.N = 32 from N_0)
  by_cases h0 : t.val % 8 = 0
  · rw [outsAt0_A V c t h0]
    unfold out0_A_6 out0_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _ _)
  · rw [outsAt0_B V c t h0]
    simp only [before0_6_B V c t h0, before0_7_B V c t h0]
    unfold out0_B_6 out0_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _)
    unfold owns; iexists _; isplitr
    swap; · iexact H7
    ipureintro; exact View.read_writes_of_cover _ _ _ _ _ (cover0_B_7 c _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Cert.KernelIdeal.Run

end
-- ==== Proof.KernelIdeal.TopK.lean ====
/- The second call (inverse transform and selection), from any entry contents `V` of the buffers: the body run, what
   its two results hold, and the body obligation.  -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

abbrev VO1_6 : View sig .tc .smem S8 .i32 := (Memref.whole cc1_stg6_0 : Memref sig .tc .smem S8 .i32).view
abbrev VO1_7 : View sig .tc .smem S4x8 .f32 := (Memref.whole cc1_stg7_0 : Memref sig .tc .smem S4x8 .f32).view
abbrev ms1_0 (t : Fin cfg1.N) : Memref sig .tc .vmem S4x64x64 .f32 := win1_0.stage (cfg1.slots t 0)
abbrev hs1_0 (t : Fin cfg1.N) : (ms1_0 t).IsWhole := hstage1_0 0
abbrev ms1_1 (t : Fin cfg1.N) : Memref sig .tc .vmem S4x64x64 .f32 := win1_1.stage (cfg1.slots t 1)
abbrev hs1_1 (t : Fin cfg1.N) : (ms1_1 t).IsWhole := hstage1_1 0
abbrev ms1_2 (t : Fin cfg1.N) : Memref sig .tc .vmem S64x64 .f32 := win1_2.stage (cfg1.slots t 2)
abbrev hs1_2 (t : Fin cfg1.N) : (ms1_2 t).IsWhole := hstage1_2 0
abbrev ms1_3 (t : Fin cfg1.N) : Memref sig .tc .vmem S64x64 .f32 := win1_3.stage (cfg1.slots t 3)
abbrev hs1_3 (t : Fin cfg1.N) : (ms1_3 t).IsWhole := hstage1_3 0
abbrev ms1_4 (t : Fin cfg1.N) : Memref sig .tc .vmem S64x64 .f32 := win1_4.stage (cfg1.slots t 4)
abbrev hs1_4 (t : Fin cfg1.N) : (ms1_4 t).IsWhole := hstage1_4 0
abbrev ms1_5 (t : Fin cfg1.N) : Memref sig .tc .vmem S64x64 .f32 := win1_5.stage (cfg1.slots t 5)
abbrev hs1_5 (t : Fin cfg1.N) : (ms1_5 t).IsWhole := hstage1_5 0
abbrev ms1_6 (t : Fin cfg1.N) : Memref sig .tc .smem S8 .i32 := win1_6.stage (cfg1.slots t 6)
abbrev hs1_6 (t : Fin cfg1.N) : (ms1_6 t).IsWhole := hstage1_6 0
abbrev ms1_7 (t : Fin cfg1.N) : Memref sig .tc .smem S4x8 .f32 := win1_7.stage (cfg1.slots t 7)
abbrev hs1_7 (t : Fin cfg1.N) : (ms1_7 t).IsWhole := hstage1_7 0

set_option maxHeartbeats 1000000 in
noncomputable def kernelRun1_A (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .smem S8 .i32) (harg6 : arg6.IsWhole) (arg7 : Memref sig .tc .smem S4x8 .f32) (harg7 : arg7.IsWhole)
    (x0 : Vec F S4x64x64 .f32) (x1 : Vec F S4x64x64 .f32) (x2 : Vec F S64x64 .f32) (x3 : Vec F S64x64 .f32) (x4 : Vec F S64x64 .f32) (x5 : Vec F S64x64 .f32) :
    Σ' (L6 : List (View.Piece (Elt F) S8 .i32)), { L7 : List (View.Piece (Elt F) S4x8 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc1__topk_body arg0 harg0 arg1 harg1 arg2 harg2 arg3 harg3 arg4 harg4 arg5 harg5 arg6 harg6 arg7 harg7) K } := by
  refine ⟨?_, ?_, fun E K => ?run⟩
  case run =>
    simp only [cc1__topk_body_eq_skeleton]; unfold cc1__topk_body_skel
    simp only [k1_part13_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

theorem cover1_A_6 (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .smem S8 .i32) (harg6 : arg6.IsWhole) (arg7 : Memref sig .tc .smem S4x8 .f32) (harg7 : arg7.IsWhole)
    (x0 : Vec F S4x64x64 .f32) (x1 : Vec F S4x64x64 .f32) (x2 : Vec F S64x64 .f32) (x3 : Vec F S64x64 .f32) (x4 : Vec F S64x64 .f32) (x5 : Vec F S64x64 .f32) (y : S8.Idx) :
    ∃ pc ∈ (kernelRun1_A c arg0 harg0 arg1 harg1 arg2 harg2 arg3 harg3 arg4 harg4 arg5 harg5 arg6 harg6 arg7 harg7 x0 x1 x2 x3 x4 x5).1, y ∈ pc.1.set :=
  View.cover_of_tiledL (kernelRun1_A c arg0 harg0 arg1 harg1 arg2 harg2 arg3 harg3 arg4 harg4 arg5 harg5 arg6 harg6 arg7 harg7 x0 x1 x2 x3 x4 x5).1 S1.size (by sl_kernel_rfl) y

def out1_A_6 (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .smem S8 .i32) (harg6 : arg6.IsWhole) (arg7 : Memref sig .tc .smem S4x8 .f32) (harg7 : arg7.IsWhole)
    (x0 : Vec F S4x64x64 .f32) (x1 : Vec F S4x64x64 .f32) (x2 : Vec F S64x64 .f32) (x3 : Vec F S64x64 .f32) (x4 : Vec F S64x64 .f32) (x5 : Vec F S64x64 .f32) : Vec F S8 .i32 :=
  VO1_6.read (Elt F) (VO1_6.writes (Elt F) VO1_6.junk (kernelRun1_A c arg0 harg0 arg1 harg1 arg2 harg2 arg3 harg3 arg4 harg4 arg5 harg5 arg6 harg6 arg7 harg7 x0 x1 x2 x3 x4 x5).1)

theorem cover1_A_7 (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .smem S8 .i32) (harg6 : arg6.IsWhole) (arg7 : Memref sig .tc .smem S4x8 .f32) (harg7 : arg7.IsWhole)
    (x0 : Vec F S4x64x64 .f32) (x1 : Vec F S4x64x64 .f32) (x2 : Vec F S64x64 .f32) (x3 : Vec F S64x64 .f32) (x4 : Vec F S64x64 .f32) (x5 : Vec F S64x64 .f32) (y : S4x8.Idx) :
    ∃ pc ∈ (kernelRun1_A c arg0 harg0 arg1 harg1 arg2 harg2 arg3 harg3 arg4 harg4 arg5 harg5 arg6 harg6 arg7 harg7 x0 x1 x2 x3 x4 x5).2.1, y ∈ pc.1.set :=
  View.cover_of_tiledL (kernelRun1_A c arg0 harg0 arg1 harg1 arg2 harg2 arg3 harg3 arg4 harg4 arg5 harg5 arg6 harg6 arg7 harg7 x0 x1 x2 x3 x4 x5).2.1 S1x1.size (by sl_kernel_rfl) y

def out1_A_7 (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .smem S8 .i32) (harg6 : arg6.IsWhole) (arg7 : Memref sig .tc .smem S4x8 .f32) (harg7 : arg7.IsWhole)
    (x0 : Vec F S4x64x64 .f32) (x1 : Vec F S4x64x64 .f32) (x2 : Vec F S64x64 .f32) (x3 : Vec F S64x64 .f32) (x4 : Vec F S64x64 .f32) (x5 : Vec F S64x64 .f32) : Vec F S4x8 .f32 :=
  VO1_7.read (Elt F) (VO1_7.writes (Elt F) VO1_7.junk (kernelRun1_A c arg0 harg0 arg1 harg1 arg2 harg2 arg3 harg3 arg4 harg4 arg5 harg5 arg6 harg6 arg7 harg7 x0 x1 x2 x3 x4 x5).2.1)

/-! ## What the outputs hold after each point -/

def outsAt1 (c : Dev nD) (t : Fin cfg1.N) : Vec F S8 .i32 × Vec F S4x8 .f32 :=
  (out1_A_6 c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t), out1_A_7 c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t))

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t).1
    | ⟨7, _⟩ => (outsAt1 V c t).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t).1 := by dsimp only [dat1]
theorem after1_7 (c : Dev nD) (t : Fin cfg1.N) : (dat1 V c).after 7 t = (outsAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold outsAt1
  unfold out1_A_6 out1_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c _ _ _ _ _ _ _ _ _ _ _ _ _ _ _ _ (iblk1 V c 0 t) (iblk1 V c 1 t) (iblk1 V c 2 t) (iblk1 V c 3 t) (iblk1 V c 4 t) (iblk1 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover1_A_6 c _ _ _ _ _ _ _ _ _ _ _ _ _ _ _ _ _ _ _ _ _ _)
  unfold owns; iexists _; isplitr
  swap; · iexact H7
  ipureintro; exact View.read_writes_of_cover _ _ _ _ _ (cover1_A_7 c _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdeal.Boundaries.lean ====
/- The contents of the buffers at each boundary of the program, up to the third call.  -/
module

public import proofs.«01_k».proof.Proof.KernelIdeal.Corr
public import proofs.«01_k».proof.Proof.KernelIdeal.TopK
public import proofs.«01_k».proof.Proof.Gen.KernelIdeal.Regions
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The argument arrays. -/
abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_cst, main_v7, main_cst_0, main_v8, main_v9, main_v10, main_cst_1, main_v11, main_v12, main_v13, main_v14, main_cst_2, main_v15, main_v16, main_v17, main_v18, main_v19, main_v20, main_v21, main_v22, main_v23, main_v24, main_v25, main_v26]
theorem hostOps0_writes : (hostOps0 : List (HloOp τ sig (Elt F))).Forall fun op => op.writes ⊆ (hostOps0_W.map (Proc.devRef (τ := τ) .tc)).toFinset :=
  StableHlo.forall_writes_sub_of_map rfl
/-- The host operations before the first call write no argument. -/
theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_cst_3, main_v29, main_cst_4, main_v30, main_v31, main_v32, main_v33, main_v34, main_v35, main_cst_5, main_v36, main_v37, main_v38, main_v39, main_v40]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v42]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

variable (m : (ℓ : Loc nD τ sig) → Buf (Elt F) ℓ) (ρ : Dev nD → PrngReg)

/-- The contents at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The contents at the first call's entry. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The contents at the first call's exit: its results as it leaves them, all else unchanged. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The contents at the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The contents at the third call's entry. -/
abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
abbrev V4 : (c : Dev nD) → (b : Ref sig .tc) → Buf (Elt F) ((c : Thread nD τ).loc b) := fun c b => W4 m ρ c b

end Cert.KernelIdeal.Run

end
-- ==== Proof.KernelIdeal.AggRun.lean ====
/- The third call (aggregation), from any entry contents `V` of the buffers: the windows, the range conditions its body
   assumes, and the body run in its two cases.  -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := k2_cond1 i = 1#1
theorem hcond2_0 : ∀ t : Fin cfg2.N, cond2_0 (grid2.coords t) ↔ t.val % 16 = 0 :=
  (fun t => by
    have ht : t.val < 64 := Nat.lt_of_lt_of_eq t.isLt N_2
    have e0 : (grid2.coords t 0).val = t.val / 16 % 4 := Pipeline.Grid.coords_val t 0 (by decide) rfl
    have e1 : (grid2.coords t 1).val = t.val / 1 % 16 := Pipeline.Grid.coords_val t 1 (by decide) rfl
    simp only [cond2_0, k2_cond1, e0, e1]
    word_cmp
   : ∀ t : Fin grid2.N, cond2_0 (grid2.coords t) ↔ t.val % 16 = 0)

abbrev VO2_2 : View sig .tc .vmem S1x256x1024 .f32 := (Memref.whole cc2_stg2_0 : Memref sig .tc .vmem S1x256x1024 .f32).view
abbrev ms2_0 (t : Fin cfg2.N) : Memref sig .tc .smem S8 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S4x8 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x1024 .f32 := win2_2.stage (cfg2.slots t 2)
abbrev hs2_2 (t : Fin cfg2.N) : (ms2_2 t).IsWhole := hstage2_2 ((cfg2.slots t 2).cast nbuf2_2)

/-- The range conditions on the eight loaded indices, at every grid point. -/
def Hyps : Prop :=
  ∀ (c : Dev nD) (t : Fin cfg2.N),
    k2_chk1 (grid2.coords t) ((ms2_0 t).view.readAt (Elt F) (Rect.unit (s := S8) ![0] S1.size inb_S8_S1_0).toLoadRect ((hs2_0 t).unread (iblk2 V c 0 t)) (Shape.Idx.first (numel1_S1.symm ▸ Nat.one_pos)))
    ∧ k2_chk2 (grid2.coords t) ((ms2_0 t).view.readAt (Elt F) (Rect.unit (s := S8) ![1] S1.size inb_S8_S1_1).toLoadRect ((hs2_0 t).unread (iblk2 V c 0 t)) (Shape.Idx.first (numel1_S1.symm ▸ Nat.one_pos)))
    ∧ k2_chk3 (grid2.coords t) ((ms2_0 t).view.readAt (Elt F) (Rect.unit (s := S8) ![2] S1.size inb_S8_S1_2).toLoadRect ((hs2_0 t).unread (iblk2 V c 0 t)) (Shape.Idx.first (numel1_S1.symm ▸ Nat.one_pos)))
    ∧ k2_chk4 (grid2.coords t) ((ms2_0 t).view.readAt (Elt F) (Rect.unit (s := S8) ![3] S1.size inb_S8_S1_3).toLoadRect ((hs2_0 t).unread (iblk2 V c 0 t)) (Shape.Idx.first (numel1_S1.symm ▸ Nat.one_pos)))
    ∧ k2_chk5 (grid2.coords t) ((ms2_0 t).view.readAt (Elt F) (Rect.unit (s := S8) ![4] S1.size inb_S8_S1_4).toLoadRect ((hs2_0 t).unread (iblk2 V c 0 t)) (Shape.Idx.first (numel1_S1.symm ▸ Nat.one_pos)))
    ∧ k2_chk6 (grid2.coords t) ((ms2_0 t).view.readAt (Elt F) (Rect.unit (s := S8) ![5] S1.size inb_S8_S1_5).toLoadRect ((hs2_0 t).unread (iblk2 V c 0 t)) (Shape.Idx.first (numel1_S1.symm ▸ Nat.one_pos)))
    ∧ k2_chk7 (grid2.coords t) ((ms2_0 t).view.readAt (Elt F) (Rect.unit (s := S8) ![6] S1.size inb_S8_S1_6).toLoadRect ((hs2_0 t).unread (iblk2 V c 0 t)) (Shape.Idx.first (numel1_S1.symm ▸ Nat.one_pos)))
    ∧ k2_chk8 (grid2.coords t) ((ms2_0 t).view.readAt (Elt F) (Rect.unit (s := S8) ![7] S1.size inb_S8_S1_7).toLoadRect ((hs2_0 t).unread (iblk2 V c 0 t)) (Shape.Idx.first (numel1_S1.symm ▸ Nat.one_pos)))

abbrev Hyps.p0 (c : Dev nD) (t : Fin cfg2.N) : Prop :=
  k2_chk1 (grid2.coords t) ((ms2_0 t).view.readAt (Elt F) (Rect.unit (s := S8) ![0] S1.size inb_S8_S1_0).toLoadRect ((hs2_0 t).unread (iblk2 V c 0 t)) (Shape.Idx.first (numel1_S1.symm ▸ Nat.one_pos)))
variable {V} in
theorem Hyps.c0 (hH : Hyps V) (c : Dev nD) (t : Fin cfg2.N) :
    k2_chk1 (grid2.coords t) ((ms2_0 t).view.readAt (Elt F) (Rect.unit (s := S8) ![0] S1.size inb_S8_S1_0).toLoadRect ((hs2_0 t).unread (iblk2 V c 0 t)) (Shape.Idx.first (numel1_S1.symm ▸ Nat.one_pos))) := (hH c t).1
abbrev Hyps.p1 (c : Dev nD) (t : Fin cfg2.N) : Prop :=
  k2_chk2 (grid2.coords t) ((ms2_0 t).view.readAt (Elt F) (Rect.unit (s := S8) ![1] S1.size inb_S8_S1_1).toLoadRect ((hs2_0 t).unread (iblk2 V c 0 t)) (Shape.Idx.first (numel1_S1.symm ▸ Nat.one_pos)))
variable {V} in
theorem Hyps.c1 (hH : Hyps V) (c : Dev nD) (t : Fin cfg2.N) :
    k2_chk2 (grid2.coords t) ((ms2_0 t).view.readAt (Elt F) (Rect.unit (s := S8) ![1] S1.size inb_S8_S1_1).toLoadRect ((hs2_0 t).unread (iblk2 V c 0 t)) (Shape.Idx.first (numel1_S1.symm ▸ Nat.one_pos))) := (hH c t).2.1
abbrev Hyps.p2 (c : Dev nD) (t : Fin cfg2.N) : Prop :=
  k2_chk3 (grid2.coords t) ((ms2_0 t).view.readAt (Elt F) (Rect.unit (s := S8) ![2] S1.size inb_S8_S1_2).toLoadRect ((hs2_0 t).unread (iblk2 V c 0 t)) (Shape.Idx.first (numel1_S1.symm ▸ Nat.one_pos)))
variable {V} in
theorem Hyps.c2 (hH : Hyps V) (c : Dev nD) (t : Fin cfg2.N) :
    k2_chk3 (grid2.coords t) ((ms2_0 t).view.readAt (Elt F) (Rect.unit (s := S8) ![2] S1.size inb_S8_S1_2).toLoadRect ((hs2_0 t).unread (iblk2 V c 0 t)) (Shape.Idx.first (numel1_S1.symm ▸ Nat.one_pos))) := (hH c t).2.2.1
abbrev Hyps.p3 (c : Dev nD) (t : Fin cfg2.N) : Prop :=
  k2_chk4 (grid2.coords t) ((ms2_0 t).view.readAt (Elt F) (Rect.unit (s := S8) ![3] S1.size inb_S8_S1_3).toLoadRect ((hs2_0 t).unread (iblk2 V c 0 t)) (Shape.Idx.first (numel1_S1.symm ▸ Nat.one_pos)))
variable {V} in
theorem Hyps.c3 (hH : Hyps V) (c : Dev nD) (t : Fin cfg2.N) :
    k2_chk4 (grid2.coords t) ((ms2_0 t).view.readAt (Elt F) (Rect.unit (s := S8) ![3] S1.size inb_S8_S1_3).toLoadRect ((hs2_0 t).unread (iblk2 V c 0 t)) (Shape.Idx.first (numel1_S1.symm ▸ Nat.one_pos))) := (hH c t).2.2.2.1
abbrev Hyps.p4 (c : Dev nD) (t : Fin cfg2.N) : Prop :=
  k2_chk5 (grid2.coords t) ((ms2_0 t).view.readAt (Elt F) (Rect.unit (s := S8) ![4] S1.size inb_S8_S1_4).toLoadRect ((hs2_0 t).unread (iblk2 V c 0 t)) (Shape.Idx.first (numel1_S1.symm ▸ Nat.one_pos)))
variable {V} in
theorem Hyps.c4 (hH : Hyps V) (c : Dev nD) (t : Fin cfg2.N) :
    k2_chk5 (grid2.coords t) ((ms2_0 t).view.readAt (Elt F) (Rect.unit (s := S8) ![4] S1.size inb_S8_S1_4).toLoadRect ((hs2_0 t).unread (iblk2 V c 0 t)) (Shape.Idx.first (numel1_S1.symm ▸ Nat.one_pos))) := (hH c t).2.2.2.2.1
abbrev Hyps.p5 (c : Dev nD) (t : Fin cfg2.N) : Prop :=
  k2_chk6 (grid2.coords t) ((ms2_0 t).view.readAt (Elt F) (Rect.unit (s := S8) ![5] S1.size inb_S8_S1_5).toLoadRect ((hs2_0 t).unread (iblk2 V c 0 t)) (Shape.Idx.first (numel1_S1.symm ▸ Nat.one_pos)))
variable {V} in
theorem Hyps.c5 (hH : Hyps V) (c : Dev nD) (t : Fin cfg2.N) :
    k2_chk6 (grid2.coords t) ((ms2_0 t).view.readAt (Elt F) (Rect.unit (s := S8) ![5] S1.size inb_S8_S1_5).toLoadRect ((hs2_0 t).unread (iblk2 V c 0 t)) (Shape.Idx.first (numel1_S1.symm ▸ Nat.one_pos))) := (hH c t).2.2.2.2.2.1
abbrev Hyps.p6 (c : Dev nD) (t : Fin cfg2.N) : Prop :=
  k2_chk7 (grid2.coords t) ((ms2_0 t).view.readAt (Elt F) (Rect.unit (s := S8) ![6] S1.size inb_S8_S1_6).toLoadRect ((hs2_0 t).unread (iblk2 V c 0 t)) (Shape.Idx.first (numel1_S1.symm ▸ Nat.one_pos)))
variable {V} in
theorem Hyps.c6 (hH : Hyps V) (c : Dev nD) (t : Fin cfg2.N) :
    k2_chk7 (grid2.coords t) ((ms2_0 t).view.readAt (Elt F) (Rect.unit (s := S8) ![6] S1.size inb_S8_S1_6).toLoadRect ((hs2_0 t).unread (iblk2 V c 0 t)) (Shape.Idx.first (numel1_S1.symm ▸ Nat.one_pos))) := (hH c t).2.2.2.2.2.2.1
abbrev Hyps.p7 (c : Dev nD) (t : Fin cfg2.N) : Prop :=
  k2_chk8 (grid2.coords t) ((ms2_0 t).view.readAt (Elt F) (Rect.unit (s := S8) ![7] S1.size inb_S8_S1_7).toLoadRect ((hs2_0 t).unread (iblk2 V c 0 t)) (Shape.Idx.first (numel1_S1.symm ▸ Nat.one_pos)))
variable {V} in
theorem Hyps.c7 (hH : Hyps V) (c : Dev nD) (t : Fin cfg2.N) :
    k2_chk8 (grid2.coords t) ((ms2_0 t).view.readAt (Elt F) (Rect.unit (s := S8) ![7] S1.size inb_S8_S1_7).toLoadRect ((hs2_0 t).unread (iblk2 V c 0 t)) (Shape.Idx.first (numel1_S1.symm ▸ Nat.one_pos))) := (hH c t).2.2.2.2.2.2.2
variable {V} in
theorem Hyps.of
    (p0 : ∀ (c : Dev nD) (t : Fin cfg2.N), Hyps.p0 V c t)
    (p1 : ∀ (c : Dev nD) (t : Fin cfg2.N), Hyps.p1 V c t)
    (p2 : ∀ (c : Dev nD) (t : Fin cfg2.N), Hyps.p2 V c t)
    (p3 : ∀ (c : Dev nD) (t : Fin cfg2.N), Hyps.p3 V c t)
    (p4 : ∀ (c : Dev nD) (t : Fin cfg2.N), Hyps.p4 V c t)
    (p5 : ∀ (c : Dev nD) (t : Fin cfg2.N), Hyps.p5 V c t)
    (p6 : ∀ (c : Dev nD) (t : Fin cfg2.N), Hyps.p6 V c t)
    (p7 : ∀ (c : Dev nD) (t : Fin cfg2.N), Hyps.p7 V c t) :
    Hyps V := fun c t =>
  And.intro (p0 c t) (And.intro (p1 c t) (And.intro (p2 c t) (And.intro (p3 c t) (And.intro (p4 c t) (And.intro (p5 c t) (And.intro (p6 c t) (p7 c t)))))))

/-- The scratch holding one batch of the values (its first rows repeated at the end), carried from point to point. -/
abbrev scM2_0 : Memref sig .tc .vmem S4360x1024 .f32 := Memref.whole cc2_scratch0
abbrev VS2_0 : View sig .tc .vmem S4360x1024 .f32 := scM2_0.view
/-- The values, from which the body copies a batch into the scratch itself. -/
abbrev hbM2_0 : Memref sig .tc .hbm S4x4096x1024 .f32 := Memref.whole main_v40
abbrev HbBuf2 (c : Dev nD) {sp : Space} {S : Shape} {e : EltTy} (M : Memref sig .tc sp S e) : Type := Buf (Elt F) (M.view.loc (c : Thread nD τ))
abbrev hbPt2 (c : Dev nD) {sp : Space} {S : Shape} {e : EltTy} (M : Memref sig .tc sp S e) (f : HbBuf2 (F := F) c M) : sProp 𝕄 :=
  M.view.loc (c : Thread nD τ) ↦{fullShare} f

abbrev osem2 : Fin 2 → SemLoc sig := fun j => (![SemLoc.dma 24, SemLoc.dma 25] : Fin 2 → SemLoc sig) j
theorem ownSemFacts2 : Pipeline.OwnSemFacts spec2 osem2 := by decide
theorem ownSems02_eq (c : Dev nD) :
    (Pipeline.ownSems0 (Ix := Unit) (Name := ℕ) (U := Pipeline.UD sig nD τ) (Lvl := ℕ) (Val := Elt F) (τ := τ) osem2 c : sProp 𝕄)
      = iprop(semVal ((c : Thread nD τ), SemLoc.dma 24) 0 ∗ semVal ((c : Thread nD τ), SemLoc.dma 25) 0) := by
  rw [Pipeline.ownSems0_eq_of_list c osem2 [0, 1] (by decide) (by decide)]; rfl
def H2 : Finset (Ref sig .tc) := {main_v40}
theorem H2_sub : H2 ⊆ Pipeline.restRefs sig spec2 := by decide
theorem hbmPts2_eq (c : Dev nD) :
    (bigSep H2 (fun b => ((c : Thread nD τ).loc b) ↦{fullShare} V c b) : sProp 𝕄) = iprop(hbPt2 c hbM2_0 (V c main_v40)) := by
  rw [BI.bigSep_eq_bigSepL_of_eq [main_v40] (by decide) (by decide)]; rfl

theorem PhiD2_eq (c : Dev nD) :
    (Pipeline.ΦD osem2 spec2 H2 V c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ d, owns (c : Thread nD τ) scM2_0 fullShare d) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f)) ∗ (∃ r, prngReg c r) ∗ iprop(semVal ((c : Thread nD τ), SemLoc.dma 24) 0 ∗ semVal ((c : Thread nD τ), SemLoc.dma 25) 0) ∗ iprop(hbPt2 c hbM2_0 (V c main_v40))) := by
  rw [Pipeline.ΦD_eq, scopedRest2_eq, ownSems02_eq, hbmPts2_eq]; simp only [scM2_0, owns_whole]; try rfl

set_option maxHeartbeats 1232000 in
/-- The body at the first block of a batch: it copies the batch in, then stores one block of the result. The lists say
what is written to the result's buffer and to the scratch. -/
noncomputable def kernelRun2_A (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) :
    Σ' (L2 : List (View.Piece (Elt F) S1x256x1024 .f32)), { LS0 : List (View.Piece (Elt F) S4360x1024 .f32) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d) ∗ owns (c : Thread nD τ) arg6 fullShare xs0 ∗ semVal ((c : Thread nD τ), SemLoc.dma 24) 0 ∗ semVal ((c : Thread nD τ), SemLoc.dma 25) 0 ∗ hbPt2 c hbM2_0 fh0 ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ semVal ((c : Thread nD τ), SemLoc.dma 24) 0 ∗ semVal ((c : Thread nD τ), SemLoc.dma 25) 0 ∗ hbPt2 c hbM2_0 fh0 ∗ (∃ W', owes (c : Thread nD τ) 0 W')) -∗ K ⟨⟩))
          ⊢ wp frame (wpE (defs₀ (F := F)) Variants.none c none) Set.univ (cc2__agg_body i arg2 harg2 arg3 harg3 (Memref.whole main_v40) (Memref.isWhole_whole _) arg5 harg5 arg6 harg6 cc2_scratch1 cc2_scratch2) K } := by
  refine ⟨?_, ?_, fun W K => ?run⟩
  case run =>
    simp only [cc2__agg_body_eq_skeleton]; unfold cc2__agg_body_skel
    simp only [k2_part13_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton]
    unfold owns
    iintro ⟨⟨%f0, %hf0, H0⟩, ⟨%f1, %hf1, H1⟩, ⟨%d2, %f2, -, H2⟩, ⟨%fs0, %hfs0, HS0⟩, Hq0, Hq1, Hh0, HW, Hk⟩
    obtain rfl := harg2.eq_unread hf0; obtain rfl := harg3.eq_unread hf1; obtain rfl := harg6.eq_unread hfs0
    set_option sl_exec.lendShare "Hh0" in set_option sl_exec.dmaWindow true in set_option sl_exec.dmaWindowSet true in sl_exec (disch := first | sl_exact hc0 | sl_exact k2_hw1 | sl_exact k2_hw2 | sl_exact k2_hw3 | sl_exact k2_hw4 | sl_exact k2_hw5 | sl_exact k2_hw6 | sl_exact k2_hw7 | sl_exact k2_hw8)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [Hq0]; · iexact Hq0
    isplitl [Hq1]; · iexact Hq1
    isplitl [Hh0]; · iexact Hh0
    iexists _; iexact HW

theorem cover2_A_2 (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) (y : S1x256x1024.Idx) :
    ∃ pc ∈ (kernelRun2_A c i arg2 harg2 arg3 harg3 arg5 harg5 arg6 harg6 hc0 x0 x1 xs0 fh0 k2_hw1 k2_hw2 k2_hw3 k2_hw4 k2_hw5 k2_hw6 k2_hw7 k2_hw8).1, y ∈ pc.1.set :=
  View.cover_of_tiledL (kernelRun2_A c i arg2 harg2 arg3 harg3 arg5 harg5 arg6 harg6 hc0 x0 x1 xs0 fh0 k2_hw1 k2_hw2 k2_hw3 k2_hw4 k2_hw5 k2_hw6 k2_hw7 k2_hw8).1 S1x256x1024.size (by sl_kernel_rfl) y

def out2_A_2 (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) : Vec F S1x256x1024 .f32 :=
  VO2_2.read (Elt F) (VO2_2.writes (Elt F) VO2_2.junk (kernelRun2_A c i arg2 harg2 arg3 harg3 arg5 harg5 arg6 harg6 hc0 x0 x1 xs0 fh0 k2_hw1 k2_hw2 k2_hw3 k2_hw4 k2_hw5 k2_hw6 k2_hw7 k2_hw8).1)

theorem scover2_A_0 (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) (y : S4360x1024.Idx) :
    ∃ pc ∈ (kernelRun2_A c i arg2 harg2 arg3 harg3 arg5 harg5 arg6 harg6 hc0 x0 x1 xs0 fh0 k2_hw1 k2_hw2 k2_hw3 k2_hw4 k2_hw5 k2_hw6 k2_hw7 k2_hw8).2.1, y ∈ pc.1.set :=
  View.cover_of_tiledBy (kernelRun2_A c i arg2 harg2 arg3 harg3 arg5 harg5 arg6 harg6 hc0 x0 x1 xs0 fh0 k2_hw1 k2_hw2 k2_hw3 k2_hw4 k2_hw5 k2_hw6 k2_hw7 k2_hw8).2.1 ![8, 1024] (by sl_kernel_rfl) y

def sout2_A_0 (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) : Vec F S4360x1024 .f32 :=
  VS2_0.read (Elt F) (VS2_0.writes (Elt F) VS2_0.junk (kernelRun2_A c i arg2 harg2 arg3 harg3 arg5 harg5 arg6 harg6 hc0 x0 x1 xs0 fh0 k2_hw1 k2_hw2 k2_hw3 k2_hw4 k2_hw5 k2_hw6 k2_hw7 k2_hw8).2.1)

set_option maxHeartbeats 1168000 in
/-- The body at a later block: the scratch keeps its contents. -/
noncomputable def kernelRun2_B (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : ¬cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) :
    Σ' (L2 : List (View.Piece (Elt F) S1x256x1024 .f32)), { LS0 : List (View.Piece (Elt F) S4360x1024 .f32) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d) ∗ owns (c : Thread nD τ) arg6 fullShare xs0 ∗ semVal ((c : Thread nD τ), SemLoc.dma 24) 0 ∗ semVal ((c : Thread nD τ), SemLoc.dma 25) 0 ∗ hbPt2 c hbM2_0 fh0 ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L2) ∗ owns (c : Thread nD τ) arg6 fullShare xs0 ∗ semVal ((c : Thread nD τ), SemLoc.dma 24) 0 ∗ semVal ((c : Thread nD τ), SemLoc.dma 25) 0 ∗ hbPt2 c hbM2_0 fh0 ∗ (∃ W', owes (c : Thread nD τ) 0 W')) -∗ K ⟨⟩))
          ⊢ wp frame (wpE (defs₀ (F := F)) Variants.none c none) Set.univ (cc2__agg_body i arg2 harg2 arg3 harg3 (Memref.whole main_v40) (Memref.isWhole_whole _) arg5 harg5 arg6 harg6 cc2_scratch1 cc2_scratch2) K } := by
  refine ⟨?_, [], fun W K => ?run⟩
  case run =>
    simp only [cc2__agg_body_eq_skeleton]; unfold cc2__agg_body_skel
    simp only [k2_part13_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton]
    unfold owns
    iintro ⟨⟨%f0, %hf0, H0⟩, ⟨%f1, %hf1, H1⟩, ⟨%d2, %f2, -, H2⟩, ⟨%fs0, %hfs0, HS0⟩, Hq0, Hq1, Hh0, HW, Hk⟩
    obtain rfl := harg2.eq_unread hf0; obtain rfl := harg3.eq_unread hf1; obtain rfl := harg6.eq_unread hfs0
    sl_exec (disch := first | sl_exact hc0 | sl_exact k2_hw1 | sl_exact k2_hw2 | sl_exact k2_hw3 | sl_exact k2_hw4 | sl_exact k2_hw5 | sl_exact k2_hw6 | sl_exact k2_hw7 | sl_exact k2_hw8)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _; isplitr; · ipureintro; exact harg6.read_unread _
      iexact HS0
    isplitl [Hq0]; · iexact Hq0
    isplitl [Hq1]; · iexact Hq1
    isplitl [Hh0]; · iexact Hh0
    iexists _; iexact HW

theorem cover2_B_2 (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : ¬cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) (y : S1x256x1024.Idx) :
    ∃ pc ∈ (kernelRun2_B c i arg2 harg2 arg3 harg3 arg5 harg5 arg6 harg6 hc0 x0 x1 xs0 fh0 k2_hw1 k2_hw2 k2_hw3 k2_hw4 k2_hw5 k2_hw6 k2_hw7 k2_hw8).1, y ∈ pc.1.set :=
  View.cover_of_tiledL (kernelRun2_B c i arg2 harg2 arg3 harg3 arg5 harg5 arg6 harg6 hc0 x0 x1 xs0 fh0 k2_hw1 k2_hw2 k2_hw3 k2_hw4 k2_hw5 k2_hw6 k2_hw7 k2_hw8).1 S1x256x1024.size (by sl_kernel_rfl) y

def out2_B_2 (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : ¬cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) : Vec F S1x256x1024 .f32 :=
  VO2_2.read (Elt F) (VO2_2.writes (Elt F) VO2_2.junk (kernelRun2_B c i arg2 harg2 arg3 harg3 arg5 harg5 arg6 harg6 hc0 x0 x1 xs0 fh0 k2_hw1 k2_hw2 k2_hw3 k2_hw4 k2_hw5 k2_hw6 k2_hw7 k2_hw8).1)

def sout2_B_0 (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : ¬cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) : Vec F S4360x1024 .f32 := xs0

end Cert.KernelIdeal.Run

end
-- ==== Proof.KernelIdeal.Agg.lean ====
/- The third call (aggregation): its contents point by point and the body's obligation.  -/
module

public import proofs.«01_k».proof.Proof.KernelIdeal.AggRun
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What the scratch held before the first block of a batch does not matter. -/
theorem out2_A_2_any (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : cond2_0 i)
    (x0 : Vec F S8 .i32) (x1 : Vec F S4x8 .f32) (xs0 xs1 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) :
    out2_A_2 c i arg2 harg2 arg3 harg3 arg5 harg5 arg6 harg6 hc0 x0 x1 xs0 fh0 k2_hw1 k2_hw2 k2_hw3 k2_hw4 k2_hw5 k2_hw6 k2_hw7 k2_hw8 = out2_A_2 c i arg2 harg2 arg3 harg3 arg5 harg5 arg6 harg6 hc0 x0 x1 xs1 fh0 k2_hw1 k2_hw2 k2_hw3 k2_hw4 k2_hw5 k2_hw6 k2_hw7 k2_hw8 := by
  unfold out2_A_2 kernelRun2_A; rfl

/-- What the scratch held before the first block of a batch does not matter. -/
theorem sout2_A_0_any (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : cond2_0 i)
    (x0 : Vec F S8 .i32) (x1 : Vec F S4x8 .f32) (xs0 xs1 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) :
    sout2_A_0 c i arg2 harg2 arg3 harg3 arg5 harg5 arg6 harg6 hc0 x0 x1 xs0 fh0 k2_hw1 k2_hw2 k2_hw3 k2_hw4 k2_hw5 k2_hw6 k2_hw7 k2_hw8 = sout2_A_0 c i arg2 harg2 arg3 harg3 arg5 harg5 arg6 harg6 hc0 x0 x1 xs1 fh0 k2_hw1 k2_hw2 k2_hw3 k2_hw4 k2_hw5 k2_hw6 k2_hw7 k2_hw8 := by
  unfold sout2_A_0 kernelRun2_A; rfl

/-- What the result's buffer and the scratch hold after the point at position `n`. -/
def outsAt2 (hH : Hyps V) (c : Dev nD) : (n : ℕ) → n < cfg2.N → Vec F S1x256x1024 .f32 × Vec F S4360x1024 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (iblk2 V c 0 ⟨0, hn⟩) (iblk2 V c 1 ⟨0, hn⟩) ((VO2_2.read (Elt F) VO2_2.junk, VS2_0.read (Elt F) VS2_0.junk) : Vec F S1x256x1024 .f32 × Vec F S4360x1024 .f32).2 (V c main_v40) (Hyps.c0 hH c ⟨0, hn⟩) (Hyps.c1 hH c ⟨0, hn⟩) (Hyps.c2 hH c ⟨0, hn⟩) (Hyps.c3 hH c ⟨0, hn⟩) (Hyps.c4 hH c ⟨0, hn⟩) (Hyps.c5 hH c ⟨0, hn⟩) (Hyps.c6 hH c ⟨0, hn⟩) (Hyps.c7 hH c ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (iblk2 V c 0 ⟨0, hn⟩) (iblk2 V c 1 ⟨0, hn⟩) ((VO2_2.read (Elt F) VO2_2.junk, VS2_0.read (Elt F) VS2_0.junk) : Vec F S1x256x1024 .f32 × Vec F S4360x1024 .f32).2 (V c main_v40) (Hyps.c0 hH c ⟨0, hn⟩) (Hyps.c1 hH c ⟨0, hn⟩) (Hyps.c2 hH c ⟨0, hn⟩) (Hyps.c3 hH c ⟨0, hn⟩) (Hyps.c4 hH c ⟨0, hn⟩) (Hyps.c5 hH c ⟨0, hn⟩) (Hyps.c6 hH c ⟨0, hn⟩) (Hyps.c7 hH c ⟨0, hn⟩))
  | n + 1, hn =>
    if h0 : (n + 1) % 16 = 0 then
      (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (iblk2 V c 0 ⟨n + 1, hn⟩) (iblk2 V c 1 ⟨n + 1, hn⟩) (outsAt2 hH c n (Nat.lt_of_succ_lt hn)).2 (V c main_v40) (Hyps.c0 hH c ⟨n + 1, hn⟩) (Hyps.c1 hH c ⟨n + 1, hn⟩) (Hyps.c2 hH c ⟨n + 1, hn⟩) (Hyps.c3 hH c ⟨n + 1, hn⟩) (Hyps.c4 hH c ⟨n + 1, hn⟩) (Hyps.c5 hH c ⟨n + 1, hn⟩) (Hyps.c6 hH c ⟨n + 1, hn⟩) (Hyps.c7 hH c ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (iblk2 V c 0 ⟨n + 1, hn⟩) (iblk2 V c 1 ⟨n + 1, hn⟩) (outsAt2 hH c n (Nat.lt_of_succ_lt hn)).2 (V c main_v40) (Hyps.c0 hH c ⟨n + 1, hn⟩) (Hyps.c1 hH c ⟨n + 1, hn⟩) (Hyps.c2 hH c ⟨n + 1, hn⟩) (Hyps.c3 hH c ⟨n + 1, hn⟩) (Hyps.c4 hH c ⟨n + 1, hn⟩) (Hyps.c5 hH c ⟨n + 1, hn⟩) (Hyps.c6 hH c ⟨n + 1, hn⟩) (Hyps.c7 hH c ⟨n + 1, hn⟩))
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (outsAt2 hH c n (Nat.lt_of_succ_lt hn)).2 (V c main_v40) (Hyps.c0 hH c ⟨n + 1, hn⟩) (Hyps.c1 hH c ⟨n + 1, hn⟩) (Hyps.c2 hH c ⟨n + 1, hn⟩) (Hyps.c3 hH c ⟨n + 1, hn⟩) (Hyps.c4 hH c ⟨n + 1, hn⟩) (Hyps.c5 hH c ⟨n + 1, hn⟩) (Hyps.c6 hH c ⟨n + 1, hn⟩) (Hyps.c7 hH c ⟨n + 1, hn⟩), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (outsAt2 hH c n (Nat.lt_of_succ_lt hn)).2 (V c main_v40) (Hyps.c0 hH c ⟨n + 1, hn⟩) (Hyps.c1 hH c ⟨n + 1, hn⟩) (Hyps.c2 hH c ⟨n + 1, hn⟩) (Hyps.c3 hH c ⟨n + 1, hn⟩) (Hyps.c4 hH c ⟨n + 1, hn⟩) (Hyps.c5 hH c ⟨n + 1, hn⟩) (Hyps.c6 hH c ⟨n + 1, hn⟩) (Hyps.c7 hH c ⟨n + 1, hn⟩))

/-- `outsAt2` at the first block of a batch, whatever the scratch held before. -/
theorem outsAt2_A_any (hH : Hyps V) (c : Dev nD) (t : Fin cfg2.N) (h0 : t.val % 16 = 0) (xs : Vec F S4360x1024 .f32) :
    outsAt2 V hH c t.val t.isLt = (out2_A_2 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t) xs (V c main_v40) (Hyps.c0 hH c t) (Hyps.c1 hH c t) (Hyps.c2 hH c t) (Hyps.c3 hH c t) (Hyps.c4 hH c t) (Hyps.c5 hH c t) (Hyps.c6 hH c t) (Hyps.c7 hH c t), sout2_A_0 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t) xs (V c main_v40) (Hyps.c0 hH c t) (Hyps.c1 hH c t) (Hyps.c2 hH c t) (Hyps.c3 hH c t) (Hyps.c4 hH c t) (Hyps.c5 hH c t) (Hyps.c6 hH c t) (Hyps.c7 hH c t)) := by
  obtain ⟨n, hn⟩ := t
  cases n with
  | zero => unfold outsAt2; exact congrArg₂ Prod.mk (out2_A_2_any _ _ _ _ _ _ _ _ _ _ _ _ _ _ _ _ _ _ _ _ _ _ _ _) (sout2_A_0_any _ _ _ _ _ _ _ _ _ _ _ _ _ _ _ _ _ _ _ _ _ _ _ _)
  | succ n => unfold outsAt2; rw [dif_pos h0]; exact congrArg₂ Prod.mk (out2_A_2_any _ _ _ _ _ _ _ _ _ _ _ _ _ _ _ _ _ _ _ _ _ _ _ _) (sout2_A_0_any _ _ _ _ _ _ _ _ _ _ _ _ _ _ _ _ _ _ _ _ _ _ _ _)

/-- `outsAt2` at the first block of a batch. -/
theorem outsAt2_A (hH : Hyps V) (c : Dev nD) (t : Fin cfg2.N) (h0 : t.val % 16 = 0) :
    outsAt2 V hH c t.val t.isLt = (out2_A_2 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t) (outsAt2 V hH c (t.val - 1) (Nat.lt_of_le_of_lt (Nat.sub_le _ _) t.isLt)).2 (V c main_v40) (Hyps.c0 hH c t) (Hyps.c1 hH c t) (Hyps.c2 hH c t) (Hyps.c3 hH c t) (Hyps.c4 hH c t) (Hyps.c5 hH c t) (Hyps.c6 hH c t) (Hyps.c7 hH c t), sout2_A_0 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t) (outsAt2 V hH c (t.val - 1) (Nat.lt_of_le_of_lt (Nat.sub_le _ _) t.isLt)).2 (V c main_v40) (Hyps.c0 hH c t) (Hyps.c1 hH c t) (Hyps.c2 hH c t) (Hyps.c3 hH c t) (Hyps.c4 hH c t) (Hyps.c5 hH c t) (Hyps.c6 hH c t) (Hyps.c7 hH c t)) :=
  outsAt2_A_any V hH c t h0 _

/-- `outsAt2` at a later block. -/
theorem outsAt2_B (hH : Hyps V) (c : Dev nD) (t : Fin cfg2.N) (h0 : ¬t.val % 16 = 0) :
    outsAt2 V hH c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) (outsAt2 V hH c (t.val - 1) (Nat.lt_of_le_of_lt (Nat.sub_le _ _) t.isLt)).2 (V c main_v40) (Hyps.c0 hH c t) (Hyps.c1 hH c t) (Hyps.c2 hH c t) (Hyps.c3 hH c t) (Hyps.c4 hH c t) (Hyps.c5 hH c t) (Hyps.c6 hH c t) (Hyps.c7 hH c t), sout2_B_0 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) (outsAt2 V hH c (t.val - 1) (Nat.lt_of_le_of_lt (Nat.sub_le _ _) t.isLt)).2 (V c main_v40) (Hyps.c0 hH c t) (Hyps.c1 hH c t) (Hyps.c2 hH c t) (Hyps.c3 hH c t) (Hyps.c4 hH c t) (Hyps.c5 hH c t) (Hyps.c6 hH c t) (Hyps.c7 hH c t)) := by
  obtain ⟨n, hn⟩ := t
  cases n with
  | zero => exact (by exfalso; (try dsimp only at h0); exact absurd (Nat.zero_mod _) h0)
  | succ n => exact (dif_neg h0).trans rfl

/-- The invariant before position `n`: at the start the scratch holds anything, later what the point before left. -/
def PhiS (hH : Hyps V) (c : Dev nD) : (n : ℕ) → n ≤ cfg2.N → sProp 𝕄
  | 0, _ => Pipeline.ΦD osem2 spec2 H2 V c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ owns (c : Thread nD τ) scM2_0 fullShare ((outsAt2 V hH c n hn).2) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f)) ∗ (∃ r, prngReg c r) ∗ iprop(semVal ((c : Thread nD τ), SemLoc.dma 24) 0 ∗ semVal ((c : Thread nD τ), SemLoc.dma 25) 0) ∗ iprop(hbPt2 c hbM2_0 (V c main_v40)))

theorem PhiS_zero (hH : Hyps V) (c : Dev nD) (n : ℕ) (h : n ≤ cfg2.N) (hz : n = 0) : PhiS V hH c n h = Pipeline.ΦD osem2 spec2 H2 V c := by
  subst hz; rfl

theorem PhiS_succ (hH : Hyps V) (c : Dev nD) (n : ℕ) (hn : n < cfg2.N) :
    PhiS V hH c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ owns (c : Thread nD τ) scM2_0 fullShare ((outsAt2 V hH c n hn).2) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f)) ∗ (∃ r, prngReg c r) ∗ iprop(semVal ((c : Thread nD τ), SemLoc.dma 24) 0 ∗ semVal ((c : Thread nD τ), SemLoc.dma 25) 0) ∗ iprop(hbPt2 c hbM2_0 (V c main_v40))) := rfl

theorem PhiS_pos (hH : Hyps V) (c : Dev nD) (n : ℕ) (h : n ≤ cfg2.N) (hz : n ≠ 0) :
    PhiS V hH c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ owns (c : Thread nD τ) scM2_0 fullShare ((outsAt2 V hH c (n - 1) (by omega)).2) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f)) ∗ (∃ r, prngReg c r) ∗ iprop(semVal ((c : Thread nD τ), SemLoc.dma 24) 0 ∗ semVal ((c : Thread nD τ), SemLoc.dma 25) 0) ∗ iprop(hbPt2 c hbM2_0 (V c main_v40))) := by
  cases n with
  | zero => exact absurd rfl hz
  | succ n => rfl

/-- The proof data of the third call on core `c`. -/
def dat2 (hH : Hyps V) (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V hH c t.val t.isLt).1
  Φ t := PhiS V hH c t.val (Nat.le_of_lt_succ t.isLt)
  q _ := fullShare
  owed _ := 0

theorem A_eq2 (hH : Hyps V) (c : Dev nD) (w : Fin cfg2.W) : (dat2 V hH c).A w = V c (Pipeline.arrRef spec2 w) := by
  dsimp only [dat2]

theorem PhiS_castSucc (hH : Hyps V) (c : Dev nD) (t : Fin cfg2.N) :
    (dat2 V hH c).Φ t.castSucc = PhiS V hH c t.val (Nat.le_of_lt t.isLt) := by
  dsimp only [dat2]; exact Pipeline.Dat.Φ_castSucc (PhiS V hH c) t

theorem after2_0 (hH : Hyps V) (c : Dev nD) (t : Fin cfg2.N) : (dat2 V hH c).after 0 t = iblk2 V c 0 t := by dsimp only [dat2]
theorem after2_1 (hH : Hyps V) (c : Dev nD) (t : Fin cfg2.N) : (dat2 V hH c).after 1 t = iblk2 V c 1 t := by dsimp only [dat2]
theorem after2_2 (hH : Hyps V) (c : Dev nD) (t : Fin cfg2.N) : (dat2 V hH c).after 2 t = (outsAt2 V hH c t.val t.isLt).1 := by dsimp only [dat2]

theorem before2_0 (hH : Hyps V) (c : Dev nD) (t : Fin cfg2.N) (d) : (dat2 V hH c).before 0 t d = iblk2 V c 0 t :=
  before2_0_of V (dat2 V hH c) (A_eq2 V hH c 0) (after2_0 V hH c) t d
theorem before2_1 (hH : Hyps V) (c : Dev nD) (t : Fin cfg2.N) (d) : (dat2 V hH c).before 1 t d = iblk2 V c 1 t :=
  before2_1_of V (dat2 V hH c) (A_eq2 V hH c 1) (after2_1 V hH c) t d

def bodyPre2 (hH : Hyps V) (c : Dev nD) (t : Fin cfg2.N) : sProp 𝕄 :=
  iprop((dat2 V hH c).Φ t.castSucc ∗ (dat2 V hH c).owesAt () t.castSucc
    ∗ (∃ d, owns (c : Thread nD τ) (ms2_0 t) fullShare ((dat2 V hH c).before 0 t d))
    ∗ (∃ d, owns (c : Thread nD τ) (ms2_1 t) fullShare ((dat2 V hH c).before 1 t d))
    ∗ (∃ d, owns (c : Thread nD τ) (ms2_2 t) fullShare ((dat2 V hH c).before 2 t d)))

def bodyPost2 (hH : Hyps V) (c : Dev nD) (t : Fin cfg2.N) : sProp 𝕄 :=
  iprop((dat2 V hH c).Φ t.succ ∗ (dat2 V hH c).owesAt () t.succ
    ∗ owns (c : Thread nD τ) (ms2_0 t) fullShare ((dat2 V hH c).after 0 t)
    ∗ owns (c : Thread nD τ) (ms2_1 t) fullShare ((dat2 V hH c).after 1 t)
    ∗ owns (c : Thread nD τ) (ms2_2 t) fullShare ((dat2 V hH c).after 2 t))

set_option maxHeartbeats 3200000 in
theorem sound_body2 (hH : Hyps V) (c : Dev nD) (t : Fin cfg2.N) :
    bodyPre2 V hH c t ⊢ wp frame (wpE (defs₀ (F := F)) Variants.none c none) Set.univ (bodyAt2 t) (fun _ => bodyPost2 V hH c t) := by
  unfold bodyPre2 bodyPost2 bodyAt2
  simp only [before2_0, before2_1]
  rw [show (dat2 V hH c).Φ t.succ = PhiS V hH c (t.val + 1) t.isLt from rfl, PhiS_succ,
    after2_0, after2_1, after2_2]
  unfold Dat.owesAt Pipeline.owesWithin
  rw [show (dat2 V hH c).owed t.castSucc = 0 from rfl, show (dat2 V hH c).owed t.succ = 0 from rfl]
  have hN : t.val < 64 := lt_of_lt_of_eq t.isLt (show cfg2.N = 64 from N_2)
  by_cases h0 : t.val % 16 = 0
  · by_cases hz : t.val = 0
    · rw [PhiS_castSucc V hH c t, PhiS_zero V hH c _ _ hz, PhiD2_eq]
      rw [outsAt2_A V hH c t h0]
      unfold out2_A_2 sout2_A_0; (try dsimp only)
      iintro ⟨⟨⟨HR0, HR1, HR2, HR3, HR4, HR5, HR6, HR7, HR8, HR9, HR10, HR11, HR12, HR13, HR14, HR15, HR16, HR17, ⟨%dS, HS0⟩, HR19, HR20⟩, Hg, ⟨Hq0, Hq1⟩, Hh0⟩, ⟨%W, -, HW⟩, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t) _ (V c main_v40) (Hyps.c0 hH c t) (Hyps.c1 hH c t) (Hyps.c2 hH c t) (Hyps.c3 hH c t) (Hyps.c4 hH c t) (Hyps.c5 hH c t) (Hyps.c6 hH c t) (Hyps.c7 hH c t)).2.2 W _)
      isplitl [H0]; · iexact H0
      isplitl [H1]; · iexact H1
      isplitl [H2]; · iexists _; iexact H2
      isplitl [HS0]; · iexact HS0
      isplitl [Hq0]; · iexact Hq0
      isplitl [Hq1]; · iexact Hq1
      isplitl [Hh0]; · iexact Hh0
      isplitl [HW]; · iexact HW
      iintro ⟨H0, H1, ⟨%e2, H2⟩, ⟨%es0, HS0⟩, Hq0, Hq1, Hh0, ⟨%W', HW'⟩⟩
      isplitl [HR0 HR1 HR2 HR3 HR4 HR5 HR6 HR7 HR8 HR9 HR10 HR11 HR12 HR13 HR14 HR15 HR16 HR17 HS0 HR19 HR20 Hg Hq0 Hq1 Hh0]
      · isplitl [HR0 HR1 HR2 HR3 HR4 HR5 HR6 HR7 HR8 HR9 HR10 HR11 HR12 HR13 HR14 HR15 HR16 HR17 HS0 HR19 HR20]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _)
          isplitl [HR19]; · iexact HR19
          iexact HR20
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _ _ _ _ _ _ _ _ _ _ _)
    · rw [PhiS_castSucc V hH c t, PhiS_pos V hH c _ _ hz]
      rw [outsAt2_A V hH c t h0]
      unfold out2_A_2 sout2_A_0; (try dsimp only)
      iintro ⟨⟨⟨HR0, HR1, HR2, HR3, HR4, HR5, HR6, HR7, HR8, HR9, HR10, HR11, HR12, HR13, HR14, HR15, HR16, HR17, HS0, HR19, HR20⟩, Hg, ⟨Hq0, Hq1⟩, Hh0⟩, ⟨%W, -, HW⟩, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t) _ (V c main_v40) (Hyps.c0 hH c t) (Hyps.c1 hH c t) (Hyps.c2 hH c t) (Hyps.c3 hH c t) (Hyps.c4 hH c t) (Hyps.c5 hH c t) (Hyps.c6 hH c t) (Hyps.c7 hH c t)).2.2 W _)
      isplitl [H0]; · iexact H0
      isplitl [H1]; · iexact H1
      isplitl [H2]; · iexists _; iexact H2
      isplitl [HS0]; · iexact HS0
      isplitl [Hq0]; · iexact Hq0
      isplitl [Hq1]; · iexact Hq1
      isplitl [Hh0]; · iexact Hh0
      isplitl [HW]; · iexact HW
      iintro ⟨H0, H1, ⟨%e2, H2⟩, ⟨%es0, HS0⟩, Hq0, Hq1, Hh0, ⟨%W', HW'⟩⟩
      isplitl [HR0 HR1 HR2 HR3 HR4 HR5 HR6 HR7 HR8 HR9 HR10 HR11 HR12 HR13 HR14 HR15 HR16 HR17 HS0 HR19 HR20 Hg Hq0 Hq1 Hh0]
      · isplitl [HR0 HR1 HR2 HR3 HR4 HR5 HR6 HR7 HR8 HR9 HR10 HR11 HR12 HR13 HR14 HR15 HR16 HR17 HS0 HR19 HR20]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _)
          isplitl [HR19]; · iexact HR19
          iexact HR20
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _ _ _ _ _ _ _ _ _ _ _)
  · by_cases hz : t.val = 0
    · exfalso; have hN : t.val < 64 := lt_of_lt_of_eq t.isLt (show cfg2.N = 64 from N_2); omega
    · rw [PhiS_castSucc V hH c t, PhiS_pos V hH c _ _ hz]
      rw [outsAt2_B V hH c t h0]
      unfold out2_B_2 sout2_B_0; (try dsimp only)
      iintro ⟨⟨⟨HR0, HR1, HR2, HR3, HR4, HR5, HR6, HR7, HR8, HR9, HR10, HR11, HR12, HR13, HR14, HR15, HR16, HR17, HS0, HR19, HR20⟩, Hg, ⟨Hq0, Hq1⟩, Hh0⟩, ⟨%W, -, HW⟩, ⟨%d0, H0⟩, ⟨%d1, H1⟩, ⟨%d2, H2⟩⟩
      iapply ((kernelRun2_B c (grid2.coords t) _ _ _ _ _ _ _ _ (fun h => h0 ((hcond2_0 t).mp h)) (iblk2 V c 0 t) (iblk2 V c 1 t) _ (V c main_v40) (Hyps.c0 hH c t) (Hyps.c1 hH c t) (Hyps.c2 hH c t) (Hyps.c3 hH c t) (Hyps.c4 hH c t) (Hyps.c5 hH c t) (Hyps.c6 hH c t) (Hyps.c7 hH c t)).2.2 W _)
      isplitl [H0]; · iexact H0
      isplitl [H1]; · iexact H1
      isplitl [H2]; · iexists _; iexact H2
      isplitl [HS0]; · iexact HS0
      isplitl [Hq0]; · iexact Hq0
      isplitl [Hq1]; · iexact Hq1
      isplitl [Hh0]; · iexact Hh0
      isplitl [HW]; · iexact HW
      iintro ⟨H0, H1, ⟨%e2, H2⟩, HS0, Hq0, Hq1, Hh0, ⟨%W', HW'⟩⟩
      isplitl [HR0 HR1 HR2 HR3 HR4 HR5 HR6 HR7 HR8 HR9 HR10 HR11 HR12 HR13 HR14 HR15 HR16 HR17 HS0 HR19 HR20 Hg Hq0 Hq1 Hh0]
      · isplitl [HR0 HR1 HR2 HR3 HR4 HR5 HR6 HR7 HR8 HR9 HR10 HR11 HR12 HR13 HR14 HR15 HR16 HR17 HS0 HR19 HR20]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HS0]; · iexact HS0
          isplitl [HR19]; · iexact HR19
          iexact HR20
        isplitl [Hg]
        · iexact Hg
        isplitl [Hq0 Hq1]
        · isplitl [Hq0]; · iexact Hq0
          iexact Hq1
        iexact Hh0
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro; exact View.read_writes_of_cover _ _ _ _ _ (cover2_B_2 c _ _ _ _ _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

/-- The body meets its obligation at every point. -/
theorem body_obligation2 (hH : Hyps V) (c : Dev nD) : BodyObligation (dat2 (F := F) V hH c) (defs₀ (F := F)) Variants.none () Set.univ := fun t => by
  rw [bigSep_W2, bigSep_W2, defs₀_row2]
  exact triple_restated (sound_body2 V hH c t) rfl .rfl fun _ => .rfl

/-- What the launch hands the call is the invariant before the first point. -/
theorem hin (hH : Hyps V) (c : Dev nD) : Pipeline.ΦD osem2 spec2 H2 V c ⊢ (dat2 V hH c).Φ 0 := by
  rw [show (dat2 V hH c).Φ 0 = PhiS V hH c 0 (Nat.zero_le _) from rfl, PhiS_zero V hH c 0 _ rfl]
  try exact Idealize.SL.BI.Entails.refl _

theorem Phi_out (hH : Hyps V) (c : Dev nD) (t : Fin (cfg2.N + 1)) (ht : t.val ≠ 0) : (dat2 V hH c).Φ t ⊢ Pipeline.ΦD osem2 spec2 H2 V c := by
  rw [show (dat2 V hH c).Φ t = PhiS V hH c t.val (Nat.le_of_lt_succ t.isLt) from rfl, PhiS_pos V hH c _ _ ht, PhiD2_eq]
  iintro ⟨⟨HR0, HR1, HR2, HR3, HR4, HR5, HR6, HR7, HR8, HR9, HR10, HR11, HR12, HR13, HR14, HR15, HR16, HR17, HS0, HR19, HR20⟩, Hg, ⟨Hq0, Hq1⟩, Hh0⟩
  isplitl [HR0 HR1 HR2 HR3 HR4 HR5 HR6 HR7 HR8 HR9 HR10 HR11 HR12 HR13 HR14 HR15 HR16 HR17 HS0 HR19 HR20]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HS0]
    · iexists _; iexact HS0
    isplitl [HR19]
    · iexact HR19
    iexact HR20
  isplitl [Hg]; · iexact Hg
  isplitl [Hq0 Hq1]
  · isplitl [Hq0]; · iexact Hq0
    iexact Hq1
  iexact Hh0

/-- After the last point the scratch's contents are forgotten. -/
theorem hout (hH : Hyps V) (c : Dev nD) : (dat2 V hH c).Φ (Fin.last cfg2.N) ⊢ Pipeline.ΦD osem2 spec2 H2 V c :=
  Phi_out V hH c _ (by rw [Fin.val_last]; have : cfg2.N = 64 := N_2; omega)

end Cert.KernelIdeal.Run

end
-- ==== Proof.KernelIdeal.Whole.lean ====
/- The whole program: the three calls and the host operations between them, as one run.  -/
module

public import proofs.«01_k».proof.Proof.KernelIdeal.Boundaries
public import proofs.«01_k».proof.Proof.KernelIdeal.Agg
public import proofs.«01_k».proof.Proof.Gen.KernelIdeal.Regions
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (hH : Hyps (V4 m ρ))

/-- The contents at the third call's exit. -/
def W5 (c : Dev nD) : Valuation τ sig (Elt F) :=
  Pipeline.withArrays spec2 c (W4 m ρ c) fun w => (dat2 (V4 m ρ) hH c).arrAt w cfg2.N
theorem W5_arr (c : Dev nD) (w : Fin cfg2.W) :
    W5 m ρ hH c (Proc.devRef .tc (Pipeline.arrRef spec2 w)) = (dat2 (V4 m ρ) hH c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ hH c (Proc.devRef .tc b) = W4 m ρ c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m ρ hH c (Proc.devRef .tc r) = W4 m ρ c (Proc.devRef .tc r) := by
  by_cases hw : ∃ w : Fin cfg2.W, Pipeline.arrRef spec2 w = r
  · obtain ⟨w, rfl⟩ := hw
    exact (W5_arr m ρ hH c w).trans (((dat2 (V4 m ρ) hH c).arrAt_in w (h w rfl) _).trans (A_eq2 (V4 m ρ) hH c w))
  · exact W5_of_ne m ρ hH c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ hH c (Proc.devRef .tc a) = m ((c : Thread nD τ).loc a) :=
  fun a ha => (W5_of m ρ hH c a (argsIn2 a ha)).trans (W4_args m ρ c a ha)
abbrev V5 : (c : Dev nD) → (b : Ref sig .tc) → Buf (Elt F) ((c : Thread nD τ).loc b) := fun c b => W5 m ρ hH c b
theorem hF2 (c : Dev nD) (w : Fin cfg2.W) : (dat2 (V4 m ρ) hH c).arrAt w cfg2.N = V5 m ρ hH c (Pipeline.arrRef spec2 w) :=
  (W5_arr m ρ hH c w).symm
theorem hrest2 (c : Dev nD) : ∀ b, b ∉ Finset.univ.image (Pipeline.arrRef spec2) → V5 m ρ hH c b = V4 m ρ c b :=
  fun b hb => W5_of_ne m ρ hH c b fun w e => hb (Finset.mem_image.mpr ⟨w, Finset.mem_univ _, e⟩)

/-- The contents at the return. -/
abbrev W6 : Dev nD → Valuation τ sig (Elt F) := fun c => StableHlo.after hostOps3 (W5 m ρ hH c)
theorem W6_of (c : Dev nD) (r : Ref sig .tc) (h : r ∉ hostOps3_W) : W6 m ρ hH c (Proc.devRef .tc r) = W5 m ρ hH c (Proc.devRef .tc r) :=
  StableHlo.after_of_writes_sub hostOps3 _ hostOps3_writes h
theorem W6_args (c : Dev nD) : ∀ a ∈ argRefs, W6 m ρ hH c (Proc.devRef .tc a) = m ((c : Thread nD τ).loc a) :=
  fun a ha => (W6_of m ρ hH c a (hostOps3_args a ha)).trans (W5_args m ρ hH c a ha)

theorem W6_main_arg0 (c : Dev nD) : W6 m ρ hH c (Proc.devRef .tc main_arg0) = m ((c : Thread nD τ).loc main_arg0) :=
  W6_args m ρ hH c main_arg0 (by decide)
theorem W6_main_arg1 (c : Dev nD) : W6 m ρ hH c (Proc.devRef .tc main_arg1) = m ((c : Thread nD τ).loc main_arg1) :=
  W6_args m ρ hH c main_arg1 (by decide)
theorem W6_main_arg2 (c : Dev nD) : W6 m ρ hH c (Proc.devRef .tc main_arg2) = m ((c : Thread nD τ).loc main_arg2) :=
  W6_args m ρ hH c main_arg2 (by decide)
theorem W6_main_arg3 (c : Dev nD) : W6 m ρ hH c (Proc.devRef .tc main_arg3) = m ((c : Thread nD τ).loc main_arg3) :=
  W6_args m ρ hH c main_arg3 (by decide)

abbrev adm : (p : Fin 3) → (pcfgs (F := F) p).Adm := fun p => (cfgs p).toPCfg_adm
/-- Each call's proof data at the contents it is entered from. -/
def pdats : (p : Fin 3) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) hH c
abbrev 𝒱₀ : Variants := Variants.none
abbrev L : GSem nD τ sig → Finset Unit := fun _ => ∅
abbrev lv : GSem nD τ sig → Unit → ℕ := fun _ _ => 0
/-- What rides along every segment: the generator register and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W6 m ρ hH c) ∗ ∃ r, prngReg c r)

set_option backward.isDefEq.respectTransparency.types false in
/-- The first call as a segment. -/
def reg0 : Pipeline.RegionSeg (pcfgs (F := F)) adm (pdats m ρ hH) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ hH) launch0.win launch0.arr_whole c
      ((pdats m ρ hH 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hH 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hH 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ hH) ((pdats m ρ hH 0 c).share_full fun _ => rfl)
      (V1 m ρ c) (V2 m ρ c) ((pdats m ρ hH 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment. -/
def reg1 : Pipeline.RegionSeg (pcfgs (F := F)) adm (pdats m ρ hH) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ hH) launch1.win launch1.arr_whole c
      ((pdats m ρ hH 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hH 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hH 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ hH) ((pdats m ρ hH 1 c).share_full fun _ => rfl)
      (V2 m ρ c) (V3 m ρ c) ((pdats m ρ hH 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call as a segment: its own two semaphores and the array it copies from go in and come out. -/
def reg2 : Pipeline.RegionSeg (pcfgs (F := F)) adm (pdats m ρ hH) () defs₀ 𝒱₀ L lv 2 where
  win := launch2.win.to₀
  block_pos := launch2.block_pos
  stage_whole := launch2.stage_whole
  K := Fin 2
  osem := osem2
  ho := ownSemFacts2
  hbody c := (body_obligation2 (V4 m ρ) hH c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ hH c) ∗ R c)
  X c := iprop((∃ r, prngReg c r) ∗ Pipeline.ownSems0 (Ix := Unit) (Name := ℕ) (U := Pipeline.UD sig nD τ) (Lvl := ℕ) (Val := Elt F) (τ := τ) osem2 c ∗ (bigSep H2 fun b => (((c : Thread nD τ)).loc b) ↦{fullShare} V4 m ρ c b))
  Y c := iprop((∃ r, prngReg c r) ∗ (bigSep H2 fun b => (((c : Thread nD τ)).loc b) ↦{fullShare} V4 m ρ c b))
  Z c := bigSep (Pipeline.restRefs sig spec2 \ H2) fun b => (((c : Thread nD τ)).loc b) ↦{fullShare} V4 m ρ c b
  hentry c := by
    have hsplit := Pipeline.arrays_of_unscopedBufs (p := 2) (pcfgs (F := F)) adm (pdats m ρ hH) launch2.win launch2.arr_whole c
      ((pdats m ρ hH 2 c).share_full fun _ => rfl) (V4 m ρ c) (A_eq2 (V4 m ρ) hH c)
    rw [Pipeline.unscopedBufs_held] at hsplit
    have hH : (Pipeline.unscopedRest (Ix := Unit) (Name := ℕ) (U := Pipeline.UD sig nD τ) (Lvl := ℕ) spec2 c (V4 m ρ c) : sProp 𝕄)
        = iprop((bigSep H2 fun b => (((c : Thread nD τ)).loc b) ↦{fullShare} V4 m ρ c b) ∗ (bigSep (Pipeline.restRefs sig spec2 \ H2) fun b => (((c : Thread nD τ)).loc b) ↦{fullShare} V4 m ρ c b)) := by
      unfold Pipeline.unscopedRest; exact BI.bigSep_sdiff_split H2_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    refine BIBase.Entails.trans ?_ (Run.hin (V4 m ρ) hH c)
    rw [Pipeline.ΦD_eq]
    iintro ⟨⟨Hp, Ho, HH⟩, -, Hr⟩
    isplitl [Hr]; · iexact Hr
    isplitl [Hp]; · iexact Hp
    isplitl [Ho]; · iexact Ho
    iexact HH
  hout c := by
    refine BIBase.Entails.trans (Run.hout (V4 m ρ) hH c) ?_
    rw [Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ hH) ((pdats m ρ hH 2 c).share_full fun _ => rfl)
      (V4 m ρ c) (V5 m ρ hH c) ((pdats m ρ hH 2 c).arrAt · cfg2.N) (hF2 m ρ hH c) (hrest2 m ρ hH c)
    rw [Pipeline.unscopedBufs_held] at hjoin
    have hH : (Pipeline.unscopedRest (Ix := Unit) (Name := ℕ) (U := Pipeline.UD sig nD τ) (Lvl := ℕ) spec2 c (V4 m ρ c) : sProp 𝕄)
        = iprop((bigSep H2 fun b => (((c : Thread nD τ)).loc b) ↦{fullShare} V4 m ρ c b) ∗ (bigSep (Pipeline.restRefs sig spec2 \ H2) fun b => (((c : Thread nD τ)).loc b) ↦{fullShare} V4 m ρ c b)) := by
      unfold Pipeline.unscopedRest; exact BI.bigSep_sdiff_split H2_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program: host operations, the calls, host operations. -/
abbrev segs : List (Pipeline.Seg (pcfgs (F := F)) adm (pdats m ρ hH) () defs₀ 𝒱₀ L lv) :=
  [ .host (hseg hostOps0 hostOps0_sub hostOps0_fresh (W0 m ρ)),
    .region (reg0 m ρ hH),
    .region (reg1 m ρ hH),
    .host (hseg hostOps2 hostOps2_sub hostOps2_fresh (W3 m ρ)),
    .region (reg2 m ρ hH),
    .host (hseg hostOps3 hostOps3_sub hostOps3_fresh (W5 m ρ hH)) ]
/-- The program is the run of the segments. -/
theorem main_run (c : Dev nD) : main (F := F) c = Pipeline.Seg.run (segs m ρ hH) := (main_chain c).trans (by chain_rfl)

/-- There is no unscoped semaphore. -/
theorem no_unscoped : ∀ sm : SemLoc sig, sm.isScoped .tc = true := by decide

set_option backward.isDefEq.respectTransparency.types false in
/-- The whole program runs, leaves its arguments unchanged and every counter at zero, and its result is the last boundary's contents. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v42) = W6 m ρ hH c (Proc.devRef .tc main_v42))
      ∧ r.2.sem = fun _ => 0) :=
  Pipeline.θ_run_regions_kit_sems (pcfgs (F := F)) adm (pdats m ρ hH) () cellOf_inj embL defs₀ 𝒱₀ L lv m ρ main (segs m ρ hH)
    (fun c Q => by rw [main_run m ρ hH c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hH)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ hH c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ hH c) s')
      isplitl [Hh] <;> iassumption)
    (hQ := fun s h hz => ⟨(fun c =>
      ⟨(h c _ (mem_uc main_arg0 (by decide))).trans (W6_main_arg0 m ρ hH c),
       (h c _ (mem_uc main_arg1 (by decide))).trans (W6_main_arg1 m ρ hH c),
       (h c _ (mem_uc main_arg2 (by decide))).trans (W6_main_arg2 m ρ hH c),
       (h c _ (mem_uc main_arg3 (by decide))).trans (W6_main_arg3 m ρ hH c),
       h c _ (mem_uc main_v42 (by decide))⟩), funext fun g => hz g (.inr (no_unscoped g.2))⟩)

end Cert.KernelIdeal.Run

end
-- ==== Proof.KernelIdeal.TopKForm.lean ====
/- What the second call leaves in its two results, round by round.  -/
module

public import proofs.«01_k».proof.Proof.KernelIdeal.TopK
public import Idealize.ShloMosaic.Lib.Pipeline.Value
public import Idealize.ShloMosaic.Lib.Pointwise

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One round of the selection -/

/-- The lags, as the body counts them: row + 64 · column. -/
def lags : IVec S64x64 32 := k1_pay15

/-- The greatest entry. -/
def top (a : FVec F S64x64 .f32) : F .f32 :=
  extractAt ![0, 0, 0] (shapeCast S1x1x1 (multiReduction .maximumf [1, 2] S1 (shapeCast S1x64x64 a shapeCasts_S64x64_S1x64x64) 0xFF800000#32 reduces_S1x64x64_S1 (.inl rfl) rfl) shapeCasts_S1_S1x1x1) inpos_S1x1x1_p0_0_0

/-- The lags whose entry is the greatest, 4096 elsewhere. -/
def candidates (a : FVec F S64x64 .f32) : IVec S1x64x64 32 :=
  shapeCast S1x64x64 (select (cmpf .oeq a (broadcast S64x64 (top a))) lags (broadcast S64x64 4096#32)) shapeCasts_S64x64_S1x64x64

/-- The least lag whose entry is the greatest (4096 where an entry is not the greatest). -/
def pick (a : FVec F S64x64 .f32) : BitVec 32 :=
  extractAt ![0, 0, 0] (shapeCast S1x1x1 (multiReductionI .minsi [1, 2] S1 (candidates a) 2147483647#32 reduces_S1x64x64_S1 rfl) shapeCasts_S1_S1x1x1) inpos_S1x1x1_p0_0_0

/-- The entry at one lag. -/
def at_ (p : BitVec 32) : IVec S64x64 1 := cmpi .eq lags (broadcast S64x64 p)

/-- The entries left after a round: −∞ at the lag picked. -/
def next (a : FVec F S64x64 .f32) : FVec F S64x64 .f32 :=
  select (at_ (pick a)) (broadcast S64x64 (Scalar.ofBits .f32 0xFF800000#32)) a

/-- A batch's entry at the lag picked, scaled. -/
def scaledAt (x : FVec F S64x64 .f32) (p : BitVec 32) : F .f32 :=
  Scalar.mulf (extractAt ![0, 0, 0] (shapeCast S1x1x1 (multiReduction .add [1, 2] S1 (shapeCast S1x64x64 (select (at_ p) x (broadcast S64x64 (Scalar.ofBits .f32 0x00000000#32))) shapeCasts_S64x64_S1x64x64) 0x00000000#32 reduces_S1x64x64_S1 (.inl rfl) rfl) shapeCasts_S1_S1x1x1) inpos_S1x1x1_p0_0_0) (Scalar.ofBits .f32 0x34800000#32)

/-- One batch of a spectrum, as the body loads it. -/
def batchOf (x : Vec F S4x64x64 .f32) : Fin 4 → Vec F S1x64x64 .f32
  | 0 => View.ld x (Rect.unit ![0, 0, 0] S1x64x64.size inb_S4x64x64_S1x64x64_0_0_0)
  | 1 => View.ld x (Rect.unit ![1, 0, 0] S1x64x64.size inb_S4x64x64_S1x64x64_1_0_0)
  | 2 => View.ld x (Rect.unit ![2, 0, 0] S1x64x64.size inb_S4x64x64_S1x64x64_2_0_0)
  | 3 => View.ld x (Rect.unit ![3, 0, 0] S1x64x64.size inb_S4x64x64_S1x64x64_3_0_0)

/-- One batch's inverse transform. -/
def inv (x0 x1 : Vec F S4x64x64 .f32) (x2 x3 x4 x5 : Vec F S64x64 .f32) (b : Fin 4) : FVec F S64x64 .f32 :=
  k1_pay6 x2 x3 x4 x5 (batchOf x0 b) (batchOf x1 b)

/-- The four batches' inverse transforms, added: what the selection starts from. -/
def start (x0 x1 : Vec F S4x64x64 .f32) (x2 x3 x4 x5 : Vec F S64x64 .f32) : FVec F S64x64 .f32 :=
  addf (addf (addf (inv x0 x1 x2 x3 x4 x5 0) (inv x0 x1 x2 x3 x4 x5 1)) (inv x0 x1 x2 x3 x4 x5 2)) (inv x0 x1 x2 x3 x4 x5 3)

/-- The entries left before round `t`. -/
def left (x0 x1 : Vec F S4x64x64 .f32) (x2 x3 x4 x5 : Vec F S64x64 .f32) : ℕ → FVec F S64x64 .f32
  | 0 => start x0 x1 x2 x3 x4 x5
  | t + 1 => next (left x0 x1 x2 x3 x4 x5 t)

theorem hz2' : (![0, 0] : Fin 2 → Nat) = fun _ => 0 := funext fun a => by fin_cases a <;> rfl

/-- What the body computes of each batch is that batch's inverse transform. -/
theorem inv_eq (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole)
    (x0 : Vec F S4x64x64 .f32) (x1 : Vec F S4x64x64 .f32) (x2 : Vec F S64x64 .f32) (x3 : Vec F S64x64 .f32) (x4 : Vec F S64x64 .f32) (x5 : Vec F S64x64 .f32) :
    kernelRun1_A.sl.r_4 c arg0 harg0 arg1 harg1 arg2 harg2 arg3 harg3 arg4 harg4 arg5 harg5 x0 x1 x2 x3 x4 x5 = inv x0 x1 x2 x3 x4 x5 0 ∧
    kernelRun1_A.sl.r_8 c arg0 harg0 arg1 harg1 arg2 harg2 arg3 harg3 arg4 harg4 arg5 harg5 x0 x1 x2 x3 x4 x5 = inv x0 x1 x2 x3 x4 x5 1 ∧
    kernelRun1_A.sl.r_9 c arg0 harg0 arg1 harg1 arg2 harg2 arg3 harg3 arg4 harg4 arg5 harg5 x0 x1 x2 x3 x4 x5 = inv x0 x1 x2 x3 x4 x5 2 ∧
    kernelRun1_A.sl.r_13 c arg0 harg0 arg1 harg1 arg2 harg2 arg3 harg3 arg4 harg4 arg5 harg5 x0 x1 x2 x3 x4 x5 = inv x0 x1 x2 x3 x4 x5 3 := by
  refine ⟨?_, ?_, ?_, ?_⟩
  · show k1_pay6 _ _ _ _ _ _ = _
    simp only [View.readAt_eq_ld, harg0.read_unread, harg1.read_unread, harg2.read_unread, harg3.read_unread, harg4.read_unread, harg5.read_unread, View.ld_unit_zero (S := S64x64) hz2']
    rfl
  · show k1_pay6 (View.readAt (Elt F) arg2.view (Rect.unit (s := S64x64) ![0,0] S64x64.size inb_S64x64_S64x64_0_0).toLoadRect (harg2.unread x2)) (View.readAt (Elt F) arg3.view (Rect.unit (s := S64x64) ![0,0] S64x64.size inb_S64x64_S64x64_0_0).toLoadRect (harg3.unread x3)) (View.readAt (Elt F) arg4.view (Rect.unit (s := S64x64) ![0,0] S64x64.size inb_S64x64_S64x64_0_0).toLoadRect (harg4.unread x4)) (View.readAt (Elt F) arg5.view (Rect.unit (s := S64x64) ![0,0] S64x64.size inb_S64x64_S64x64_0_0).toLoadRect (harg5.unread x5)) (View.readAt (Elt F) arg0.view (Rect.unit (s := S4x64x64) ![1,0,0] S1x64x64.size inb_S4x64x64_S1x64x64_1_0_0).toLoadRect (harg0.unread x0)) (View.readAt (Elt F) arg1.view (Rect.unit (s := S4x64x64) ![1,0,0] S1x64x64.size inb_S4x64x64_S1x64x64_1_0_0).toLoadRect (harg1.unread x1)) = _
    simp only [View.readAt_eq_ld, harg0.read_unread, harg1.read_unread, harg2.read_unread, harg3.read_unread, harg4.read_unread, harg5.read_unread, View.ld_unit_zero (S := S64x64) hz2']
    rfl
  · show k1_pay6 (View.readAt (Elt F) arg2.view (Rect.unit (s := S64x64) ![0,0] S64x64.size inb_S64x64_S64x64_0_0).toLoadRect (harg2.unread x2)) (View.readAt (Elt F) arg3.view (Rect.unit (s := S64x64) ![0,0] S64x64.size inb_S64x64_S64x64_0_0).toLoadRect (harg3.unread x3)) (View.readAt (Elt F) arg4.view (Rect.unit (s := S64x64) ![0,0] S64x64.size inb_S64x64_S64x64_0_0).toLoadRect (harg4.unread x4)) (View.readAt (Elt F) arg5.view (Rect.unit (s := S64x64) ![0,0] S64x64.size inb_S64x64_S64x64_0_0).toLoadRect (harg5.unread x5)) (View.readAt (Elt F) arg0.view (Rect.unit (s := S4x64x64) ![2,0,0] S1x64x64.size inb_S4x64x64_S1x64x64_2_0_0).toLoadRect (harg0.unread x0)) (View.readAt (Elt F) arg1.view (Rect.unit (s := S4x64x64) ![2,0,0] S1x64x64.size inb_S4x64x64_S1x64x64_2_0_0).toLoadRect (harg1.unread x1)) = _
    simp only [View.readAt_eq_ld, harg0.read_unread, harg1.read_unread, harg2.read_unread, harg3.read_unread, harg4.read_unread, harg5.read_unread, View.ld_unit_zero (S := S64x64) hz2']
    rfl
  · show k1_pay6 (View.readAt (Elt F) arg2.view (Rect.unit (s := S64x64) ![0,0] S64x64.size inb_S64x64_S64x64_0_0).toLoadRect (harg2.unread x2)) (View.readAt (Elt F) arg3.view (Rect.unit (s := S64x64) ![0,0] S64x64.size inb_S64x64_S64x64_0_0).toLoadRect (harg3.unread x3)) (View.readAt (Elt F) arg4.view (Rect.unit (s := S64x64) ![0,0] S64x64.size inb_S64x64_S64x64_0_0).toLoadRect (harg4.unread x4)) (View.readAt (Elt F) arg5.view (Rect.unit (s := S64x64) ![0,0] S64x64.size inb_S64x64_S64x64_0_0).toLoadRect (harg5.unread x5)) (View.readAt (Elt F) arg0.view (Rect.unit (s := S4x64x64) ![3,0,0] S1x64x64.size inb_S4x64x64_S1x64x64_3_0_0).toLoadRect (harg0.unread x0)) (View.readAt (Elt F) arg1.view (Rect.unit (s := S4x64x64) ![3,0,0] S1x64x64.size inb_S4x64x64_S1x64x64_3_0_0).toLoadRect (harg1.unread x1)) = _
    simp only [View.readAt_eq_ld, harg0.read_unread, harg1.read_unread, harg2.read_unread, harg3.read_unread, harg4.read_unread, harg5.read_unread, View.ld_unit_zero (S := S64x64) hz2']
    rfl

/-- The selection starts from the four added. -/
theorem start_eq (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole)
    (x0 : Vec F S4x64x64 .f32) (x1 : Vec F S4x64x64 .f32) (x2 : Vec F S64x64 .f32) (x3 : Vec F S64x64 .f32) (x4 : Vec F S64x64 .f32) (x5 : Vec F S64x64 .f32) :
    kernelRun1_A.sl.r_14 c arg0 harg0 arg1 harg1 arg2 harg2 arg3 harg3 arg4 harg4 arg5 harg5 x0 x1 x2 x3 x4 x5 = left x0 x1 x2 x3 x4 x5 0 := by
  obtain ⟨h0, h1, h2, h3⟩ := inv_eq c arg0 harg0 arg1 harg1 arg2 harg2 arg3 harg3 arg4 harg4 arg5 harg5 x0 x1 x2 x3 x4 x5
  show addf (addf (addf (kernelRun1_A.sl.r_4 c arg0 harg0 arg1 harg1 arg2 harg2 arg3 harg3 arg4 harg4 arg5 harg5 x0 x1 x2 x3 x4 x5) (kernelRun1_A.sl.r_8 c arg0 harg0 arg1 harg1 arg2 harg2 arg3 harg3 arg4 harg4 arg5 harg5 x0 x1 x2 x3 x4 x5)) (kernelRun1_A.sl.r_9 c arg0 harg0 arg1 harg1 arg2 harg2 arg3 harg3 arg4 harg4 arg5 harg5 x0 x1 x2 x3 x4 x5)) (kernelRun1_A.sl.r_13 c arg0 harg0 arg1 harg1 arg2 harg2 arg3 harg3 arg4 harg4 arg5 harg5 x0 x1 x2 x3 x4 x5) = _
  rw [h0, h1, h2, h3]; rfl

/-- What is left before each round. -/
theorem left_eq (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole)
    (x0 : Vec F S4x64x64 .f32) (x1 : Vec F S4x64x64 .f32) (x2 : Vec F S64x64 .f32) (x3 : Vec F S64x64 .f32) (x4 : Vec F S64x64 .f32) (x5 : Vec F S64x64 .f32) :
    kernelRun1_A.sl.r_14 c arg0 harg0 arg1 harg1 arg2 harg2 arg3 harg3 arg4 harg4 arg5 harg5 x0 x1 x2 x3 x4 x5 = left x0 x1 x2 x3 x4 x5 0 ∧
    kernelRun1_A.sl.r_21 c arg0 harg0 arg1 harg1 arg2 harg2 arg3 harg3 arg4 harg4 arg5 harg5 x0 x1 x2 x3 x4 x5 = left x0 x1 x2 x3 x4 x5 1 ∧
    kernelRun1_A.sl.r_33 c arg0 harg0 arg1 harg1 arg2 harg2 arg3 harg3 arg4 harg4 arg5 harg5 x0 x1 x2 x3 x4 x5 = left x0 x1 x2 x3 x4 x5 2 ∧
    kernelRun1_A.sl.r_40 c arg0 harg0 arg1 harg1 arg2 harg2 arg3 harg3 arg4 harg4 arg5 harg5 x0 x1 x2 x3 x4 x5 = left x0 x1 x2 x3 x4 x5 3 ∧
    kernelRun1_A.sl.r_45 c arg0 harg0 arg1 harg1 arg2 harg2 arg3 harg3 arg4 harg4 arg5 harg5 x0 x1 x2 x3 x4 x5 = left x0 x1 x2 x3 x4 x5 4 ∧
    kernelRun1_A.sl.r_56 c arg0 harg0 arg1 harg1 arg2 harg2 arg3 harg3 arg4 harg4 arg5 harg5 x0 x1 x2 x3 x4 x5 = left x0 x1 x2 x3 x4 x5 5 ∧
    kernelRun1_A.sl.r_63 c arg0 harg0 arg1 harg1 arg2 harg2 arg3 harg3 arg4 harg4 arg5 harg5 x0 x1 x2 x3 x4 x5 = left x0 x1 x2 x3 x4 x5 6 := by
  have h0 := start_eq c arg0 harg0 arg1 harg1 arg2 harg2 arg3 harg3 arg4 harg4 arg5 harg5 x0 x1 x2 x3 x4 x5
  have h1 : kernelRun1_A.sl.r_21 c arg0 harg0 arg1 harg1 arg2 harg2 arg3 harg3 arg4 harg4 arg5 harg5 x0 x1 x2 x3 x4 x5 = next (kernelRun1_A.sl.r_14 c arg0 harg0 arg1 harg1 arg2 harg2 arg3 harg3 arg4 harg4 arg5 harg5 x0 x1 x2 x3 x4 x5) := rfl
  rw [h0] at h1
  have h2 : kernelRun1_A.sl.r_33 c arg0 harg0 arg1 harg1 arg2 harg2 arg3 harg3 arg4 harg4 arg5 harg5 x0 x1 x2 x3 x4 x5 = next (kernelRun1_A.sl.r_21 c arg0 harg0 arg1 harg1 arg2 harg2 arg3 harg3 arg4 harg4 arg5 harg5 x0 x1 x2 x3 x4 x5) := rfl
  rw [h1] at h2
  have h3 : kernelRun1_A.sl.r_40 c arg0 harg0 arg1 harg1 arg2 harg2 arg3 harg3 arg4 harg4 arg5 harg5 x0 x1 x2 x3 x4 x5 = next (kernelRun1_A.sl.r_33 c arg0 harg0 arg1 harg1 arg2 harg2 arg3 harg3 arg4 harg4 arg5 harg5 x0 x1 x2 x3 x4 x5) := rfl
  rw [h2] at h3
  have h4 : kernelRun1_A.sl.r_45 c arg0 harg0 arg1 harg1 arg2 harg2 arg3 harg3 arg4 harg4 arg5 harg5 x0 x1 x2 x3 x4 x5 = next (kernelRun1_A.sl.r_40 c arg0 harg0 arg1 harg1 arg2 harg2 arg3 harg3 arg4 harg4 arg5 harg5 x0 x1 x2 x3 x4 x5) := rfl
  rw [h3] at h4
  have h5 : kernelRun1_A.sl.r_56 c arg0 harg0 arg1 harg1 arg2 harg2 arg3 harg3 arg4 harg4 arg5 harg5 x0 x1 x2 x3 x4 x5 = next (kernelRun1_A.sl.r_45 c arg0 harg0 arg1 harg1 arg2 harg2 arg3 harg3 arg4 harg4 arg5 harg5 x0 x1 x2 x3 x4 x5) := rfl
  rw [h4] at h5
  have h6 : kernelRun1_A.sl.r_63 c arg0 harg0 arg1 harg1 arg2 harg2 arg3 harg3 arg4 harg4 arg5 harg5 x0 x1 x2 x3 x4 x5 = next (kernelRun1_A.sl.r_56 c arg0 harg0 arg1 harg1 arg2 harg2 arg3 harg3 arg4 harg4 arg5 harg5 x0 x1 x2 x3 x4 x5) := rfl
  rw [h5] at h6
  exact ⟨h0, h1, h2, h3, h4, h5, h6⟩

/-- The pick of each round. -/
theorem pick_eq (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole)
    (x0 : Vec F S4x64x64 .f32) (x1 : Vec F S4x64x64 .f32) (x2 : Vec F S64x64 .f32) (x3 : Vec F S64x64 .f32) (x4 : Vec F S64x64 .f32) (x5 : Vec F S64x64 .f32) :
    kernelRun1_A.sl.v103 c arg0 harg0 arg1 harg1 arg2 harg2 arg3 harg3 arg4 harg4 arg5 harg5 x0 x1 x2 x3 x4 x5 = pick (left x0 x1 x2 x3 x4 x5 0) ∧
    kernelRun1_A.sl.v152 c arg0 harg0 arg1 harg1 arg2 harg2 arg3 harg3 arg4 harg4 arg5 harg5 x0 x1 x2 x3 x4 x5 = pick (left x0 x1 x2 x3 x4 x5 1) ∧
    kernelRun1_A.sl.v201 c arg0 harg0 arg1 harg1 arg2 harg2 arg3 harg3 arg4 harg4 arg5 harg5 x0 x1 x2 x3 x4 x5 = pick (left x0 x1 x2 x3 x4 x5 2) ∧
    kernelRun1_A.sl.v250 c arg0 harg0 arg1 harg1 arg2 harg2 arg3 harg3 arg4 harg4 arg5 harg5 x0 x1 x2 x3 x4 x5 = pick (left x0 x1 x2 x3 x4 x5 3) ∧
    kernelRun1_A.sl.v299 c arg0 harg0 arg1 harg1 arg2 harg2 arg3 harg3 arg4 harg4 arg5 harg5 x0 x1 x2 x3 x4 x5 = pick (left x0 x1 x2 x3 x4 x5 4) ∧
    kernelRun1_A.sl.v348 c arg0 harg0 arg1 harg1 arg2 harg2 arg3 harg3 arg4 harg4 arg5 harg5 x0 x1 x2 x3 x4 x5 = pick (left x0 x1 x2 x3 x4 x5 5) ∧
    kernelRun1_A.sl.v397 c arg0 harg0 arg1 harg1 arg2 harg2 arg3 harg3 arg4 harg4 arg5 harg5 x0 x1 x2 x3 x4 x5 = pick (left x0 x1 x2 x3 x4 x5 6) ∧
    kernelRun1_A.sl.v446 c arg0 harg0 arg1 harg1 arg2 harg2 arg3 harg3 arg4 harg4 arg5 harg5 x0 x1 x2 x3 x4 x5 = pick (left x0 x1 x2 x3 x4 x5 7) := by
  obtain ⟨h0, h1, h2, h3, h4, h5, h6⟩ := left_eq c arg0 harg0 arg1 harg1 arg2 harg2 arg3 harg3 arg4 harg4 arg5 harg5 x0 x1 x2 x3 x4 x5
  have e7 : kernelRun1_A.sl.v446 c arg0 harg0 arg1 harg1 arg2 harg2 arg3 harg3 arg4 harg4 arg5 harg5 x0 x1 x2 x3 x4 x5 = pick (next (kernelRun1_A.sl.r_63 c arg0 harg0 arg1 harg1 arg2 harg2 arg3 harg3 arg4 harg4 arg5 harg5 x0 x1 x2 x3 x4 x5)) := rfl
  rw [h6] at e7
  refine ⟨?_, ?_, ?_, ?_, ?_, ?_, ?_, e7⟩
  · rw [← h0]; rfl
  · rw [← h1]; rfl
  · rw [← h2]; rfl
  · rw [← h3]; rfl
  · rw [← h4]; rfl
  · rw [← h5]; rfl
  · rw [← h6]; rfl

/-- The lag picked in each round, as a mask. -/
theorem mask_eq (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole)
    (x0 : Vec F S4x64x64 .f32) (x1 : Vec F S4x64x64 .f32) (x2 : Vec F S64x64 .f32) (x3 : Vec F S64x64 .f32) (x4 : Vec F S64x64 .f32) (x5 : Vec F S64x64 .f32) :
    kernelRun1_A.sl.r_15 c arg0 harg0 arg1 harg1 arg2 harg2 arg3 harg3 arg4 harg4 arg5 harg5 x0 x1 x2 x3 x4 x5 = at_ (pick (left x0 x1 x2 x3 x4 x5 0)) ∧
    kernelRun1_A.sl.r_27 c arg0 harg0 arg1 harg1 arg2 harg2 arg3 harg3 arg4 harg4 arg5 harg5 x0 x1 x2 x3 x4 x5 = at_ (pick (left x0 x1 x2 x3 x4 x5 1)) ∧
    kernelRun1_A.sl.r_34 c arg0 harg0 arg1 harg1 arg2 harg2 arg3 harg3 arg4 harg4 arg5 harg5 x0 x1 x2 x3 x4 x5 = at_ (pick (left x0 x1 x2 x3 x4 x5 2)) ∧
    kernelRun1_A.sl.r_41 c arg0 harg0 arg1 harg1 arg2 harg2 arg3 harg3 arg4 harg4 arg5 harg5 x0 x1 x2 x3 x4 x5 = at_ (pick (left x0 x1 x2 x3 x4 x5 3)) ∧
    kernelRun1_A.sl.r_51 c arg0 harg0 arg1 harg1 arg2 harg2 arg3 harg3 arg4 harg4 arg5 harg5 x0 x1 x2 x3 x4 x5 = at_ (pick (left x0 x1 x2 x3 x4 x5 4)) ∧
    kernelRun1_A.sl.r_57 c arg0 harg0 arg1 harg1 arg2 harg2 arg3 harg3 arg4 harg4 arg5 harg5 x0 x1 x2 x3 x4 x5 = at_ (pick (left x0 x1 x2 x3 x4 x5 5)) ∧
    kernelRun1_A.sl.r_64 c arg0 harg0 arg1 harg1 arg2 harg2 arg3 harg3 arg4 harg4 arg5 harg5 x0 x1 x2 x3 x4 x5 = at_ (pick (left x0 x1 x2 x3 x4 x5 6)) := by
  obtain ⟨h0, h1, h2, h3, h4, h5, h6⟩ := left_eq c arg0 harg0 arg1 harg1 arg2 harg2 arg3 harg3 arg4 harg4 arg5 harg5 x0 x1 x2 x3 x4 x5
  refine ⟨?_, ?_, ?_, ?_, ?_, ?_, ?_⟩
  · rw [← h0]; rfl
  · rw [← h1]; rfl
  · rw [← h2]; rfl
  · rw [← h3]; rfl
  · rw [← h4]; rfl
  · rw [← h5]; rfl
  · rw [← h6]; rfl

/-- The one index of a one-element vector. -/
theorem one_idx1 (x : S1.Idx) : x = ix1 (0 : Fin 1) := by
  exact (eq_ix1 x).trans (congrArg ix1 (Subsingleton.elim (α := Fin 1) _ _))

/-- The picks, in order, are what the body leaves in its first result. -/
theorem out1_A_6_apply (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .smem S8 .i32) (harg6 : arg6.IsWhole) (arg7 : Memref sig .tc .smem S4x8 .f32) (harg7 : arg7.IsWhole)
    (x0 : Vec F S4x64x64 .f32) (x1 : Vec F S4x64x64 .f32) (x2 : Vec F S64x64 .f32) (x3 : Vec F S64x64 .f32) (x4 : Vec F S64x64 .f32) (x5 : Vec F S64x64 .f32) (j : S8.Idx) :
    out1_A_6 c arg0 harg0 arg1 harg1 arg2 harg2 arg3 harg3 arg4 harg4 arg5 harg5 arg6 harg6 arg7 harg7 x0 x1 x2 x3 x4 x5 j = pick (left x0 x1 x2 x3 x4 x5 (j 0).val) := by
  unfold out1_A_6
  rw [View.read_writes_eq_canon _ _ _ (cover1_A_6 c arg0 harg0 arg1 harg1 arg2 harg2 arg3 harg3 arg4 harg4 arg5 harg5 arg6 harg6 arg7 harg7 x0 x1 x2 x3 x4 x5)]
  refine View.canon_apply_of_pieces (fun y : S8.Idx => pick (left x0 x1 x2 x3 x4 x5 (y 0).val)) _ ?_ j (cover1_A_6 c arg0 harg0 arg1 harg1 arg2 harg2 arg3 harg3 arg4 harg4 arg5 harg5 arg6 harg6 arg7 harg7 x0 x1 x2 x3 x4 x5 j)
  obtain ⟨h0, h1, h2, h3, h4, h5, h6, h7⟩ := pick_eq c arg0 harg0 arg1 harg1 arg2 harg2 arg3 harg3 arg4 harg4 arg5 harg5 x0 x1 x2 x3 x4 x5
  unfold kernelRun1_A
  dsimp only
  rw [h0, h1, h2, h3, h4, h5, h6, h7]
  simp only [List.forall_mem_cons]
  refine ⟨?_, ?_, ?_, ?_, ?_, ?_, ?_, ?_, by simp⟩ <;>
    (intro x; obtain rfl : x = ix1 (0 : Fin 1) := one_idx1 x; rfl)

/-- The one index of a 1 × 1 shape. -/
theorem one_idx (x : S1x1.Idx) : x = ix2 (0 : Fin 1) (0 : Fin 1) := by
  exact (eq_ix2 x).trans (congrArg₂ ix2 (Subsingleton.elim (α := Fin 1) _ _) (Subsingleton.elim (α := Fin 1) _ _))

/-- The scaled entries at the picks are what the body leaves in its second result. -/
theorem out1_A_7_apply (c : Dev nD) (arg0 : Memref sig .tc .vmem S4x64x64 .f32) (harg0 : arg0.IsWhole) (arg1 : Memref sig .tc .vmem S4x64x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .smem S8 .i32) (harg6 : arg6.IsWhole) (arg7 : Memref sig .tc .smem S4x8 .f32) (harg7 : arg7.IsWhole)
    (x0 : Vec F S4x64x64 .f32) (x1 : Vec F S4x64x64 .f32) (x2 : Vec F S64x64 .f32) (x3 : Vec F S64x64 .f32) (x4 : Vec F S64x64 .f32) (x5 : Vec F S64x64 .f32) (j : S4x8.Idx) :
    out1_A_7 c arg0 harg0 arg1 harg1 arg2 harg2 arg3 harg3 arg4 harg4 arg5 harg5 arg6 harg6 arg7 harg7 x0 x1 x2 x3 x4 x5 j = scaledAt (inv x0 x1 x2 x3 x4 x5 (j 0)) (pick (left x0 x1 x2 x3 x4 x5 (j 1).val)) := by
  unfold out1_A_7
  rw [View.read_writes_eq_canon _ _ _ (cover1_A_7 c arg0 harg0 arg1 harg1 arg2 harg2 arg3 harg3 arg4 harg4 arg5 harg5 arg6 harg6 arg7 harg7 x0 x1 x2 x3 x4 x5)]
  refine View.canon_apply_of_pieces (fun y : S4x8.Idx => scaledAt (inv x0 x1 x2 x3 x4 x5 (y 0)) (pick (left x0 x1 x2 x3 x4 x5 (y 1).val))) _ ?_ j (cover1_A_7 c arg0 harg0 arg1 harg1 arg2 harg2 arg3 harg3 arg4 harg4 arg5 harg5 arg6 harg6 arg7 harg7 x0 x1 x2 x3 x4 x5 j)
  obtain ⟨i0, i1, i2, i3⟩ := inv_eq c arg0 harg0 arg1 harg1 arg2 harg2 arg3 harg3 arg4 harg4 arg5 harg5 x0 x1 x2 x3 x4 x5
  obtain ⟨l0, l1, l2, l3, l4, l5, l6⟩ := left_eq c arg0 harg0 arg1 harg1 arg2 harg2 arg3 harg3 arg4 harg4 arg5 harg5 x0 x1 x2 x3 x4 x5
  obtain ⟨h0, h1, h2, h3, h4, h5, h6, h7⟩ := pick_eq c arg0 harg0 arg1 harg1 arg2 harg2 arg3 harg3 arg4 harg4 arg5 harg5 x0 x1 x2 x3 x4 x5
  obtain ⟨s0, s1, s2, s3, s4, s5, s6⟩ := mask_eq c arg0 harg0 arg1 harg1 arg2 harg2 arg3 harg3 arg4 harg4 arg5 harg5 x0 x1 x2 x3 x4 x5
  unfold kernelRun1_A
  dsimp only
  have e16 : kernelRun1_A.sl.r_16 c arg0 harg0 arg1 harg1 arg2 harg2 arg3 harg3 arg4 harg4 arg5 harg5 x0 x1 x2 x3 x4 x5 = scaledAt (kernelRun1_A.sl.r_4 c arg0 harg0 arg1 harg1 arg2 harg2 arg3 harg3 arg4 harg4 arg5 harg5 x0 x1 x2 x3 x4 x5) (pick (kernelRun1_A.sl.r_14 c arg0 harg0 arg1 harg1 arg2 harg2 arg3 harg3 arg4 harg4 arg5 harg5 x0 x1 x2 x3 x4 x5)) := rfl
  rw [i0, l0] at e16
  have e22 : kernelRun1_A.sl.r_22 c arg0 harg0 arg1 harg1 arg2 harg2 arg3 harg3 arg4 harg4 arg5 harg5 x0 x1 x2 x3 x4 x5 = candidates (kernelRun1_A.sl.r_21 c arg0 harg0 arg1 harg1 arg2 harg2 arg3 harg3 arg4 harg4 arg5 harg5 x0 x1 x2 x3 x4 x5) := rfl
  rw [l1] at e22
  unfold kernelRun1_A.sl.r_28 kernelRun1_A.sl.r_35 kernelRun1_A.sl.r_52 kernelRun1_A.sl.r_58 kernelRun1_A.sl.r_65 kernelRun1_A.sl.r_73
  simp only [e16, e22, i0, i1, i2, i3, h0, h1, h2, h3, h4, h5, h6, h7, s0, s1, s2, s3, s4, s5, s6, l0, l1, l2, l3, l4, l5, l6]
  simp only [List.forall_mem_cons]
  repeat' apply And.intro
  all_goals
    first
    | exact fun p hp => absurd hp List.not_mem_nil
    | (intro x; obtain rfl : x = ix2 (0 : Fin 1) (0 : Fin 1) := one_idx x; rfl)

end Cert.KernelIdeal.Run

end
-- ==== Proof.Least.lean ====
/- The least of finitely many words, as a number. -/
module

public import Idealize.ShloMosaic.Lib.WordArith
public import Mathlib.Data.Finset.Fold
public import Idealize.ShloMosaic.PureOps.Reduce

@[expose] public section

namespace Cert.Least

open Idealize.ShloMosaic

/-- A signed minimum of non-negative words is the minimum of their numbers. -/
theorem fold_toNat {ι : Type} (s : Finset ι) (f : ι → BitVec 32) (hf : ∀ i, (f i).toNat < 2 ^ 31) :
    (s.fold IKind.minsi.op 2147483647#32 f).toNat = s.fold min 2147483647 (fun i => (f i).toNat) := by
  classical
  induction s using Finset.induction_on with
  | empty => rfl
  | insert i s hi ih =>
    rw [Finset.fold_insert hi, Finset.fold_insert hi, ← ih]
    refine WordArith.toNat_minsi_of_lt _ _ (hf i) ?_
    rw [ih]
    have : s.fold min 2147483647 (fun i => (f i).toNat) ≤ 2147483647 := (Finset.fold_min_le _).2 (.inl le_rfl)
    omega

/-- The minimum over everything is at most each, -/
theorem fold_le {ι : Type} [Fintype ι] (f : ι → ℕ) (b : ℕ) (i : ι) : (Finset.univ : Finset ι).fold min b f ≤ f i :=
  (Finset.fold_min_le _).2 (.inr ⟨i, Finset.mem_univ i, le_rfl⟩)

/-- and is one of them where one lies under the starting value. -/
theorem fold_mem {ι : Type} [Fintype ι] (f : ι → ℕ) (b : ℕ) (i : ι) (hi : f i < b) :
    ∃ j, (Finset.univ : Finset ι).fold min b f = f j := by
  rcases (Finset.fold_min_le (b := b) (f := f) (s := Finset.univ) _).1 le_rfl with h | ⟨j, _, hj⟩
  · have := fold_le f b i; omega
  · exact ⟨j, le_antisymm (fold_le f b j) hj⟩

end Cert.Least
-- ==== Proof.KernelIdeal.TopKPick.lean ====
/- The pick of a round, as a number: the least of the candidates.  -/
module

public import proofs.«01_k».proof.Proof.KernelIdeal.TopKForm
public import proofs.«01_k».proof.Proof.Least

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The lag an entry stands for. -/
theorem lags_toNat (j : S64x64.Idx) : (lags j).toNat = 64 * (j 1).val + (j 0).val := by
  have h0 : (j 0).val < 64 := (j 0).isLt
  have h1 : (j 1).val < 64 := (j 1).isLt
  have e : lags j = IntOp.addi (IntOp.muli 64#32 (BitVec.ofNat 32 (j 1).val)) (BitVec.ofNat 32 (j 0).val) := by
    unfold lags k1_pay15
    pointwise
  rw [e]
  simp only [IntOp.addi, IntOp.muli, BitVec.toNat_add, BitVec.toNat_mul, BitVec.toNat_ofNat]
  omega

/-- A candidate, over the two coordinates. -/
def candidate (a : FVec F S64x64 .f32) (j : S64x64.Idx) : BitVec 32 :=
  Scalar.select (FloatOps.cmpf .oeq (a j) (top a)) (lags j) 4096#32

theorem candidate_le (a : FVec F S64x64 .f32) (j : S64x64.Idx) : (candidate a j).toNat ≤ 4096 := by
  have h0 : (j 0).val < 64 := (j 0).isLt
  have h1 : (j 1).val < 64 := (j 1).isLt
  have := lags_toNat j
  unfold candidate Scalar.select
  split
  · omega
  · decide

theorem candidates_apply (a : FVec F S64x64 .f32) (u w : Fin 64) : candidates a (ix3 (0 : Fin 1) u w) = candidate a (ix2 u w) := by
  unfold candidates candidate
  refine (shapeCast_apply _ _ (ix3 (0 : Fin 1) u w) (ix2 u w) (by
    rw [Shape.rowMajor_val_two, Shape.rowMajor_val_three]; simp [ix2, ix3])).trans ?_
  pointwise

/-- The pick is the least candidate. -/
theorem pick_fold (a : FVec F S64x64 .f32) :
    (pick a).toNat = (Finset.univ : Finset S1x64x64.Idx).fold min 2147483647 (fun i => (candidates a i).toNat) := by
  have hc : ∀ i, (candidates a i).toNat < 2 ^ 31 := fun i => by
    obtain ⟨z, u, w, rfl⟩ : ∃ (z : Fin 1) (u w : Fin 64), i = ix3 z u w := ⟨i 0, i 1, i 2, eq_ix3 i⟩
    obtain rfl : z = 0 := Subsingleton.elim _ _
    rw [candidates_apply]
    have := candidate_le a (ix2 u w)
    omega
  rw [← Cert.Least.fold_toNat _ _ hc]
  have e : pick a = multiReductionI .minsi [1, 2] S1 (candidates a) 2147483647#32 reduces_S1x64x64_S1 rfl (ix1 (0 : Fin 1)) := by
    unfold pick
    exact congrArg (multiReductionI .minsi [1, 2] S1 (candidates a) 2147483647#32 reduces_S1x64x64_S1 rfl) (one_idx1 _)
  refine congrArg BitVec.toNat (e.trans ((multiReductionI_eq_fold _ _ _ _ _ _).trans ?_))
  rw [Finset.filter_true_of_mem (fun i _ => (one_idx1 _).trans (one_idx1 _).symm)]

/-- It is at most every candidate, -/
theorem pick_le (a : FVec F S64x64 .f32) (j : S64x64.Idx) : (pick a).toNat ≤ (candidate a j).toNat := by
  have h := Cert.Least.fold_le (fun i => (candidates a i).toNat) 2147483647 (ix3 (0 : Fin 1) (j 0) (j 1))
  rw [← pick_fold] at h
  exact h.trans (le_of_eq (congrArg BitVec.toNat ((candidates_apply a (j 0) (j 1)).trans (congrArg (candidate a) (eq_ix2 j).symm))))

/-- and one of them. -/
theorem pick_mem (a : FVec F S64x64 .f32) : ∃ j : S64x64.Idx, (pick a).toNat = (candidate a j).toNat := by
  rw [pick_fold]
  obtain ⟨i, hi⟩ := Cert.Least.fold_mem (fun i => (candidates a i).toNat) 2147483647 (ix3 (0 : Fin 1) (0 : Fin 64) (0 : Fin 64)) (by
    show (candidates a _).toNat < _
    rw [candidates_apply]; have := candidate_le a (ix2 (0 : Fin 64) (0 : Fin 64)); omega)
  obtain ⟨z, u, w, rfl⟩ : ∃ (z : Fin 1) (u w : Fin 64), i = ix3 z u w := ⟨i 0, i 1, i 2, eq_ix3 i⟩
  obtain rfl : z = 0 := Subsingleton.elim _ _
  exact ⟨ix2 u w, hi.trans (congrArg BitVec.toNat (candidates_apply a u w))⟩

theorem pick_range (a : FVec F S64x64 .f32) : (pick a).toNat ≤ 4096 := by
  obtain ⟨j, hj⟩ := pick_mem a
  rw [hj]; exact candidate_le a j

end Cert.KernelIdeal.Run

end
-- ==== Proof.KernelIdeal.TopKValue.lean ====
/- What the two results of the second call hold after it.  -/
module

public import proofs.«01_k».proof.Proof.KernelIdeal.TopKForm

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {F : FTy → Type} [FloatOps F]
variable (V : (c : Dev nD) → (b : Ref sig .tc) → Buf (Elt F) ((c : Thread nD τ).loc b))

theorem index1_0 (t : Fin cfg1.N) : win1_0.index t (0 : Fin 3) = 0 ∧ win1_0.index t (1 : Fin 3) = 0 ∧ win1_0.index t (2 : Fin 3) = 0 :=
  (by decide +kernel : ∀ t : Fin grid1.N, win1_0.index t (0 : Fin 3) = 0 ∧ win1_0.index t (1 : Fin 3) = 0 ∧ win1_0.index t (2 : Fin 3) = 0) t

theorem emb1_0 (t : Fin cfg1.N) (y : S4x64x64.Idx) : ((cfg1.win 0).blk t).view.emb y = y := by
  have e := index1_0 t
  funext a; apply Fin.ext
  match a with
  | ⟨0, _⟩ => show win1_0.index t (0 : Fin 3) * 4 + 1 * (y 0).val = (y 0).val; omega
  | ⟨1, _⟩ => show win1_0.index t (1 : Fin 3) * 64 + 1 * (y 1).val = (y 1).val; omega
  | ⟨2, _⟩ => show win1_0.index t (2 : Fin 3) * 64 + 1 * (y 2).val = (y 2).val; omega

/-- The block of window 0 is its array. -/
theorem whole1_0 (c : Dev nD) (t : Fin cfg1.N) : iblk1 V c 0 t = V c (Pipeline.arrRef spec1 0) :=
  funext fun y => congrArg (V c (Pipeline.arrRef spec1 0)) (emb1_0 t y)

theorem index1_1 (t : Fin cfg1.N) : win1_1.index t (0 : Fin 3) = 0 ∧ win1_1.index t (1 : Fin 3) = 0 ∧ win1_1.index t (2 : Fin 3) = 0 :=
  (by decide +kernel : ∀ t : Fin grid1.N, win1_1.index t (0 : Fin 3) = 0 ∧ win1_1.index t (1 : Fin 3) = 0 ∧ win1_1.index t (2 : Fin 3) = 0) t

theorem emb1_1 (t : Fin cfg1.N) (y : S4x64x64.Idx) : ((cfg1.win 1).blk t).view.emb y = y := by
  have e := index1_1 t
  funext a; apply Fin.ext
  match a with
  | ⟨0, _⟩ => show win1_1.index t (0 : Fin 3) * 4 + 1 * (y 0).val = (y 0).val; omega
  | ⟨1, _⟩ => show win1_1.index t (1 : Fin 3) * 64 + 1 * (y 1).val = (y 1).val; omega
  | ⟨2, _⟩ => show win1_1.index t (2 : Fin 3) * 64 + 1 * (y 2).val = (y 2).val; omega

/-- The block of window 1 is its array. -/
theorem whole1_1 (c : Dev nD) (t : Fin cfg1.N) : iblk1 V c 1 t = V c (Pipeline.arrRef spec1 1) :=
  funext fun y => congrArg (V c (Pipeline.arrRef spec1 1)) (emb1_1 t y)

theorem index1_2 (t : Fin cfg1.N) : win1_2.index t (0 : Fin 2) = 0 ∧ win1_2.index t (1 : Fin 2) = 0 :=
  (by decide +kernel : ∀ t : Fin grid1.N, win1_2.index t (0 : Fin 2) = 0 ∧ win1_2.index t (1 : Fin 2) = 0) t

theorem emb1_2 (t : Fin cfg1.N) (y : S64x64.Idx) : ((cfg1.win 2).blk t).view.emb y = y := by
  have e := index1_2 t
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The block of window 2 is its array. -/
theorem whole1_2 (c : Dev nD) (t : Fin cfg1.N) : iblk1 V c 2 t = V c (Pipeline.arrRef spec1 2) :=
  funext fun y => congrArg (V c (Pipeline.arrRef spec1 2)) (emb1_2 t y)

theorem index1_3 (t : Fin cfg1.N) : win1_3.index t (0 : Fin 2) = 0 ∧ win1_3.index t (1 : Fin 2) = 0 :=
  (by decide +kernel : ∀ t : Fin grid1.N, win1_3.index t (0 : Fin 2) = 0 ∧ win1_3.index t (1 : Fin 2) = 0) t

theorem emb1_3 (t : Fin cfg1.N) (y : S64x64.Idx) : ((cfg1.win 3).blk t).view.emb y = y := by
  have e := index1_3 t
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The block of window 3 is its array. -/
theorem whole1_3 (c : Dev nD) (t : Fin cfg1.N) : iblk1 V c 3 t = V c (Pipeline.arrRef spec1 3) :=
  funext fun y => congrArg (V c (Pipeline.arrRef spec1 3)) (emb1_3 t y)

theorem index1_4 (t : Fin cfg1.N) : win1_4.index t (0 : Fin 2) = 0 ∧ win1_4.index t (1 : Fin 2) = 0 :=
  (by decide +kernel : ∀ t : Fin grid1.N, win1_4.index t (0 : Fin 2) = 0 ∧ win1_4.index t (1 : Fin 2) = 0) t

theorem emb1_4 (t : Fin cfg1.N) (y : S64x64.Idx) : ((cfg1.win 4).blk t).view.emb y = y := by
  have e := index1_4 t
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- The block of window 4 is its array. -/
theorem whole1_4 (c : Dev nD) (t : Fin cfg1.N) : iblk1 V c 4 t = V c (Pipeline.arrRef spec1 4) :=
  funext fun y => congrArg (V c (Pipeline.arrRef spec1 4)) (emb1_4 t y)

theorem index1_5 (t : Fin cfg1.N) : win1_5.index t (0 : Fin 2) = 0 ∧ win1_5.index t (1 : Fin 2) = 0 :=
  (by decide +kernel : ∀ t : Fin grid1.N, win1_5.index t (0 : Fin 2) = 0 ∧ win1_5.index t (1 : Fin 2) = 0) t

theorem emb1_5 (t : Fin cfg1.N) (y : S64x64.Idx) : ((cfg1.win 5).blk t).view.emb y = y := by
  have e := index1_5 t
  funext a; apply Fin.ext
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- The block of window 5 is its array. -/
theorem whole1_5 (c : Dev nD) (t : Fin cfg1.N) : iblk1 V c 5 t = V c (Pipeline.arrRef spec1 5) :=
  funext fun y => congrArg (V c (Pipeline.arrRef spec1 5)) (emb1_5 t y)

theorem index1_6 (t : Fin cfg1.N) : win1_6.index t (0 : Fin 1) = 0 :=
  (by decide +kernel : ∀ t : Fin grid1.N, win1_6.index t (0 : Fin 1) = 0) t

theorem emb1_6 (t : Fin cfg1.N) (y : S8.Idx) : ((cfg1.win 6).blk t).view.emb y = y := by
  have e := index1_6 t
  funext a; apply Fin.ext
  match a with
  | ⟨0, _⟩ => show win1_6.index t (0 : Fin 1) * 8 + 1 * (y 0).val = (y 0).val; omega

theorem index1_7 (t : Fin cfg1.N) : win1_7.index t (0 : Fin 2) = 0 ∧ win1_7.index t (1 : Fin 2) = 0 :=
  (by decide +kernel : ∀ t : Fin grid1.N, win1_7.index t (0 : Fin 2) = 0 ∧ win1_7.index t (1 : Fin 2) = 0) t

theorem emb1_7 (t : Fin cfg1.N) (y : S4x8.Idx) : ((cfg1.win 7).blk t).view.emb y = y := by
  have e := index1_7 t
  funext a; apply Fin.ext
  match a with
  | ⟨0, _⟩ => show win1_7.index t (0 : Fin 2) * 4 + 1 * (y 0).val = (y 0).val; omega
  | ⟨1, _⟩ => show win1_7.index t (1 : Fin 2) * 8 + 1 * (y 1).val = (y 1).val; omega

/-- Result 6 of the call. -/
def P6 (c : Dev nD) : Buf (Elt F) ((c : Thread nD τ).loc main_v28_0) := fun i : S8.Idx => pick (left (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (i 0).val)

theorem outsP6 (c : Dev nD) (t : Fin cfg1.N) (y : S8.Idx) : (outsAt1 V c t).1 y = P6 V c y := by
  unfold outsAt1 P6
  dsimp only
  rw [out1_A_6_apply, whole1_0, whole1_1, whole1_2, whole1_3, whole1_4, whole1_5]

theorem readP6 (c : Dev nD) (t : Fin cfg1.N) (g : Buf (Elt F) ((c : Thread nD τ).loc main_v28_0)) :
    ((cfg1.win 6).blk t).view.read (Elt F) g = g :=
  funext fun y => congrArg g (emb1_6 t y)

theorem flushedP6 (c : Dev nD) (t : Fin cfg1.N) : (dat1 V c).flushed 6 t = ((cfg1.win 6).blk t).view.read (Elt F) (P6 V c) := by
  have e : (outsAt1 V c t).1 = P6 V c := funext fun y => outsP6 V c t y
  show (cfg1.win 6).cut (grid1.coords t) ((dat1 V c).after 6 t) = _
  rw [after1_6, readP6, e]

theorem finalP6 (c : Dev nD) : (dat1 V c).arrAt 6 cfg1.N = P6 V c :=
  (dat1 V c).arrAt_eq_of_cover 6 _ (fun t _ => flushedP6 V c t) (fun i =>
    ⟨⟨0, by decide⟩, by decide +kernel, by
      have h := ((cfg1.win 6).blk ⟨0, by decide⟩).view.emb_mem_set i
      rwa [emb1_6] at h⟩)

/-- Result 7 of the call. -/
def P7 (c : Dev nD) : Buf (Elt F) ((c : Thread nD τ).loc main_v28_1) := fun i : S4x8.Idx => scaledAt (inv (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (i 0)) (pick (left (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (i 1).val))

theorem outsP7 (c : Dev nD) (t : Fin cfg1.N) (y : S4x8.Idx) : (outsAt1 V c t).2 y = P7 V c y := by
  unfold outsAt1 P7
  dsimp only
  rw [out1_A_7_apply, whole1_0, whole1_1, whole1_2, whole1_3, whole1_4, whole1_5]

theorem readP7 (c : Dev nD) (t : Fin cfg1.N) (g : Buf (Elt F) ((c : Thread nD τ).loc main_v28_1)) :
    ((cfg1.win 7).blk t).view.read (Elt F) g = g :=
  funext fun y => congrArg g (emb1_7 t y)

theorem flushedP7 (c : Dev nD) (t : Fin cfg1.N) : (dat1 V c).flushed 7 t = ((cfg1.win 7).blk t).view.read (Elt F) (P7 V c) := by
  have e : (outsAt1 V c t).2 = P7 V c := funext fun y => outsP7 V c t y
  show (cfg1.win 7).cut (grid1.coords t) ((dat1 V c).after 7 t) = _
  rw [after1_7, readP7, e]

theorem finalP7 (c : Dev nD) : (dat1 V c).arrAt 7 cfg1.N = P7 V c :=
  (dat1 V c).arrAt_eq_of_cover 7 _ (fun t _ => flushedP7 V c t) (fun i =>
    ⟨⟨0, by decide⟩, by decide +kernel, by
      have h := ((cfg1.win 7).blk ⟨0, by decide⟩).view.emb_mem_set i
      rwa [emb1_7] at h⟩)

end Cert.KernelIdeal.Run

end
-- ==== Proof.Words.lean ====
/- The row the aggregation starts a slice at, as the body computes it in words: the sum of the block's first row and the
   lag, less 4096 where it reaches it; then that row rounded down to a multiple of eight, and the rest. -/
module

public import Idealize.ShloMosaic.Lib.WordArith
public import Idealize.ShloMosaic.Lib.Pointwise

@[expose] public section

namespace Cert.Words

open Idealize.ShloMosaic

/-- The row, wrapped once. -/
def row (a v : BitVec 32) : BitVec 32 :=
  Scalar.select (Scalar.cmpi .sge (Scalar.addi (Scalar.muli a 256#32) v) 4096#32)
    (Scalar.subi (Scalar.addi (Scalar.muli a 256#32) v) 4096#32) (Scalar.addi (Scalar.muli a 256#32) v)

/-- Floor division by eight, as it is spelt for signed words. -/
def floorDiv8 (x : BitVec 32) : BitVec 32 :=
  Scalar.select
    (Scalar.andi
      (Scalar.cmpi .ne (Scalar.subi (Scalar.extui (Scalar.cmpi .sgt x 0#32)) (Scalar.extui (Scalar.cmpi .slt x 0#32)) : BitVec 32)
        (Scalar.subi (Scalar.extui (Scalar.cmpi .sgt 8#32 0#32)) (Scalar.extui (Scalar.cmpi .slt 8#32 0#32))))
      (Scalar.cmpi .ne (Scalar.remsi x 8#32) 0#32))
    (Scalar.subi (Scalar.divsi x 8#32) 1#32) (Scalar.divsi x 8#32)

/-- The row rounded down to a multiple of eight. -/
def row8 (a v : BitVec 32) : BitVec 32 := Scalar.muli (floorDiv8 (row a v)) 8#32

/-- What the rounding takes off. -/
def rest (a v : BitVec 32) : BitVec 32 := Scalar.subi (row a v) (row8 a v)

/-- The wrap and the two roundings of each row number that can occur. -/
theorem row_words : ∀ n : Fin 7937,
    Scalar.select (Scalar.cmpi .sge (BitVec.ofNat 32 n.val) 4096#32) (Scalar.subi (BitVec.ofNat 32 n.val) 4096#32)
      (BitVec.ofNat 32 n.val) = BitVec.ofNat 32 (n.val % 4096) := by decide +kernel

theorem floor_words : ∀ n : Fin 4096, Scalar.muli (floorDiv8 (BitVec.ofNat 32 n.val)) 8#32 = BitVec.ofNat 32 (n.val / 8 * 8)
    ∧ Scalar.subi (BitVec.ofNat 32 n.val) (BitVec.ofNat 32 (n.val / 8 * 8)) = BitVec.ofNat 32 (n.val % 8) := by decide +kernel

/-- The block's first row plus the lag, as one word. -/
theorem sum_word (j : Fin 16) (v : BitVec 32) :
    Scalar.addi (Scalar.muli (BitVec.ofNat 32 j.val) 256#32) v = BitVec.ofNat 32 (j.val * 256 + v.toNat) := by
  apply BitVec.eq_of_toNat_eq
  have := j.isLt
  have := v.isLt
  simp only [Scalar.addi, Scalar.muli, IntOp.addi, IntOp.muli, BitVec.toNat_add, BitVec.toNat_mul, BitVec.toNat_ofNat]
  omega

/-- The row is the sum modulo 4096, -/
theorem row_eq (j : Fin 16) (v : BitVec 32) (hv : v.toNat ≤ 4096) :
    row (BitVec.ofNat 32 j.val) v = BitVec.ofNat 32 ((j.val * 256 + v.toNat) % 4096) := by
  unfold row
  rw [sum_word]
  exact row_words ⟨j.val * 256 + v.toNat, by have := j.isLt; omega⟩

/-- rounded down, -/
theorem row8_eq (j : Fin 16) (v : BitVec 32) (hv : v.toNat ≤ 4096) :
    row8 (BitVec.ofNat 32 j.val) v = BitVec.ofNat 32 ((j.val * 256 + v.toNat) % 4096 / 8 * 8) := by
  unfold row8
  rw [row_eq j v hv]
  exact (floor_words ⟨(j.val * 256 + v.toNat) % 4096, by omega⟩).1

/-- with this rest. -/
theorem rest_eq (j : Fin 16) (v : BitVec 32) (hv : v.toNat ≤ 4096) :
    rest (BitVec.ofNat 32 j.val) v = BitVec.ofNat 32 ((j.val * 256 + v.toNat) % 4096 % 8) := by
  unfold rest
  rw [row8_eq j v hv, row_eq j v hv]
  exact (floor_words ⟨(j.val * 256 + v.toNat) % 4096, by omega⟩).2

/-- The number of the rounded row. -/
theorem row8_toNat (j : Fin 16) (v : BitVec 32) (hv : v.toNat ≤ 4096) :
    (row8 (BitVec.ofNat 32 j.val) v).toNat = (j.val * 256 + v.toNat) % 4096 / 8 * 8 := by
  rw [row8_eq j v hv, BitVec.toNat_ofNat]
  omega

end Cert.Words
-- ==== Proof.KernelIdeal.Slices.lean ====
/- The slices the third call takes are where the body assumes them: the lags picked are at most 4096.  -/
module

public import proofs.«01_k».proof.Proof.KernelIdeal.TopKPick
public import proofs.«01_k».proof.Proof.KernelIdeal.TopKValue
public import proofs.«01_k».proof.Proof.KernelIdeal.Boundaries
public import proofs.«01_k».proof.Proof.KernelIdeal.Agg
public import proofs.«01_k».proof.Proof.Words

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The lags the third call reads are the picks. -/
theorem idx_eq (c : Dev nD) : V4 m ρ c main_v28_0 = P6 (V2 m ρ) c :=
  (W4_of m ρ c main_v28_0 (by decide)).trans ((W3_arr m ρ c 6).trans (finalP6 (V2 m ρ) c))

theorem idx_range (c : Dev nD) (j : S8.Idx) : (V4 m ρ c main_v28_0 j).toNat ≤ 4096 := by
  rw [idx_eq]; exact pick_range _

/-- The weights it reads before the softmax. -/
theorem scaled_eq (c : Dev nD) : W3 m ρ c (Proc.devRef .tc main_v28_1) = P7 (V2 m ρ) c :=
  (W3_arr m ρ c 7).trans (finalP7 (V2 m ρ) c)

variable (V : (c : Dev nD) → (b : Ref sig .tc) → Buf (Elt F) ((c : Thread nD τ).loc b))

theorem index2_0 (t : Fin cfg2.N) : win2_0.index t (0 : Fin 1) = 0 :=
  (by decide +kernel : ∀ t : Fin grid2.N, win2_0.index t (0 : Fin 1) = 0) t

theorem emb2_0 (t : Fin cfg2.N) (y : S8.Idx) : ((cfg2.win 0).blk t).view.emb y = y := by
  have e := index2_0 t
  funext a; apply Fin.ext
  match a with
  | ⟨0, _⟩ => show win2_0.index t (0 : Fin 1) * 8 + 1 * (y 0).val = (y 0).val; omega

/-- The third call's block of lags is all of them. -/
theorem whole2_0 (c : Dev nD) (t : Fin cfg2.N) : iblk2 V c 0 t = V c main_v28_0 :=
  funext fun y => congrArg (V c main_v28_0) (emb2_0 t y)

/-- A lag as the body loads it. -/
theorem lag_load (c : Dev nD) (t : Fin cfg2.N) (k : ℕ) (h : ∀ a : Fin 1, (![k] : Fin 1 → ℕ) a + S1.size a ≤ S8.size a) (hk : k < 8) (x : S1.Idx) :
    (ms2_0 t).view.readAt (Elt F) (Rect.unit (s := S8) ![k] S1.size h).toLoadRect ((hs2_0 t).unread (iblk2 V c 0 t)) x
      = V c main_v28_0 (ix1 (⟨k, hk⟩ : Fin 8)) := by
  rw [View.readAt_eq_ld, (hs2_0 t).read_unread, whole2_0]
  refine congrArg (V c main_v28_0) ?_
  rw [one_idx1 x]
  funext a; apply Fin.ext
  match a with
  | ⟨0, _⟩ => rfl

theorem dvd_of_row8 (j : Fin 16) (v : BitVec 32) (hv : v.toNat ≤ 4096) : 8 ∣ (Cert.Words.row8 (BitVec.ofNat 32 j.val) v).toNat := by
  rw [Cert.Words.row8_toNat j v hv]; exact Nat.dvd_mul_left 8 _

theorem inb_of_row8 (j : Fin 16) (v : BitVec 32) (hv : v.toNat ≤ 4096) :
    ∀ a : Fin 2, (![(Cert.Words.row8 (BitVec.ofNat 32 j.val) v).toNat, 0] : Fin 2 → ℕ) a + S264x1024.size a ≤ S4360x1024.size a := by
  intro a
  have h := Cert.Words.row8_toNat j v hv
  match a with
  | ⟨0, _⟩ => show (Cert.Words.row8 (BitVec.ofNat 32 j.val) v).toNat + 264 ≤ 4360; omega
  | ⟨1, _⟩ => show 0 + 1024 ≤ 1024; omega

/-- Every slice the third call takes starts at a multiple of eight and lies in the buffer. -/
theorem hyps : Hyps (V4 m ρ) := by
  have r := idx_range m ρ
  have q0 : ∀ (c : Dev nD) (t : Fin cfg2.N), Hyps.p0 (V4 m ρ) c t := fun c t => by
    unfold Hyps.p0
    rw [lag_load (V4 m ρ) c t 0 _ (by decide)]
    exact ⟨dvd_of_row8 (grid2.coords t 1) _ (r c _), inb_of_row8 (grid2.coords t 1) _ (r c _)⟩
  have q1 : ∀ (c : Dev nD) (t : Fin cfg2.N), Hyps.p1 (V4 m ρ) c t := fun c t => by
    unfold Hyps.p1
    rw [lag_load (V4 m ρ) c t 1 _ (by decide)]
    exact ⟨dvd_of_row8 (grid2.coords t 1) _ (r c _), inb_of_row8 (grid2.coords t 1) _ (r c _)⟩
  have q2 : ∀ (c : Dev nD) (t : Fin cfg2.N), Hyps.p2 (V4 m ρ) c t := fun c t => by
    unfold Hyps.p2
    rw [lag_load (V4 m ρ) c t 2 _ (by decide)]
    exact ⟨dvd_of_row8 (grid2.coords t 1) _ (r c _), inb_of_row8 (grid2.coords t 1) _ (r c _)⟩
  have q3 : ∀ (c : Dev nD) (t : Fin cfg2.N), Hyps.p3 (V4 m ρ) c t := fun c t => by
    unfold Hyps.p3
    rw [lag_load (V4 m ρ) c t 3 _ (by decide)]
    exact ⟨dvd_of_row8 (grid2.coords t 1) _ (r c _), inb_of_row8 (grid2.coords t 1) _ (r c _)⟩
  have q4 : ∀ (c : Dev nD) (t : Fin cfg2.N), Hyps.p4 (V4 m ρ) c t := fun c t => by
    unfold Hyps.p4
    rw [lag_load (V4 m ρ) c t 4 _ (by decide)]
    exact ⟨dvd_of_row8 (grid2.coords t 1) _ (r c _), inb_of_row8 (grid2.coords t 1) _ (r c _)⟩
  have q5 : ∀ (c : Dev nD) (t : Fin cfg2.N), Hyps.p5 (V4 m ρ) c t := fun c t => by
    unfold Hyps.p5
    rw [lag_load (V4 m ρ) c t 5 _ (by decide)]
    exact ⟨dvd_of_row8 (grid2.coords t 1) _ (r c _), inb_of_row8 (grid2.coords t 1) _ (r c _)⟩
  have q6 : ∀ (c : Dev nD) (t : Fin cfg2.N), Hyps.p6 (V4 m ρ) c t := fun c t => by
    unfold Hyps.p6
    rw [lag_load (V4 m ρ) c t 6 _ (by decide)]
    exact ⟨dvd_of_row8 (grid2.coords t 1) _ (r c _), inb_of_row8 (grid2.coords t 1) _ (r c _)⟩
  have q7 : ∀ (c : Dev nD) (t : Fin cfg2.N), Hyps.p7 (V4 m ρ) c t := fun c t => by
    unfold Hyps.p7
    rw [lag_load (V4 m ρ) c t 7 _ (by decide)]
    exact ⟨dvd_of_row8 (grid2.coords t 1) _ (r c _), inb_of_row8 (grid2.coords t 1) _ (r c _)⟩
  exact Hyps.of q0 q1 q2 q3 q4 q5 q6 q7

end Cert.KernelIdeal.Run

end
-- ==== Proof.Frames.lean ====
module

public import proofs.«01_k».proof.Defs
public import proofs.«01_k».proof.Proof.SameText
public import proofs.«01_k».proof.Proof.KernelIdeal.Whole
public import proofs.«01_k».proof.Proof.KernelIdeal.Slices
public import proofs.«01_k».proof.Proof.Gen.ReferenceIdeal.Run

@[expose] public section

noncomputable section

/-! The three programs end, leave their arguments as they were and every semaphore counter at zero. -/

namespace Cert.Frames

open Idealize.ShloMosaic Idealize.SL.Sem

section
open Cert.KernelIdeal

/-- A program of the kernel's text ends, leaves its arguments as they were and every semaphore counter at zero, over the float words. -/
theorem ofText (d : Defs nD τ sig (Elt Bits) (Pipeline.Sig Λ₀ (Fin 3) fun p => (pcfgs (F := Bits) p).Adm))
    (p : Dev nD → Prog (TpuEff nD τ sig (Elt Bits) (Pipeline.Sig Λ₀ (Fin 3) fun p => (pcfgs (F := Bits) p).Adm) .tc) PUnit)
    (hd : d = defs (F := Bits)) (hp : p = main (F := Bits)) (m : (ℓ : Loc nD τ sig) → Buf (Elt Bits) ℓ) (ρ : Dev nD → PrngReg) :
    θ_run d (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  subst hd hp
  exact (θ_run (defs (F := Bits)) _ _).mono
    (fun _ h => ⟨fun c => ⟨(h.1 c).1, (h.1 c).2.1, (h.1 c).2.2.1, (h.1 c).2.2.2.1⟩, h.2⟩)
    (Run.frame (F := Bits) m ρ (Run.hyps m ρ))

end

/-- The kernel, over the float words. -/
theorem kernel : Cert.quiescent_Kernel := fun m ρ _ =>
  ofText (Cert.Kernel.defs (F := Bits)) (Cert.Kernel.main (F := Bits)) Cert.SameText.defs Cert.SameText.main m ρ

/-- The kernel, over the extended reals. -/
theorem kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.KernelIdeal.Run.frame (F := Ideal) m ρ (Cert.KernelIdeal.Run.hyps m ρ))

/-- The reference: it declares no semaphore. -/
theorem referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Frames

end
-- ==== Proof.RefStages.lean ====
/- The reference read in stages: the transform, the correlations, their means, the lags chosen, the weights and the sum.  -/
module

public import proofs.«01_k».proof.Proof.Gen.ReferenceIdeal.Run
public import Idealize.ShloMosaic.Lib.Pointwise

@[expose] public section

set_option maxRecDepth 16384

noncomputable section

namespace Cert.Reference

open Cert.ReferenceIdeal Cert.ReferenceIdeal.Gen
open Idealize.ShloMosaic Idealize.ShloMosaic.TcCoe Idealize.SL

/-- The angles of the transform. -/
def angle : FVec Ideal S4096x4096 .f32 := Host.divf (mulf (broadcastInDim S4096x4096 ![] bcast_S_S4096x4096 (mulf (constant S_ .f32 0x40000000#32) (Host.acos (constant S_ .f32 0xBF800000#32)))) (sitofp .f32 (muli (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))) (broadcastInDim S4096x4096 ![] bcast_S_S4096x4096 (constant S_ .f32 0x45800000#32))
/-- The cosines. -/
def cosT : FVec Ideal S4096x4096 .f32 := Host.cos angle
/-- The sines. -/
def sinT : FVec Ideal S4096x4096 .f32 := Host.sin angle
/-- An argument with its times last. -/
def turned (x : FVec Ideal S4x4096x16x64 .f32) : FVec Ideal S4x16x64x4096 .f32 := transpose S4x16x64x4096 [0, 2, 3, 1] x transposes_S4x4096x16x64_S4x16x64x4096_0_2_3_1
/-- A product over the last axis. -/
def along (x : FVec Ideal S4x16x64x4096 .f32) (y : FVec Ideal S4096x4096 .f32) : FVec Ideal S4x16x64x4096 .f32 :=
  Host.dotGeneral dot_S4x16x64x4096_S4096x4096_S4x16x64x4096_3_0_012_1_n_n none x y
/-- The real and the imaginary part of an argument's transform. -/
def re (x : FVec Ideal S4x4096x16x64 .f32) : FVec Ideal S4x16x64x4096 .f32 := along (turned x) cosT
def im (x : FVec Ideal S4x4096x16x64 .f32) : FVec Ideal S4x16x64x4096 .f32 := Host.negf (along (turned x) sinT)
/-- The real and the imaginary part of the product of the two transforms. -/
def resRe (q k : FVec Ideal S4x4096x16x64 .f32) : FVec Ideal S4x16x64x4096 .f32 := addf (mulf (re q) (re k)) (mulf (im q) (im k))
def resIm (q k : FVec Ideal S4x4096x16x64 .f32) : FVec Ideal S4x16x64x4096 .f32 := subf (mulf (im q) (re k)) (mulf (re q) (im k))
/-- The correlation of each channel. -/
def corrT (q k : FVec Ideal S4x4096x16x64 .f32) : FVec Ideal S4x16x64x4096 .f32 := Host.divf (subf (along (resRe q k) cosT) (along (resIm q k) sinT)) (broadcastInDim S4x16x64x4096 ![] bcast_S_S4x16x64x4096 (constant S_ .f32 0x45800000#32))
/-- Its mean over the channels. -/
def meanT (c : FVec Ideal S4x16x64x4096 .f32) : FVec Ideal S4x4096 .f32 := Host.divf (Host.reduceAdd (Host.divf (Host.reduceAdd c (constant S_ .f32 0x00000000#32) reducesTo_S4x16x64x4096_S4x64x4096_d1 h_S_) (broadcastInDim S4x64x4096 ![] bcast_S_S4x64x4096 (constant S_ .f32 0x41800000#32))) (constant S_ .f32 0x00000000#32) reducesTo_S4x64x4096_S4x4096_d1 h_S_) (broadcastInDim S4x4096 ![] bcast_S_S4x4096 (constant S_ .f32 0x42800000#32))
/-- The mean over the batches. -/
def meanB (x : FVec Ideal S4x4096 .f32) : FVec Ideal S4096 .f32 := Host.divf (Host.reduceAdd x (constant S_ .f32 0x00000000#32) reducesTo_S4x4096_S4096_d0 h_S_) (broadcastInDim S4096 ![] bcast_S_S4096 (constant S_ .f32 0x40800000#32))
/-- The lags chosen. -/
def topT (x : FVec Ideal S4096 .f32) : IVec S8 32 := (Host.topK S8 0 (FloatOps.cmpfTotal .gt) x sliceFits_S4096_S8).2
/-- The means at the lags chosen. -/
def weightsT (x : FVec Ideal S4x4096 .f32) (i : IVec S8 32) : FVec Ideal S4x8 .f32 := Host.gather gather_S4x4096_S8x1_S4x8_0_1_n_n_1_1_41 x (broadcastInDim S8x1 ![0] bcast_S8_S8x1_0 i)
/-- The softmax over the eight lags of a batch. -/
def softT (x : FVec Ideal S4x8 .f32) : FVec Ideal S4x8 .f32 := Host.divf (Host.exp (subf x (broadcastInDim S4x8 ![0, 1] bcast_S4x1_S4x8_0_1 (broadcastInDim S4x1 ![0] bcast_S4_S4x1_0 (maximumf (broadcastInDim S4 ![] bcast_S_S4 (constant S_ .f32 0xFF800000#32)) (Host.reduce FloatOps.maximumf x (constant S_ .f32 0xFF800000#32) reducesTo_S4x8_S4_d1 h_S_)))))) (broadcastInDim S4x8 ![0, 1] bcast_S4x1_S4x8_0_1 (broadcastInDim S4x1 ![0] bcast_S4_S4x1_0 (Host.reduceAdd (Host.exp (subf x (broadcastInDim S4x8 ![0, 1] bcast_S4x1_S4x8_0_1 (broadcastInDim S4x1 ![0] bcast_S4_S4x1_0 (maximumf (broadcastInDim S4 ![] bcast_S_S4 (constant S_ .f32 0xFF800000#32)) (Host.reduce FloatOps.maximumf x (constant S_ .f32 0xFF800000#32) reducesTo_S4x8_S4_d1 h_S_)))))) (constant S_ .f32 0x00000000#32) reducesTo_S4x8_S4_d1 h_S_)))
/-- The row of the values each lag reads at each time. -/
def rowsT (i : IVec S8 32) : IVec S4096x8 32 := Host.remsi (addi (broadcastInDim S4096x8 ![0, 1] bcast_S4096x1_S4096x8_0_1 (broadcastInDim S4096x1 ![0] bcast_S4096_S4096x1_0 (iotaInDim S4096 32 0))) (broadcastInDim S4096x8 ![0, 1] bcast_S1x8_S4096x8_0_1 (broadcastInDim S1x8 ![1] bcast_S8_S1x8_1 i))) (broadcastInDim S4096x8 ![] bcast_S_S4096x8 (constantI S_ 32 4096#32))
/-- The weighted sum of the values moved by the lags. -/
def outT (v : FVec Ideal S4x4096x16x64 .f32) (r : IVec S4096x8 32) (w : FVec Ideal S4x8 .f32) : FVec Ideal S4x4096x16x64 .f32 := Host.reduceAdd (mulf (Host.gather gather_S4x4096x16x64_S4096x8x1_S4x4096x8x16x64_034_1_n_n_1_2_411664 v (broadcastInDim S4096x8x1 ![0, 1] bcast_S4096x8_S4096x8x1_0_1 r)) (broadcastInDim S4x4096x8x16x64 ![0, 1, 2, 3, 4] bcast_S4x1x8x1x1_S4x4096x8x16x64_0_1_2_3_4 (broadcastInDim S4x1x8x1x1 ![0, 2] bcast_S4x8_S4x1x8x1x1_0_2 w))) (constant S_ .f32 0x00000000#32) reducesTo_S4x4096x8x16x64_S4x4096x16x64_d2 h_S_

set_option maxHeartbeats 4000000 in
/-- The reference's result in those stages. -/
theorem res_eq (m : (ℓ : Loc nD τ sig) → Buf (Elt Ideal) ℓ) (c : Dev nD) (x0 x1 x2 : FVec Ideal S4x4096x16x64 .f32)
    (h0 : m ((c.tc : Thread nD τ).loc main_arg0) = x0) (h1 : m ((c.tc : Thread nD τ).loc main_arg1) = x1) (h2 : m ((c.tc : Thread nD τ).loc main_arg2) = x2) :
    Cert.ReferenceIdeal.Value.res_main_v68 m c
      = outT x2 (rowsT (topT (meanB (meanT (corrT x0 x1))))) (softT (weightsT (meanT (corrT x0 x1)) (topT (meanB (meanT (corrT x0 x1)))))) := by
  subst h0 h1 h2
  rfl

end Cert.Reference

end
-- ==== Proof.Finite.lean ====
/- Arrays of finite numbers inside the extended real numbers.  -/
module

public import Idealize.ShloMosaic.Lib.Pointwise
public import Idealize.ShloMosaic.PureOps.Ideal.Laws

@[expose] public section

noncomputable section

namespace Cert.Finite

open Idealize.ShloMosaic

/-- A finite number less itself is zero. -/
theorem sub_self_real (a : ℝ) : (a : EReal) - (a : EReal) = 0 := by rw [← EReal.coe_sub, sub_self, EReal.coe_zero]

/-- An array of finite numbers. -/
def up {s : Shape} (g : s.Idx → ℝ) : s.Idx → EReal := fun i => ((g i : ℝ) : EReal)

theorem up_apply {s : Shape} (g : s.Idx → ℝ) (i : s.Idx) : up g i = ((g i : ℝ) : EReal) := rfl

/-- A finite sum of finite numbers is the sum in the real numbers. -/
theorem coe_sum {ι : Type} [Fintype ι] (g : ι → ℝ) : (∑ i, ((g i : ℝ) : EReal)) = ((∑ i, g i : ℝ) : EReal) :=
  by
    classical
    induction (Finset.univ : Finset ι) using Finset.induction_on with
    | empty => simp
    | insert a s h ih => rw [Finset.sum_insert h, Finset.sum_insert h, ih, EReal.coe_add]

end Cert.Finite

end
-- ==== Proof.Fourier.lean ====
/- The discrete Fourier transform of 4096 points over the real numbers, in one step and in two steps of 64 points.
   With `t = 64·t1 + t2` and `f = f1 + 64·f2` the angle of `f·t` is, up to whole turns, that of
   `64·t1·f1 + t2·f1 + 64·f2·t2`; with `τ = u + 64·w` the angle of `f·τ` is that of `u·f1 + 64·f1·w + 64·u·f2`.  Every
   equation below is the addition rule for the cosine and the sine, a rearranged sum and this.  -/
module

public import Mathlib.Analysis.SpecialFunctions.Trigonometric.Basic
public import Mathlib.Algebra.BigOperators.Fin

@[expose] public section

noncomputable section

namespace Cert.Fourier

/-- The cosine of `n` parts of a turn in 4096 parts. -/
def C (n : ℕ) : ℝ := Real.cos (2 * Real.pi * n / 4096)

/-- The sine of `n` parts of a turn in 4096 parts. -/
def S (n : ℕ) : ℝ := Real.sin (2 * Real.pi * n / 4096)

theorem C_add (a b : ℕ) : C (a + b) = C a * C b - S a * S b := by
  unfold C S
  rw [← Real.cos_add]
  congr 1
  push_cast
  ring

theorem S_add (a b : ℕ) : S (a + b) = S a * C b + C a * S b := by
  unfold C S
  rw [← Real.sin_add]
  congr 1
  push_cast
  ring

/-- Whole turns do not change the cosine. -/
theorem C_turn (a n : ℕ) : C (a + 4096 * n) = C a := by
  unfold C
  rw [← Real.cos_add_nat_mul_two_pi (2 * Real.pi * a / 4096) n]
  congr 1
  push_cast
  ring

/-- Whole turns do not change the sine. -/
theorem S_turn (a n : ℕ) : S (a + 4096 * n) = S a := by
  unfold S
  rw [← Real.sin_add_nat_mul_two_pi (2 * Real.pi * a / 4096) n]
  congr 1
  push_cast
  ring

/-- A sum over 4096 points by the coarse and the fine index. -/
theorem sum_split (g : ℕ → ℝ) : (∑ t : Fin 4096, g t.val) = ∑ b : Fin 64, ∑ a : Fin 64, g (64 * a.val + b.val) := by
  rw [Finset.sum_comm, ← Fintype.sum_prod_type' (f := fun (a : Fin 64) (b : Fin 64) => g (64 * a.val + b.val)),
    ← (finProdFinEquiv (m := 64) (n := 64)).sum_comp (fun t : Fin 4096 => g t.val)]
  refine Finset.sum_congr rfl fun p _ => congrArg g ?_
  rw [finProdFinEquiv_apply_val]
  omega

/-- The real part of the transform of `x` at the frequency `f`. -/
def X (x : ℕ → ℝ) (f : ℕ) : ℝ := ∑ t : Fin 4096, x t.val * C (t.val * f)

/-- The imaginary part of the transform of `x` at the frequency `f`, with the sign changed. -/
def Y (x : ℕ → ℝ) (f : ℕ) : ℝ := ∑ t : Fin 4096, x t.val * S (t.val * f)

/-- Turning a sum of cosines: the real part. -/
theorem turn_re {ι : Type} [Fintype ι] (a b : ι → ℝ) (n : ι → ℕ) (k : ℕ) :
    ((∑ i, a i * C (n i)) - ∑ i, b i * S (n i)) * C k - ((∑ i, b i * C (n i)) + ∑ i, a i * S (n i)) * S k
      = (∑ i, a i * C (n i + k)) - ∑ i, b i * S (n i + k) := by
  simp only [sub_mul, add_mul, Finset.sum_mul, ← Finset.sum_sub_distrib, ← Finset.sum_add_distrib]
  exact Finset.sum_congr rfl fun i _ => by rw [C_add, S_add]; ring

/-- Turning a sum of cosines: the imaginary part. -/
theorem turn_im {ι : Type} [Fintype ι] (a b : ι → ℝ) (n : ι → ℕ) (k : ℕ) :
    ((∑ i, a i * C (n i)) - ∑ i, b i * S (n i)) * S k + ((∑ i, b i * C (n i)) + ∑ i, a i * S (n i)) * C k
      = (∑ i, b i * C (n i + k)) + ∑ i, a i * S (n i + k) := by
  simp only [sub_mul, add_mul, Finset.sum_mul, ← Finset.sum_sub_distrib, ← Finset.sum_add_distrib]
  exact Finset.sum_congr rfl fun i _ => by rw [C_add, S_add]; ring

/-- The first step and the turn: the real part, at the fine time `t` and the fine frequency `f`. -/
def zr (x : ℕ → ℝ) (t f : ℕ) : ℝ :=
  (∑ a : Fin 64, x (64 * a.val + t) * C (64 * (a.val * f))) * C (t * f) - (∑ a : Fin 64, x (64 * a.val + t) * S (64 * (a.val * f))) * S (t * f)

/-- The first step and the turn: the imaginary part. -/
def zi (x : ℕ → ℝ) (t f : ℕ) : ℝ :=
  0 - (∑ a : Fin 64, x (64 * a.val + t) * S (64 * (a.val * f))) * C (t * f) - (∑ a : Fin 64, x (64 * a.val + t) * C (64 * (a.val * f))) * S (t * f)

theorem zr_eq (x : ℕ → ℝ) (t f : ℕ) : zr x t f = ∑ a : Fin 64, x (64 * a.val + t) * C (64 * (a.val * f) + t * f) := by
  unfold zr
  rw [Finset.sum_mul, Finset.sum_mul, ← Finset.sum_sub_distrib]
  exact Finset.sum_congr rfl fun a _ => by rw [C_add]; ring

theorem zi_eq (x : ℕ → ℝ) (t f : ℕ) : zi x t f = -∑ a : Fin 64, x (64 * a.val + t) * S (64 * (a.val * f) + t * f) := by
  have h : ∀ p q a b : ℝ, 0 - p * a - q * b = -(p * a + q * b) := fun p q a b => by ring
  unfold zi
  rw [h, Finset.sum_mul, Finset.sum_mul, ← Finset.sum_add_distrib]
  exact congrArg Neg.neg (Finset.sum_congr rfl fun a _ => by rw [S_add]; ring)

/-- The two steps give the real part of the transform. -/
theorem two_steps_re (x : ℕ → ℝ) (f g : ℕ) :
    (∑ t : Fin 64, C (64 * (g * t.val)) * zr x t.val f) + ∑ t : Fin 64, S (64 * (g * t.val)) * zi x t.val f = X x (f + 64 * g) := by
  unfold X
  rw [sum_split fun t => x t * C (t * (f + 64 * g)), ← Finset.sum_add_distrib]
  refine Finset.sum_congr rfl fun t _ => ?_
  rw [zr_eq, zi_eq, mul_neg, ← sub_eq_add_neg, Finset.mul_sum, Finset.mul_sum, ← Finset.sum_sub_distrib]
  refine Finset.sum_congr rfl fun a _ => ?_
  have e : (64 * a.val + t.val) * (f + 64 * g) = (64 * (a.val * f) + t.val * f + 64 * (g * t.val)) + 4096 * (a.val * g) := by ring
  rw [e, C_turn, C_add (64 * (a.val * f) + t.val * f)]
  ring

/-- The two steps give the imaginary part of the transform. -/
theorem two_steps_im (x : ℕ → ℝ) (f g : ℕ) :
    (∑ t : Fin 64, C (64 * (g * t.val)) * zi x t.val f) - ∑ t : Fin 64, S (64 * (g * t.val)) * zr x t.val f = -Y x (f + 64 * g) := by
  unfold Y
  rw [sum_split fun t => x t * S (t * (f + 64 * g)), ← Finset.sum_sub_distrib, ← Finset.sum_neg_distrib]
  refine Finset.sum_congr rfl fun t _ => ?_
  rw [zr_eq, zi_eq, mul_neg, ← neg_add', Finset.mul_sum, Finset.mul_sum, ← Finset.sum_add_distrib]
  refine congrArg Neg.neg (Finset.sum_congr rfl fun a _ => ?_)
  have e : (64 * a.val + t.val) * (f + 64 * g) = (64 * (a.val * f) + t.val * f + 64 * (g * t.val)) + 4096 * (a.val * g) := by ring
  rw [e, S_turn, S_add (64 * (a.val * f) + t.val * f)]
  ring

/-- The inverse transform's sum at the lag `s`, of the spectrum with real part `R` and imaginary part `I`. -/
def inverse (R I : ℕ → ℝ) (s : ℕ) : ℝ := (∑ f : Fin 4096, R f.val * C (f.val * s)) - ∑ f : Fin 4096, I f.val * S (f.val * s)

/-- The inverse's first step: the real part, at the fine lag `u` and the fine frequency `f`. -/
def pr (R I : ℕ → ℝ) (u f : ℕ) : ℝ := (∑ g : Fin 64, C (64 * (u * g.val)) * R (f + 64 * g.val)) - ∑ g : Fin 64, S (64 * (u * g.val)) * I (f + 64 * g.val)

/-- The inverse's first step: the imaginary part. -/
def pi (R I : ℕ → ℝ) (u f : ℕ) : ℝ := (∑ g : Fin 64, C (64 * (u * g.val)) * I (f + 64 * g.val)) + ∑ g : Fin 64, S (64 * (u * g.val)) * R (f + 64 * g.val)

theorem pr_eq (R I : ℕ → ℝ) (u f : ℕ) :
    pr R I u f = (∑ g : Fin 64, R (f + 64 * g.val) * C (64 * (u * g.val))) - ∑ g : Fin 64, I (f + 64 * g.val) * S (64 * (u * g.val)) := by
  unfold pr
  simp only [mul_comm (C _), mul_comm (S _)]

theorem pi_eq (R I : ℕ → ℝ) (u f : ℕ) :
    pi R I u f = (∑ g : Fin 64, I (f + 64 * g.val) * C (64 * (u * g.val))) + ∑ g : Fin 64, R (f + 64 * g.val) * S (64 * (u * g.val)) := by
  unfold pi
  simp only [mul_comm (C _), mul_comm (S _)]

/-- The two steps of the inverse give its sum. -/
theorem two_steps_inverse (R I : ℕ → ℝ) (u w : ℕ) :
    (∑ f : Fin 64, (pr R I u f.val * C (u * f.val) - pi R I u f.val * S (u * f.val)) * C (64 * (f.val * w)))
        - ∑ f : Fin 64, (pr R I u f.val * S (u * f.val) + pi R I u f.val * C (u * f.val)) * S (64 * (f.val * w))
      = inverse R I (u + 64 * w) := by
  unfold inverse
  have e : ∀ f g : Fin 64, (f.val + 64 * g.val) * (u + 64 * w) = (64 * (u * g.val) + u * f.val + 64 * (f.val * w)) + 4096 * (g.val * w) := fun f g => by ring
  rw [sum_split fun f => R f * C (f * (u + 64 * w)), sum_split fun f => I f * S (f * (u + 64 * w)), ← Finset.sum_sub_distrib, ← Finset.sum_sub_distrib]
  refine Finset.sum_congr rfl fun f _ => ?_
  rw [pr_eq, pi_eq, turn_re, turn_im, turn_re]
  simp only [fun g : Fin 64 => add_comm (64 * g.val) f.val, e, C_turn, S_turn]

end Cert.Fourier

end
-- ==== Proof.Angles.lean ====
/- The angles, cosines and sines that both programs compute, as values over the real numbers.  -/
module

public import proofs.«01_k».proof.Proof.Finite
public import proofs.«01_k».proof.Proof.Fourier

@[expose] public section

noncomputable section

namespace Cert.Angles

open Idealize.ShloMosaic Cert.Finite

theorem word_two : Ideal.ofBits .f32 0x40000000#32 = ((2 : ℝ) : EReal) := by
  simp [Ideal.ofBits, Ideal.ieee, -EReal.coe_mul, -EReal.coe_neg]; norm_num
theorem word_neg_one : Ideal.ofBits .f32 0xBF800000#32 = ((-1 : ℝ) : EReal) := by
  simp [Ideal.ofBits, Ideal.ieee, -EReal.coe_mul, -EReal.coe_neg]; norm_num
theorem word_4 : Ideal.ofBits .f32 0x40800000#32 = ((4 : ℝ) : EReal) := by
  simp [Ideal.ofBits, Ideal.ieee, -EReal.coe_mul, -EReal.coe_neg]; norm_num
theorem word_16 : Ideal.ofBits .f32 0x41800000#32 = ((16 : ℝ) : EReal) := by
  simp [Ideal.ofBits, Ideal.ieee, -EReal.coe_mul, -EReal.coe_neg]; norm_num
theorem word_64 : Ideal.ofBits .f32 0x42800000#32 = ((64 : ℝ) : EReal) := by
  simp [Ideal.ofBits, Ideal.ieee, -EReal.coe_mul, -EReal.coe_neg]; norm_num
theorem word_4096 : Ideal.ofBits .f32 0x45800000#32 = ((4096 : ℝ) : EReal) := by
  simp [Ideal.ofBits, Ideal.ieee, -EReal.coe_mul, -EReal.coe_neg]; norm_num
/-- The scale of a mean over the lags, the heads and the entries of a head. -/
theorem word_scale : Ideal.ofBits .f32 0x34800000#32 = ((1 / (4096 * (16 * 64)) : ℝ) : EReal) := by
  simp [Ideal.ofBits, Ideal.ieee, -EReal.coe_mul, -EReal.coe_neg]; norm_num

/-- The product of two small indices as a 32-bit word is their product. -/
theorem product (a b : ℕ) (ha : a ≤ 4095) (hb : b ≤ 4095) :
    (FloatOps.sitofp (F := Ideal) .f32 (IntOp.muli (BitVec.ofNat 32 a) (BitVec.ofNat 32 b)) : EReal) = (((a * b : ℕ) : ℝ) : EReal) := by
  have hab : a * b ≤ 4095 * 4095 := Nat.mul_le_mul ha hb
  show ((((BitVec.ofNat 32 a * BitVec.ofNat 32 b).toInt : ℤ) : ℝ) : EReal) = _
  have e : (BitVec.ofNat 32 a * BitVec.ofNat 32 b).toInt = ((a * b : ℕ) : ℤ) := by
    have h : (BitVec.ofNat 32 (a * b)).toNat = a * b := by rw [BitVec.toNat_ofNat]; exact Nat.mod_eq_of_lt (by omega)
    rw [← BitVec.ofNat_mul, BitVec.toInt_eq_toNat_of_lt (by rw [h]; omega), h]
  rw [e]
  norm_cast

/-- The angle of the two indices' product, in parts of a turn. -/
theorem angle (a b : ℕ) (ha : a ≤ 4095) (hb : b ≤ 4095) (d : ℝ) (hd : d ≠ 0) (w : BitVec 32) (hw : Ideal.ofBits .f32 w = ((d : ℝ) : EReal)) :
    Ideal.div (Ideal.ofBits .f32 0x40000000#32 * Ideal.acos (Ideal.ofBits .f32 0xBF800000#32)
        * FloatOps.sitofp (F := Ideal) .f32 (IntOp.muli (BitVec.ofNat 32 a) (BitVec.ofNat 32 b))) (Ideal.ofBits .f32 w)
      = ((2 * Real.pi * (a * b : ℕ) / d : ℝ) : EReal) := by
  rw [product a b ha hb, hw, word_two, word_neg_one, Ideal.acos_coe, if_pos (by norm_num), Real.arccos_neg_one, Ideal.div_coe hd,
    ← EReal.coe_mul, ← EReal.coe_mul, ← EReal.coe_mul, mul_one_div]

theorem cos_4096 (a b : ℕ) (ha : a ≤ 4095) (hb : b ≤ 4095) :
    Ideal.cos (Ideal.div (Ideal.ofBits .f32 0x40000000#32 * Ideal.acos (Ideal.ofBits .f32 0xBF800000#32)
        * FloatOps.sitofp (F := Ideal) .f32 (IntOp.muli (BitVec.ofNat 32 a) (BitVec.ofNat 32 b))) (Ideal.ofBits .f32 0x45800000#32))
      = ((Fourier.C (a * b) : ℝ) : EReal) := by
  rw [angle a b ha hb 4096 (by norm_num) _ word_4096, Ideal.cos_coe]; rfl

theorem sin_4096 (a b : ℕ) (ha : a ≤ 4095) (hb : b ≤ 4095) :
    Ideal.sin (Ideal.div (Ideal.ofBits .f32 0x40000000#32 * Ideal.acos (Ideal.ofBits .f32 0xBF800000#32)
        * FloatOps.sitofp (F := Ideal) .f32 (IntOp.muli (BitVec.ofNat 32 a) (BitVec.ofNat 32 b))) (Ideal.ofBits .f32 0x45800000#32))
      = ((Fourier.S (a * b) : ℝ) : EReal) := by
  rw [angle a b ha hb 4096 (by norm_num) _ word_4096, Ideal.sin_coe]; rfl

theorem cos_64 (a b : ℕ) (ha : a ≤ 4095) (hb : b ≤ 4095) :
    Ideal.cos (Ideal.div (Ideal.ofBits .f32 0x40000000#32 * Ideal.acos (Ideal.ofBits .f32 0xBF800000#32)
        * FloatOps.sitofp (F := Ideal) .f32 (IntOp.muli (BitVec.ofNat 32 a) (BitVec.ofNat 32 b))) (Ideal.ofBits .f32 0x42800000#32))
      = ((Fourier.C (64 * (a * b)) : ℝ) : EReal) := by
  rw [angle a b ha hb 64 (by norm_num) _ word_64, Ideal.cos_coe]
  unfold Fourier.C
  congr 2
  push_cast
  ring

theorem sin_64 (a b : ℕ) (ha : a ≤ 4095) (hb : b ≤ 4095) :
    Ideal.sin (Ideal.div (Ideal.ofBits .f32 0x40000000#32 * Ideal.acos (Ideal.ofBits .f32 0xBF800000#32)
        * FloatOps.sitofp (F := Ideal) .f32 (IntOp.muli (BitVec.ofNat 32 a) (BitVec.ofNat 32 b))) (Ideal.ofBits .f32 0x42800000#32))
      = ((Fourier.S (64 * (a * b)) : ℝ) : EReal) := by
  rw [angle a b ha hb 64 (by norm_num) _ word_64, Ideal.sin_coe]
  unfold Fourier.S
  congr 2
  push_cast
  ring

end Cert.Angles

end
-- ==== Proof.RefRead.lean ====
/- The reference's stages read at an index.  -/
module

public import proofs.«01_k».proof.Proof.RefStages
public import proofs.«01_k».proof.Proof.Angles
public import proofs.«01_k».proof.Proof.Finite

@[expose] public section

set_option maxRecDepth 16384

noncomputable section

namespace Cert.Reference

open Cert.ReferenceIdeal Cert.ReferenceIdeal.Gen Cert.Finite
open Idealize.ShloMosaic Idealize.ShloMosaic.TcCoe Idealize.SL

/-- The table of cosines. -/
theorem cos_apply (a b : Fin 4096) : cosT (ix2 a b) = ((Fourier.C (a.val * b.val) : ℝ) : EReal) := by
  refine Eq.trans ?_ (Angles.cos_4096 a.val b.val (by omega) (by omega))
  unfold cosT angle
  pointwise

/-- The table of sines. -/
theorem sin_apply (a b : Fin 4096) : sinT (ix2 a b) = ((Fourier.S (a.val * b.val) : ℝ) : EReal) := by
  refine Eq.trans ?_ (Angles.sin_4096 a.val b.val (by omega) (by omega))
  unfold sinT angle
  pointwise

/-- A product over the times. -/
theorem along_apply (x : FVec Ideal S4x16x64x4096 .f32) (y : FVec Ideal S4096x4096 .f32) (b : Fin 4) (h : Fin 16) (e : Fin 64) (f : Fin 4096) :
    along x y (ix4 b h e f) = ∑ t : Fin 4096, x (ix4 b h e t) * y (ix2 t f) := by
  unfold along
  pointwise

/-- The times last. -/
theorem turned_apply (x : FVec Ideal S4x4096x16x64 .f32) (b : Fin 4) (h : Fin 16) (e : Fin 64) (f : Fin 4096) :
    turned x (ix4 b h e f) = x (ix4 b f h e) := by
  unfold turned
  pointwise

/-- The mean over heads and features. -/
theorem meanT_apply (x : FVec Ideal S4x16x64x4096 .f32) (b : Fin 4) (f : Fin 4096) :
    meanT x (ix2 b f) = Ideal.div (∑ e : Fin 64, Ideal.div (∑ h : Fin 16, x (ix4 b h e f)) (Ideal.ofBits .f32 0x41800000#32)) (Ideal.ofBits .f32 0x42800000#32) := by
  unfold meanT
  pointwise

/-- The mean over the batches. -/
theorem meanB_apply (x : FVec Ideal S4x4096 .f32) (f : Fin 4096) :
    meanB x (ix1 f) = Ideal.div (∑ b : Fin 4, x (ix2 b f)) (Ideal.ofBits .f32 0x40800000#32) := by
  unfold meanB
  pointwise

/-- The means at eight positions. -/
theorem gather_weights (x : S4x4096.Idx → EReal) (idx : IVec S8x1 32) (b : Fin 4) (i : Fin 8) :
    Host.gather gather_S4x4096_S8x1_S4x8_0_1_n_n_1_1_41 x idx (ix2 b i)
      = x (ix2 b (⟨min (idx (ix2 i (0 : Fin 1))).toInt.toNat 4095, by omega⟩ : Fin 4096)) := by
  unfold Host.gather
  refine congrArg x ?_
  funext a
  refine Fin.ext ?_
  show gather_S4x4096_S8x1_S4x8_0_1_n_n_1_1_41.start (ix2 b i) idx a + gather_S4x4096_S8x1_S4x8_0_1_n_n_1_1_41.batchCoord (ix2 b i) a
    + gather_S4x4096_S8x1_S4x8_0_1_n_n_1_1_41.offCoord (ix2 b i) a = _
  rw [GatherDims.batchCoord_eq_zero _ _ _ List.not_mem_nil]
  unfold GatherDims.start GatherDims.offCoord
  match a with
  | ⟨0, _⟩ =>
    rw [dif_neg (by decide +revert), dif_pos (by decide +revert)]
    show 0 + 0 + b.val = b.val
    omega
  | ⟨1, _⟩ =>
    rw [dif_pos (by decide +revert), dif_neg (by decide +revert)]
    refine congrArg (fun z => min (idx z).toInt.toNat 4095) ?_
    funext d
    match d with
    | ⟨0, _⟩ => rfl
    | ⟨1, _⟩ => rfl

/-- The rows of the values at given positions. -/
theorem gather_rows (x : S4x4096x16x64.Idx → EReal) (idx : IVec S4096x8x1 32) (b : Fin 4) (t : Fin 4096) (i : Fin 8) (h : Fin 16) (e : Fin 64) :
    Host.gather gather_S4x4096x16x64_S4096x8x1_S4x4096x8x16x64_034_1_n_n_1_2_411664 x idx (ix5 b t i h e)
      = x (ix4 b (⟨min (idx (ix3 t i (0 : Fin 1))).toInt.toNat 4095, by omega⟩ : Fin 4096) h e) := by
  unfold Host.gather
  refine congrArg x ?_
  funext a
  refine Fin.ext ?_
  show gather_S4x4096x16x64_S4096x8x1_S4x4096x8x16x64_034_1_n_n_1_2_411664.start (ix5 b t i h e) idx a + gather_S4x4096x16x64_S4096x8x1_S4x4096x8x16x64_034_1_n_n_1_2_411664.batchCoord (ix5 b t i h e) a
    + gather_S4x4096x16x64_S4096x8x1_S4x4096x8x16x64_034_1_n_n_1_2_411664.offCoord (ix5 b t i h e) a = _
  rw [GatherDims.batchCoord_eq_zero _ _ _ List.not_mem_nil]
  unfold GatherDims.start GatherDims.offCoord
  match a with
  | ⟨0, _⟩ =>
    rw [dif_neg (by decide +revert), dif_pos (by decide +revert)]
    show 0 + 0 + b.val = b.val
    omega
  | ⟨1, _⟩ =>
    rw [dif_pos (by decide +revert), dif_neg (by decide +revert)]
    refine congrArg (fun z => min (idx z).toInt.toNat 4095) ?_
    funext d
    match d with
    | ⟨0, _⟩ => rfl
    | ⟨1, _⟩ => rfl
    | ⟨2, _⟩ => rfl
  | ⟨2, _⟩ =>
    rw [dif_neg (by decide +revert), dif_pos (by decide +revert)]
    show 0 + 0 + h.val = h.val
    omega
  | ⟨3, _⟩ =>
    rw [dif_neg (by decide +revert), dif_pos (by decide +revert)]
    show 0 + 0 + e.val = e.val
    omega

/-- The row read at a time for a lag, as a word. -/
theorem rows_apply (i : IVec S8 32) (t : Fin 4096) (j : Fin 8) :
    rowsT i (ix2 t j) = IntOp.remsi .host (BitVec.ofNat 32 t.val + i (ix1 j)) 4096#32 := by
  unfold rowsT
  pointwise
  rfl

/-- The weighted sum over the lags. -/
theorem out_apply (v : FVec Ideal S4x4096x16x64 .f32) (r : IVec S4096x8 32) (w : FVec Ideal S4x8 .f32) (b : Fin 4) (t : Fin 4096) (h : Fin 16) (e : Fin 64) :
    outT v r w (ix4 b t h e) = ∑ i : Fin 8, v (ix4 b (⟨min (r (ix2 t i)).toInt.toNat 4095, by omega⟩ : Fin 4096) h e) * w (ix2 b i) := by
  unfold outT
  pointwise
  refine Finset.sum_congr rfl fun i _ => ?_
  rw [gather_rows]
  have e1 : broadcastInDim S4096x8x1 ![0, 1] bcast_S4096x8_S4096x8x1_0_1 r (ix3 t i (0 : Fin 1)) = r (ix2 t i) := by pointwise
  simp only [e1]

end Cert.Reference
end
-- ==== Proof.KernelIdeal.Shift.lean ====
/- How the aggregation moves a slice by less than eight rows: three selects, on the remainders by eight, four and two of
   the row.  A block is the sum of the eight slices, each times its weight.  -/
module

public import proofs.«01_k».proof.Proof.Gen.KernelIdeal.Skeleton
public import proofs.«01_k».proof.Proof.Words
public import Idealize.ShloMosaic.Lib.Pointwise

@[expose] public section

set_option maxRecDepth 16384

noncomputable section

namespace Cert.KernelIdeal.Run

open Cert.KernelIdeal.Gen
open Idealize.ShloMosaic

variable {F : FTy → Type} [FloatOps F]

/-- The remainder with the divisor's sign, as words. -/
def wrap (r e : BitVec 32) : BitVec 32 :=
  Scalar.select
    (Scalar.andi (Scalar.xori (Scalar.cmpi .slt (Scalar.remsi r e) 0#32) (Scalar.cmpi .slt e 0#32))
      (Scalar.cmpi .ne (Scalar.remsi r e) 0#32))
    (Scalar.addi (Scalar.remsi r e) e) (Scalar.remsi r e)

/-- The divisor, one where it is zero. -/
def divisor (d : BitVec 32) : BitVec 32 := Scalar.select (Scalar.cmpi .eq d 0#32) 1#32 d

def by4 (r : BitVec 32) (x : FVec F S264x1024 .f32) : FVec F S260x1024 .f32 :=
  Scalar.select (Scalar.cmpi .sge r 4#32) (extractStridedSlice S260x1024 ![4, 0] x slices_S264x1024_o4_0_S260x1024)
    (extractStridedSlice S260x1024 ![0, 0] x slices_S264x1024_o0_0_S260x1024)

def by2 (r : BitVec 32) (x : FVec F S264x1024 .f32) : FVec F S258x1024 .f32 :=
  Scalar.select (Scalar.cmpi .sge (wrap r (divisor 4#32)) 2#32)
    (extractStridedSlice S258x1024 ![2, 0] (by4 r x) slices_S260x1024_o2_0_S258x1024)
    (extractStridedSlice S258x1024 ![0, 0] (by4 r x) slices_S260x1024_o0_0_S258x1024)

def by1 (r : BitVec 32) (x : FVec F S264x1024 .f32) : FVec F S257x1024 .f32 :=
  Scalar.select (Scalar.cmpi .sge (wrap r (divisor 2#32)) 1#32)
    (extractStridedSlice S257x1024 ![1, 0] (by2 r x) slices_S258x1024_o1_0_S257x1024)
    (extractStridedSlice S257x1024 ![0, 0] (by2 r x) slices_S258x1024_o0_0_S257x1024)

/-- The 256 rows from row `r` on. -/
def shifted (r : BitVec 32) (x : FVec F S264x1024 .f32) : FVec F S256x1024 .f32 :=
  extractStridedSlice S256x1024 ![0, 0] (by1 r x) slices_S257x1024_o0_0_S256x1024

/-- One slice times its weight. -/
def term (r : BitVec 32) (w : Elt F .f32) (x : FVec F S264x1024 .f32) : FVec F S256x1024 .f32 :=
  mulf (broadcast S256x1024 w) (shifted r x)

theorem select_one {α : Type} (c : BitVec 1) (h : c = 1#1) (a b : α) : Scalar.select c a b = a := by subst h; rfl
theorem select_zero {α : Type} (c : BitVec 1) (h : c = 0#1) (a b : α) : Scalar.select c a b = b := by subst h; rfl

/-- The three bits of a number below eight. -/
theorem bit4 : ∀ k : Fin 8, Scalar.cmpi .sge (BitVec.ofNat 32 k.val) 4#32 = if k.val / 4 = 1 then 1#1 else 0#1 := by decide +kernel
theorem bit2 : ∀ k : Fin 8, Scalar.cmpi .sge (wrap (BitVec.ofNat 32 k.val) (divisor 4#32)) 2#32
    = if k.val / 2 % 2 = 1 then 1#1 else 0#1 := by decide +kernel
theorem bit1 : ∀ k : Fin 8, Scalar.cmpi .sge (wrap (BitVec.ofNat 32 k.val) (divisor 2#32)) 1#32
    = if k.val % 2 = 1 then 1#1 else 0#1 := by decide +kernel

theorem by4_apply (k : Fin 8) (x : FVec F S264x1024 .f32) (t : Fin 260) (n : Fin 1024) :
    by4 (BitVec.ofNat 32 k.val) x (ix2 t n) = x (ix2 (⟨t.val + 4 * (k.val / 4), by omega⟩ : Fin 264) n) := by
  unfold by4
  rw [bit4 k]
  split
  · rename_i h
    rw [select_one _ rfl]
    refine congrArg x ?_
    funext a; apply Fin.ext
    match a with
    | ⟨0, _⟩ => show 4 + t.val = t.val + 4 * (k.val / 4); omega
    | ⟨1, _⟩ => show 0 + n.val = n.val; omega
  · rename_i h
    rw [select_zero _ rfl]
    refine congrArg x ?_
    funext a; apply Fin.ext
    match a with
    | ⟨0, _⟩ => show 0 + t.val = t.val + 4 * (k.val / 4); omega
    | ⟨1, _⟩ => show 0 + n.val = n.val; omega

theorem by2_apply (k : Fin 8) (x : FVec F S264x1024 .f32) (t : Fin 258) (n : Fin 1024) :
    by2 (BitVec.ofNat 32 k.val) x (ix2 t n)
      = x (ix2 (⟨t.val + 2 * (k.val / 2 % 2) + 4 * (k.val / 4), by omega⟩ : Fin 264) n) := by
  refine Eq.trans ?_ (by4_apply k x (⟨t.val + 2 * (k.val / 2 % 2), by omega⟩ : Fin 260) n)
  unfold by2
  rw [bit2 k]
  split
  · rename_i h
    rw [select_one _ rfl]
    refine congrArg (by4 (BitVec.ofNat 32 k.val) x) ?_
    funext a; apply Fin.ext
    match a with
    | ⟨0, _⟩ => show 2 + t.val = t.val + 2 * (k.val / 2 % 2); omega
    | ⟨1, _⟩ => show 0 + n.val = n.val; omega
  · rename_i h
    rw [select_zero _ rfl]
    refine congrArg (by4 (BitVec.ofNat 32 k.val) x) ?_
    funext a; apply Fin.ext
    match a with
    | ⟨0, _⟩ => show 0 + t.val = t.val + 2 * (k.val / 2 % 2); omega
    | ⟨1, _⟩ => show 0 + n.val = n.val; omega

theorem by1_apply (k : Fin 8) (x : FVec F S264x1024 .f32) (t : Fin 257) (n : Fin 1024) :
    by1 (BitVec.ofNat 32 k.val) x (ix2 t n) = x (ix2 (⟨t.val + k.val, by omega⟩ : Fin 264) n) := by
  refine Eq.trans ?_ ((by2_apply k x (⟨t.val + k.val % 2, by omega⟩ : Fin 258) n).trans
    (congrArg (fun a => x (ix2 a n)) (Fin.ext (by show t.val + k.val % 2 + 2 * (k.val / 2 % 2) + 4 * (k.val / 4) = t.val + k.val; omega))))
  unfold by1
  rw [bit1 k]
  split
  · rename_i h
    rw [select_one _ rfl]
    refine congrArg (by2 (BitVec.ofNat 32 k.val) x) ?_
    funext a; apply Fin.ext
    match a with
    | ⟨0, _⟩ => show 1 + t.val = t.val + k.val % 2; omega
    | ⟨1, _⟩ => show 0 + n.val = n.val; omega
  · rename_i h
    rw [select_zero _ rfl]
    refine congrArg (by2 (BitVec.ofNat 32 k.val) x) ?_
    funext a; apply Fin.ext
    match a with
    | ⟨0, _⟩ => show 0 + t.val = t.val + k.val % 2; omega
    | ⟨1, _⟩ => show 0 + n.val = n.val; omega

/-- Row `t` of the slice is row `t + k` of what was loaded. -/
theorem shifted_apply (k : Fin 8) (x : FVec F S264x1024 .f32) (t : Fin 256) (n : Fin 1024) :
    shifted (BitVec.ofNat 32 k.val) x (ix2 t n) = x (ix2 (⟨t.val + k.val, by omega⟩ : Fin 264) n) := by
  refine Eq.trans ?_ (by1_apply k x (⟨t.val, by omega⟩ : Fin 257) n)
  refine congrArg (by1 (BitVec.ofNat 32 k.val) x) ?_
  funext a; apply Fin.ext
  match a with
  | ⟨0, _⟩ => show 0 + t.val = t.val; omega
  | ⟨1, _⟩ => show 0 + n.val = n.val; omega

end Cert.KernelIdeal.Run

end
-- ==== Proof.KernelIdeal.AggForm.lean ====
/- The block the third call's body stores, as the sum of its eight terms: at the first block of a batch, and at a later one.  -/
module

public import proofs.«01_k».proof.Proof.KernelIdeal.AggRun
public import proofs.«01_k».proof.Proof.KernelIdeal.Shift
public import Idealize.ShloMosaic.Lib.Pipeline.Value

@[expose] public section

set_option maxRecDepth 16384

noncomputable section

namespace Cert.KernelIdeal.Run

open Cert.KernelIdeal.Gen
open Idealize.ShloMosaic Idealize.ShloMosaic.TcCoe Idealize.ShloMosaic.Tactic
open Idealize.SL

variable {F : FTy → Type} [FloatOps F]

/-- The eight terms, added from the left. -/
def eight (a : BitVec 32) (l : Fin 8 → BitVec 32) (w : Fin 8 → Elt F .f32) (x : Fin 8 → FVec F S264x1024 .f32) : ℕ → FVec F S256x1024 .f32
  | 0 => term (Cert.Words.rest a (l 0)) (w 0) (x 0)
  | k + 1 => addf (eight a l w x k) (term (Cert.Words.rest a (l (Fin.ofNat 8 (k + 1)))) (w (Fin.ofNat 8 (k + 1))) (x (Fin.ofNat 8 (k + 1))))

/-- The block of the result. -/
def aggBlock (a : BitVec 32) (l : Fin 8 → BitVec 32) (w : Fin 8 → Elt F .f32) (x : Fin 8 → FVec F S264x1024 .f32) : FVec F S1x256x1024 .f32 :=
  shapeCast S1x256x1024 (eight a l w x 7) shapeCasts_S256x1024_S1x256x1024

/-- The block at the first block of a batch. -/
theorem block2_A (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) :
    out2_A_2 c i arg2 harg2 arg3 harg3 arg5 harg5 arg6 harg6 hc0 x0 x1 xs0 fh0 k2_hw1 k2_hw2 k2_hw3 k2_hw4 k2_hw5 k2_hw6 k2_hw7 k2_hw8 = aggBlock (BitVec.ofNat 32 (i 1).val)
      ![kernelRun2_A.sl.r c arg2 harg2 x0, kernelRun2_A.sl.r_2 c arg2 harg2 x0, kernelRun2_A.sl.r_5 c arg2 harg2 x0, kernelRun2_A.sl.r_9 c arg2 harg2 x0, kernelRun2_A.sl.r_12 c arg2 harg2 x0, kernelRun2_A.sl.r_16 c arg2 harg2 x0, kernelRun2_A.sl.r_18 c arg2 harg2 x0, kernelRun2_A.sl.r_21 c arg2 harg2 x0]
      ![kernelRun2_A.sl.r_1 c i arg3 harg3 x1, kernelRun2_A.sl.r_4 c i arg3 harg3 x1, kernelRun2_A.sl.r_8 c i arg3 harg3 x1, kernelRun2_A.sl.r_11 c i arg3 harg3 x1, kernelRun2_A.sl.r_14 c i arg3 harg3 x1, kernelRun2_A.sl.r_17 c i arg3 harg3 x1, kernelRun2_A.sl.r_20 c i arg3 harg3 x1, kernelRun2_A.sl.r_24 c i arg3 harg3 x1]
      ![kernelRun2_A.sl.v30 c i arg2 harg2 arg6 hc0 x0 fh0 k2_hw1,
        kernelRun2_A.sl.v94 c i arg2 harg2 arg6 hc0 x0 fh0 k2_hw2,
        kernelRun2_A.sl.v159 c i arg2 harg2 arg6 hc0 x0 fh0 k2_hw3,
        kernelRun2_A.sl.v224 c i arg2 harg2 arg6 hc0 x0 fh0 k2_hw4,
        kernelRun2_A.sl.v289 c i arg2 harg2 arg6 hc0 x0 fh0 k2_hw5,
        kernelRun2_A.sl.v354 c i arg2 harg2 arg6 hc0 x0 fh0 k2_hw6,
        kernelRun2_A.sl.v419 c i arg2 harg2 arg6 hc0 x0 fh0 k2_hw7,
        kernelRun2_A.sl.v484 c i arg2 harg2 arg6 hc0 x0 fh0 k2_hw8] := by
  have h0 : kernelRun2_A.sl.r_3 c i arg2 harg2 arg3 harg3 arg6 hc0 x0 x1 fh0 k2_hw1 = term (Cert.Words.rest (BitVec.ofNat 32 (i 1).val) (kernelRun2_A.sl.r c arg2 harg2 x0)) (kernelRun2_A.sl.r_1 c i arg3 harg3 x1) (kernelRun2_A.sl.v30 c i arg2 harg2 arg6 hc0 x0 fh0 k2_hw1) := rfl
  have h1 : kernelRun2_A.sl.r_6 c i arg2 harg2 arg3 harg3 arg6 hc0 x0 x1 fh0 k2_hw1 k2_hw2 = addf (kernelRun2_A.sl.r_3 c i arg2 harg2 arg3 harg3 arg6 hc0 x0 x1 fh0 k2_hw1) (term (Cert.Words.rest (BitVec.ofNat 32 (i 1).val) (kernelRun2_A.sl.r_2 c arg2 harg2 x0)) (kernelRun2_A.sl.r_4 c i arg3 harg3 x1) (kernelRun2_A.sl.v94 c i arg2 harg2 arg6 hc0 x0 fh0 k2_hw2)) := rfl
  have h2 : kernelRun2_A.sl.r_10 c i arg2 harg2 arg3 harg3 arg6 hc0 x0 x1 fh0 k2_hw1 k2_hw2 k2_hw3 = addf (kernelRun2_A.sl.r_6 c i arg2 harg2 arg3 harg3 arg6 hc0 x0 x1 fh0 k2_hw1 k2_hw2) (term (Cert.Words.rest (BitVec.ofNat 32 (i 1).val) (kernelRun2_A.sl.r_5 c arg2 harg2 x0)) (kernelRun2_A.sl.r_8 c i arg3 harg3 x1) (kernelRun2_A.sl.v159 c i arg2 harg2 arg6 hc0 x0 fh0 k2_hw3)) := rfl
  have h3 : kernelRun2_A.sl.r_13 c i arg2 harg2 arg3 harg3 arg6 hc0 x0 x1 fh0 k2_hw1 k2_hw2 k2_hw3 k2_hw4 = addf (kernelRun2_A.sl.r_10 c i arg2 harg2 arg3 harg3 arg6 hc0 x0 x1 fh0 k2_hw1 k2_hw2 k2_hw3) (term (Cert.Words.rest (BitVec.ofNat 32 (i 1).val) (kernelRun2_A.sl.r_9 c arg2 harg2 x0)) (kernelRun2_A.sl.r_11 c i arg3 harg3 x1) (kernelRun2_A.sl.v224 c i arg2 harg2 arg6 hc0 x0 fh0 k2_hw4)) := rfl
  have h4 : kernelRun2_A.sl.r_15 c i arg2 harg2 arg3 harg3 arg6 hc0 x0 x1 fh0 k2_hw1 k2_hw2 k2_hw3 k2_hw4 k2_hw5 = addf (kernelRun2_A.sl.r_13 c i arg2 harg2 arg3 harg3 arg6 hc0 x0 x1 fh0 k2_hw1 k2_hw2 k2_hw3 k2_hw4) (term (Cert.Words.rest (BitVec.ofNat 32 (i 1).val) (kernelRun2_A.sl.r_12 c arg2 harg2 x0)) (kernelRun2_A.sl.r_14 c i arg3 harg3 x1) (kernelRun2_A.sl.v289 c i arg2 harg2 arg6 hc0 x0 fh0 k2_hw5)) := rfl
  have h5 : kernelRun2_A.sl.r_19 c i arg2 harg2 arg3 harg3 arg6 hc0 x0 x1 fh0 k2_hw1 k2_hw2 k2_hw3 k2_hw4 k2_hw5 k2_hw6 = addf (kernelRun2_A.sl.r_15 c i arg2 harg2 arg3 harg3 arg6 hc0 x0 x1 fh0 k2_hw1 k2_hw2 k2_hw3 k2_hw4 k2_hw5) (term (Cert.Words.rest (BitVec.ofNat 32 (i 1).val) (kernelRun2_A.sl.r_16 c arg2 harg2 x0)) (kernelRun2_A.sl.r_17 c i arg3 harg3 x1) (kernelRun2_A.sl.v354 c i arg2 harg2 arg6 hc0 x0 fh0 k2_hw6)) := rfl
  have h6 : kernelRun2_A.sl.r_22 c i arg2 harg2 arg3 harg3 arg6 hc0 x0 x1 fh0 k2_hw1 k2_hw2 k2_hw3 k2_hw4 k2_hw5 k2_hw6 k2_hw7 = addf (kernelRun2_A.sl.r_19 c i arg2 harg2 arg3 harg3 arg6 hc0 x0 x1 fh0 k2_hw1 k2_hw2 k2_hw3 k2_hw4 k2_hw5 k2_hw6) (term (Cert.Words.rest (BitVec.ofNat 32 (i 1).val) (kernelRun2_A.sl.r_18 c arg2 harg2 x0)) (kernelRun2_A.sl.r_20 c i arg3 harg3 x1) (kernelRun2_A.sl.v419 c i arg2 harg2 arg6 hc0 x0 fh0 k2_hw7)) := rfl
  unfold out2_A_2
  rw [View.read_writes_eq_canon _ _ _ (cover2_A_2 c i arg2 harg2 arg3 harg3 arg5 harg5 arg6 harg6 hc0 x0 x1 xs0 fh0 k2_hw1 k2_hw2 k2_hw3 k2_hw4 k2_hw5 k2_hw6 k2_hw7 k2_hw8)]
  refine (View.canon_cons_unit_zero (by decide) _ _ _).trans ?_
  unfold aggBlock
  show shapeCast S1x256x1024 (addf (kernelRun2_A.sl.r_22 c i arg2 harg2 arg3 harg3 arg6 hc0 x0 x1 fh0 k2_hw1 k2_hw2 k2_hw3 k2_hw4 k2_hw5 k2_hw6 k2_hw7) (term (Cert.Words.rest (BitVec.ofNat 32 (i 1).val) (kernelRun2_A.sl.r_21 c arg2 harg2 x0)) (kernelRun2_A.sl.r_24 c i arg3 harg3 x1) (kernelRun2_A.sl.v484 c i arg2 harg2 arg6 hc0 x0 fh0 k2_hw8))) shapeCasts_S256x1024_S1x256x1024 = _
  rw [h6, h5, h4, h3, h2, h1, h0]
  rfl

/-- The block at a later block. -/
theorem block2_B (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : ¬cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) :
    out2_B_2 c i arg2 harg2 arg3 harg3 arg5 harg5 arg6 harg6 hc0 x0 x1 xs0 fh0 k2_hw1 k2_hw2 k2_hw3 k2_hw4 k2_hw5 k2_hw6 k2_hw7 k2_hw8 = aggBlock (BitVec.ofNat 32 (i 1).val)
      ![kernelRun2_B.sl.r c arg2 harg2 x0, kernelRun2_B.sl.r_2 c arg2 harg2 x0, kernelRun2_B.sl.r_5 c arg2 harg2 x0, kernelRun2_B.sl.r_10 c arg2 harg2 x0, kernelRun2_B.sl.r_13 c arg2 harg2 x0, kernelRun2_B.sl.r_17 c arg2 harg2 x0, kernelRun2_B.sl.r_19 c arg2 harg2 x0, kernelRun2_B.sl.r_22 c arg2 harg2 x0]
      ![kernelRun2_B.sl.r_1 c i arg3 harg3 x1, kernelRun2_B.sl.r_4 c i arg3 harg3 x1, kernelRun2_B.sl.r_9 c i arg3 harg3 x1, kernelRun2_B.sl.r_12 c i arg3 harg3 x1, kernelRun2_B.sl.r_15 c i arg3 harg3 x1, kernelRun2_B.sl.r_18 c i arg3 harg3 x1, kernelRun2_B.sl.r_21 c i arg3 harg3 x1, kernelRun2_B.sl.r_25 c i arg3 harg3 x1]
      ![arg6.view.readAt (Elt F) (Rect.unit (s := S4360x1024) (k2_off3 i (kernelRun2_B.sl.r c arg2 harg2 x0)) S264x1024.size k2_hw1.2).toLoadRect (harg6.unread xs0),
        arg6.view.readAt (Elt F) (Rect.unit (s := S4360x1024) (k2_off5 i (kernelRun2_B.sl.r_2 c arg2 harg2 x0)) S264x1024.size k2_hw2.2).toLoadRect (harg6.unread xs0),
        arg6.view.readAt (Elt F) (Rect.unit (s := S4360x1024) (k2_off7 i (kernelRun2_B.sl.r_5 c arg2 harg2 x0)) S264x1024.size k2_hw3.2).toLoadRect (harg6.unread xs0),
        arg6.view.readAt (Elt F) (Rect.unit (s := S4360x1024) (k2_off9 i (kernelRun2_B.sl.r_10 c arg2 harg2 x0)) S264x1024.size k2_hw4.2).toLoadRect (harg6.unread xs0),
        arg6.view.readAt (Elt F) (Rect.unit (s := S4360x1024) (k2_off11 i (kernelRun2_B.sl.r_13 c arg2 harg2 x0)) S264x1024.size k2_hw5.2).toLoadRect (harg6.unread xs0),
        arg6.view.readAt (Elt F) (Rect.unit (s := S4360x1024) (k2_off13 i (kernelRun2_B.sl.r_17 c arg2 harg2 x0)) S264x1024.size k2_hw6.2).toLoadRect (harg6.unread xs0),
        arg6.view.readAt (Elt F) (Rect.unit (s := S4360x1024) (k2_off15 i (kernelRun2_B.sl.r_19 c arg2 harg2 x0)) S264x1024.size k2_hw7.2).toLoadRect (harg6.unread xs0),
        arg6.view.readAt (Elt F) (Rect.unit (s := S4360x1024) (k2_off17 i (kernelRun2_B.sl.r_22 c arg2 harg2 x0)) S264x1024.size k2_hw8.2).toLoadRect (harg6.unread xs0)] := by
  have h0 : kernelRun2_B.sl.r_3 c i arg2 harg2 arg3 harg3 arg6 harg6 x0 x1 xs0 k2_hw1 = term (Cert.Words.rest (BitVec.ofNat 32 (i 1).val) (kernelRun2_B.sl.r c arg2 harg2 x0)) (kernelRun2_B.sl.r_1 c i arg3 harg3 x1) (arg6.view.readAt (Elt F) (Rect.unit (s := S4360x1024) (k2_off3 i (kernelRun2_B.sl.r c arg2 harg2 x0)) S264x1024.size k2_hw1.2).toLoadRect (harg6.unread xs0)) := rfl
  have h1 : kernelRun2_B.sl.r_6 c i arg2 harg2 arg3 harg3 arg6 harg6 x0 x1 xs0 k2_hw1 k2_hw2 = addf (kernelRun2_B.sl.r_3 c i arg2 harg2 arg3 harg3 arg6 harg6 x0 x1 xs0 k2_hw1) (term (Cert.Words.rest (BitVec.ofNat 32 (i 1).val) (kernelRun2_B.sl.r_2 c arg2 harg2 x0)) (kernelRun2_B.sl.r_4 c i arg3 harg3 x1) (arg6.view.readAt (Elt F) (Rect.unit (s := S4360x1024) (k2_off5 i (kernelRun2_B.sl.r_2 c arg2 harg2 x0)) S264x1024.size k2_hw2.2).toLoadRect (harg6.unread xs0))) := rfl
  have h2 : kernelRun2_B.sl.r_11 c i arg2 harg2 arg3 harg3 arg6 harg6 x0 x1 xs0 k2_hw1 k2_hw2 k2_hw3 = addf (kernelRun2_B.sl.r_6 c i arg2 harg2 arg3 harg3 arg6 harg6 x0 x1 xs0 k2_hw1 k2_hw2) (term (Cert.Words.rest (BitVec.ofNat 32 (i 1).val) (kernelRun2_B.sl.r_5 c arg2 harg2 x0)) (kernelRun2_B.sl.r_9 c i arg3 harg3 x1) (arg6.view.readAt (Elt F) (Rect.unit (s := S4360x1024) (k2_off7 i (kernelRun2_B.sl.r_5 c arg2 harg2 x0)) S264x1024.size k2_hw3.2).toLoadRect (harg6.unread xs0))) := rfl
  have h3 : kernelRun2_B.sl.r_14 c i arg2 harg2 arg3 harg3 arg6 harg6 x0 x1 xs0 k2_hw1 k2_hw2 k2_hw3 k2_hw4 = addf (kernelRun2_B.sl.r_11 c i arg2 harg2 arg3 harg3 arg6 harg6 x0 x1 xs0 k2_hw1 k2_hw2 k2_hw3) (term (Cert.Words.rest (BitVec.ofNat 32 (i 1).val) (kernelRun2_B.sl.r_10 c arg2 harg2 x0)) (kernelRun2_B.sl.r_12 c i arg3 harg3 x1) (arg6.view.readAt (Elt F) (Rect.unit (s := S4360x1024) (k2_off9 i (kernelRun2_B.sl.r_10 c arg2 harg2 x0)) S264x1024.size k2_hw4.2).toLoadRect (harg6.unread xs0))) := rfl
  have h4 : kernelRun2_B.sl.r_16 c i arg2 harg2 arg3 harg3 arg6 harg6 x0 x1 xs0 k2_hw1 k2_hw2 k2_hw3 k2_hw4 k2_hw5 = addf (kernelRun2_B.sl.r_14 c i arg2 harg2 arg3 harg3 arg6 harg6 x0 x1 xs0 k2_hw1 k2_hw2 k2_hw3 k2_hw4) (term (Cert.Words.rest (BitVec.ofNat 32 (i 1).val) (kernelRun2_B.sl.r_13 c arg2 harg2 x0)) (kernelRun2_B.sl.r_15 c i arg3 harg3 x1) (arg6.view.readAt (Elt F) (Rect.unit (s := S4360x1024) (k2_off11 i (kernelRun2_B.sl.r_13 c arg2 harg2 x0)) S264x1024.size k2_hw5.2).toLoadRect (harg6.unread xs0))) := rfl
  have h5 : kernelRun2_B.sl.r_20 c i arg2 harg2 arg3 harg3 arg6 harg6 x0 x1 xs0 k2_hw1 k2_hw2 k2_hw3 k2_hw4 k2_hw5 k2_hw6 = addf (kernelRun2_B.sl.r_16 c i arg2 harg2 arg3 harg3 arg6 harg6 x0 x1 xs0 k2_hw1 k2_hw2 k2_hw3 k2_hw4 k2_hw5) (term (Cert.Words.rest (BitVec.ofNat 32 (i 1).val) (kernelRun2_B.sl.r_17 c arg2 harg2 x0)) (kernelRun2_B.sl.r_18 c i arg3 harg3 x1) (arg6.view.readAt (Elt F) (Rect.unit (s := S4360x1024) (k2_off13 i (kernelRun2_B.sl.r_17 c arg2 harg2 x0)) S264x1024.size k2_hw6.2).toLoadRect (harg6.unread xs0))) := rfl
  have h6 : kernelRun2_B.sl.r_23 c i arg2 harg2 arg3 harg3 arg6 harg6 x0 x1 xs0 k2_hw1 k2_hw2 k2_hw3 k2_hw4 k2_hw5 k2_hw6 k2_hw7 = addf (kernelRun2_B.sl.r_20 c i arg2 harg2 arg3 harg3 arg6 harg6 x0 x1 xs0 k2_hw1 k2_hw2 k2_hw3 k2_hw4 k2_hw5 k2_hw6) (term (Cert.Words.rest (BitVec.ofNat 32 (i 1).val) (kernelRun2_B.sl.r_19 c arg2 harg2 x0)) (kernelRun2_B.sl.r_21 c i arg3 harg3 x1) (arg6.view.readAt (Elt F) (Rect.unit (s := S4360x1024) (k2_off15 i (kernelRun2_B.sl.r_19 c arg2 harg2 x0)) S264x1024.size k2_hw7.2).toLoadRect (harg6.unread xs0))) := rfl
  unfold out2_B_2
  rw [View.read_writes_eq_canon _ _ _ (cover2_B_2 c i arg2 harg2 arg3 harg3 arg5 harg5 arg6 harg6 hc0 x0 x1 xs0 fh0 k2_hw1 k2_hw2 k2_hw3 k2_hw4 k2_hw5 k2_hw6 k2_hw7 k2_hw8)]
  refine (View.canon_cons_unit_zero (by decide) _ _ _).trans ?_
  unfold aggBlock
  show shapeCast S1x256x1024 (addf (kernelRun2_B.sl.r_23 c i arg2 harg2 arg3 harg3 arg6 harg6 x0 x1 xs0 k2_hw1 k2_hw2 k2_hw3 k2_hw4 k2_hw5 k2_hw6 k2_hw7) (term (Cert.Words.rest (BitVec.ofNat 32 (i 1).val) (kernelRun2_B.sl.r_22 c arg2 harg2 x0)) (kernelRun2_B.sl.r_25 c i arg3 harg3 x1) (arg6.view.readAt (Elt F) (Rect.unit (s := S4360x1024) (k2_off17 i (kernelRun2_B.sl.r_22 c arg2 harg2 x0)) S264x1024.size k2_hw8.2).toLoadRect (harg6.unread xs0)))) shapeCasts_S256x1024_S1x256x1024 = _
  rw [h6, h5, h4, h3, h2, h1, h0]
  rfl

end Cert.KernelIdeal.Run

end
-- ==== Proof.KernelIdeal.AggScratch.lean ====
/- What the third call's scratch holds at every block: the batch's 4096 rows, and its first 264 again behind them.  -/
module

public import proofs.«01_k».proof.Proof.KernelIdeal.AggForm
public import proofs.«01_k».proof.Proof.KernelIdeal.Slices
public import Idealize.ShloMosaic.Lib.ValueLayout

@[expose] public section

set_option maxRecDepth 16384

noncomputable section

namespace Cert.KernelIdeal.Run

open Cert.KernelIdeal.Gen
open Idealize.ShloMosaic Idealize.ShloMosaic.TcCoe Idealize.ShloMosaic.Tactic
open Idealize.SL

variable {F : FTy → Type} [FloatOps F]

variable (V : (c : Dev nD) → (b : Ref sig .tc) → Buf (Elt F) ((c : Thread nD τ).loc b))

/-- The batch `b` of the values, row `r` modulo 4096. -/
def held (c : Dev nD) (b : Fin 4) : Vec F S4360x1024 .f32 := fun y =>
  V c main_v40 (ix3 b (⟨(y 0).val % 4096, Nat.mod_lt _ (by decide)⟩ : Fin 4096) (y 1))

theorem held_ix (c : Dev nD) (b : Fin 4) (r : Fin 4360) (n : Fin 1024) :
    held V c b (ix2 r n) = V c main_v40 (ix3 b (⟨r.val % 4096, Nat.mod_lt _ (by decide)⟩ : Fin 4096) n) := rfl

theorem copy_apply (c : Dev nD) (i : grid2.Coords) (hc0 : cond2_0 i) (f : HbBuf2 (F := F) c hbM2_0) (r : Fin 4096) (n : Fin 1024) :
    kernelRun2_A.sl.dma0 c i hc0 f (ix2 r n) = f (ix3 (i 0) r n) := by
  refine congrArg f ?_
  refine (congrArg ((Memref.whole main_v40).slice (Rect.unit (k2_off1 i) S1x4096x1024.size (k2_off1_inb i hc0)) (fun _ => rfl)).view.emb
    (ValueIdx.reshapeEquiv_ix2_1ab _ r n)).trans ?_
  funext a; apply Fin.ext
  match a with
  | ⟨0, _⟩ => show (BitVec.ofNat 32 (i 0).val).toNat + 1 * 0 = (i 0).val; rw [BitVec.toNat_ofNat]; have := (i 0).isLt; have : (i 0).val < 4 := this; omega
  | ⟨1, _⟩ => show 0 + 1 * r.val = r.val; omega
  | ⟨2, _⟩ => show 0 + 1 * n.val = n.val; omega

theorem copy_again_apply (c : Dev nD) (i : grid2.Coords) (hc0 : cond2_0 i) (f : HbBuf2 (F := F) c hbM2_0) (r : Fin 264) (n : Fin 1024) :
    kernelRun2_A.sl.dma0_1 c i hc0 f (ix2 r n) = f (ix3 (i 0) (⟨r.val, by omega⟩ : Fin 4096) n) := by
  refine congrArg f ?_
  refine (congrArg ((Memref.whole main_v40).slice (Rect.unit (k2_off2 i) S1x264x1024.size (k2_off2_inb i hc0)) (fun _ => rfl)).view.emb
    (ValueIdx.reshapeEquiv_ix2_1ab _ r n)).trans ?_
  funext a; apply Fin.ext
  match a with
  | ⟨0, _⟩ => show (BitVec.ofNat 32 (i 0).val).toNat + 1 * 0 = (i 0).val; rw [BitVec.toNat_ofNat]; have := (i 0).isLt; have : (i 0).val < 4 := this; omega
  | ⟨1, _⟩ => show 0 + 1 * r.val = r.val; omega
  | ⟨2, _⟩ => show 0 + 1 * n.val = n.val; omega

/-- Two pieces, the rows from 4096 on and the rows before. -/
theorem two_pieces (p1 : Vec F S264x1024 .f32) (p0 : Vec F S4096x1024 .f32)
    (h1 : ∀ a : Fin 2, (![4096, 0] : Fin 2 → ℕ) a + S264x1024.size a ≤ S4360x1024.size a)
    (h0 : ∀ a : Fin 2, (![0, 0] : Fin 2 → ℕ) a + S4096x1024.size a ≤ S4360x1024.size a) (g : Vec F S4360x1024 .f32)
    (e1 : ∀ (r : Fin 264) (n : Fin 1024), p1 (ix2 r n) = g (ix2 (⟨4096 + r.val, by omega⟩ : Fin 4360) n))
    (e0 : ∀ (r : Fin 4096) (n : Fin 1024), p0 (ix2 r n) = g (ix2 (⟨r.val, by omega⟩ : Fin 4360) n)) (y : S4360x1024.Idx)
    (hc : ∃ p ∈ ([⟨Rect.unit (s := S4360x1024) ![4096, 0] S264x1024.size h1, p1⟩, ⟨Rect.unit (s := S4360x1024) ![0, 0] S4096x1024.size h0, p0⟩] : List (View.Piece (Elt F) S4360x1024 .f32)), y ∈ p.1.set) :
    View.canon ([⟨Rect.unit (s := S4360x1024) ![4096, 0] S264x1024.size h1, p1⟩, ⟨Rect.unit (s := S4360x1024) ![0, 0] S4096x1024.size h0, p0⟩] : List (View.Piece (Elt F) S4360x1024 .f32)) y = g y := by
  refine View.canon_apply_of_pieces g _ ?_ y hc
  intro p hp
  rcases List.mem_cons.1 hp with rfl | hp
  · intro x
    obtain ⟨r, n, rfl⟩ : ∃ (r : Fin 264) (n : Fin 1024), x = ix2 r n := ⟨x 0, x 1, eq_ix2 x⟩
    refine (e1 r n).trans (congrArg g ?_)
    funext a; apply Fin.ext
    match a with
    | ⟨0, _⟩ => show 4096 + r.val = 4096 + 1 * r.val; omega
    | ⟨1, _⟩ => show n.val = 0 + 1 * n.val; omega
  · rcases List.mem_cons.1 hp with rfl | hp
    · intro x
      obtain ⟨r, n, rfl⟩ : ∃ (r : Fin 4096) (n : Fin 1024), x = ix2 r n := ⟨x 0, x 1, eq_ix2 x⟩
      refine (e0 r n).trans (congrArg g ?_)
      funext a; apply Fin.ext
      match a with
      | ⟨0, _⟩ => show r.val = 0 + 1 * r.val; omega
      | ⟨1, _⟩ => show n.val = 0 + 1 * n.val; omega
    · exact absurd hp List.not_mem_nil

/-- The batch of a point is its number by sixteen. -/
theorem batch_of : ∀ t : Fin cfg2.N, (grid2.coords t 0).val = t.val / 16 ∧ (grid2.coords t 1).val = t.val % 16 :=
  (by decide +kernel : ∀ t : Fin grid2.N, (grid2.coords t 0).val = t.val / 16 ∧ (grid2.coords t 1).val = t.val % 16)

/-- The scratch after the first block of a batch. -/
theorem scratch_A (c : Dev nD) (i : grid2.Coords) (arg2 : Memref sig .tc .smem S8 .i32) (harg2 : arg2.IsWhole) (arg3 : Memref sig .tc .smem S4x8 .f32) (harg3 : arg3.IsWhole) (arg5 : Memref sig .tc .vmem S1x256x1024 .f32) (harg5 : arg5.IsWhole) (arg6 : Memref sig .tc .vmem S4360x1024 .f32) (harg6 : arg6.IsWhole) (hc0 : cond2_0 i)
    (x0 : Vec F S8 .i32) (x1 : Vec F S4x8 .f32) (xs0 : Vec F S4360x1024 .f32) (fh0 : HbBuf2 (F := F) c hbM2_0) (k2_hw1 : k2_chk1 i (arg2.view.readAt (Elt F) (Rect.unit (s := S8) ![0] S1.size inb_S8_S1_0).toLoadRect (harg2.unread x0) (Shape.Idx.first (numel1_S1.symm ▸ Nat.one_pos)))) (k2_hw2 : k2_chk2 i (arg2.view.readAt (Elt F) (Rect.unit (s := S8) ![1] S1.size inb_S8_S1_1).toLoadRect (harg2.unread x0) (Shape.Idx.first (numel1_S1.symm ▸ Nat.one_pos)))) (k2_hw3 : k2_chk3 i (arg2.view.readAt (Elt F) (Rect.unit (s := S8) ![2] S1.size inb_S8_S1_2).toLoadRect (harg2.unread x0) (Shape.Idx.first (numel1_S1.symm ▸ Nat.one_pos)))) (k2_hw4 : k2_chk4 i (arg2.view.readAt (Elt F) (Rect.unit (s := S8) ![3] S1.size inb_S8_S1_3).toLoadRect (harg2.unread x0) (Shape.Idx.first (numel1_S1.symm ▸ Nat.one_pos)))) (k2_hw5 : k2_chk5 i (arg2.view.readAt (Elt F) (Rect.unit (s := S8) ![4] S1.size inb_S8_S1_4).toLoadRect (harg2.unread x0) (Shape.Idx.first (numel1_S1.symm ▸ Nat.one_pos)))) (k2_hw6 : k2_chk6 i (arg2.view.readAt (Elt F) (Rect.unit (s := S8) ![5] S1.size inb_S8_S1_5).toLoadRect (harg2.unread x0) (Shape.Idx.first (numel1_S1.symm ▸ Nat.one_pos)))) (k2_hw7 : k2_chk7 i (arg2.view.readAt (Elt F) (Rect.unit (s := S8) ![6] S1.size inb_S8_S1_6).toLoadRect (harg2.unread x0) (Shape.Idx.first (numel1_S1.symm ▸ Nat.one_pos)))) (k2_hw8 : k2_chk8 i (arg2.view.readAt (Elt F) (Rect.unit (s := S8) ![7] S1.size inb_S8_S1_7).toLoadRect (harg2.unread x0) (Shape.Idx.first (numel1_S1.symm ▸ Nat.one_pos)))) (g : Vec F S4360x1024 .f32)
    (hg : ∀ (r : Fin 4360) (n : Fin 1024), g (ix2 r n) = fh0 (ix3 (i 0) (⟨r.val % 4096, Nat.mod_lt _ (by decide)⟩ : Fin 4096) n)) :
    sout2_A_0 c i arg2 harg2 arg3 harg3 arg5 harg5 arg6 harg6 hc0 x0 x1 xs0 fh0 k2_hw1 k2_hw2 k2_hw3 k2_hw4 k2_hw5 k2_hw6 k2_hw7 k2_hw8 = g := by
  unfold sout2_A_0
  rw [View.read_writes_eq_canon _ _ _ (scover2_A_0 c i arg2 harg2 arg3 harg3 arg5 harg5 arg6 harg6 hc0 x0 x1 xs0 fh0 k2_hw1 k2_hw2 k2_hw3 k2_hw4 k2_hw5 k2_hw6 k2_hw7 k2_hw8)]
  funext y
  have e1 : ∀ (r : Fin 264) (n : Fin 1024), kernelRun2_A.sl.dma0_1 c i hc0 fh0 (ix2 r n) = g (ix2 (⟨4096 + r.val, by omega⟩ : Fin 4360) n) := by
    intro r n
    rw [copy_again_apply, hg]
    refine congrArg (fun a => fh0 (ix3 (i 0) a n)) (Fin.ext ?_)
    show r.val = (4096 + r.val) % 4096
    omega
  have e0 : ∀ (r : Fin 4096) (n : Fin 1024), kernelRun2_A.sl.dma0 c i hc0 fh0 (ix2 r n) = g (ix2 (⟨r.val, by omega⟩ : Fin 4360) n) := by
    intro r n
    rw [copy_apply, hg]
    refine congrArg (fun a => fh0 (ix3 (i 0) a n)) (Fin.ext ?_)
    show r.val = r.val % 4096
    omega
  have hL : (kernelRun2_A c i arg2 harg2 arg3 harg3 arg5 harg5 arg6 harg6 hc0 x0 x1 xs0 fh0 k2_hw1 k2_hw2 k2_hw3 k2_hw4 k2_hw5 k2_hw6 k2_hw7 k2_hw8).2.1 = [⟨Rect.unit (s := S4360x1024) ![4096, 0] S264x1024.size (by decide), kernelRun2_A.sl.dma0_1 c i hc0 fh0⟩, ⟨Rect.unit (s := S4360x1024) ![0, 0] S4096x1024.size (by decide), kernelRun2_A.sl.dma0 c i hc0 fh0⟩] := rfl
  have hy := scover2_A_0 c i arg2 harg2 arg3 harg3 arg5 harg5 arg6 harg6 hc0 x0 x1 xs0 fh0 k2_hw1 k2_hw2 k2_hw3 k2_hw4 k2_hw5 k2_hw6 k2_hw7 k2_hw8 y
  rw [hL] at hy ⊢
  exact two_pieces _ _ _ _ g e1 e0 y hy

/-- The scratch at every block. -/
theorem scratch_eq (hH : Hyps V) (c : Dev nD) : ∀ (n : ℕ) (hn : n < cfg2.N),
    (outsAt2 V hH c n hn).2 = held V c (grid2.coords ⟨n, hn⟩ 0) := by
  intro n
  induction n with
  | zero =>
    intro hn
    rw [outsAt2_A V hH c ⟨0, hn⟩ (Nat.zero_mod _)]
    dsimp only
    exact scratch_A _ _ _ _ _ _ _ _ _ _ _ _ _ _ _ _ _ _ _ _ _ _ _ (held V c _) (held_ix V c _)
  | succ n ih =>
    intro hn
    by_cases h0 : (n + 1) % 16 = 0
    · rw [outsAt2_A V hH c ⟨n + 1, hn⟩ h0]
      dsimp only
      exact scratch_A _ _ _ _ _ _ _ _ _ _ _ _ _ _ _ _ _ _ _ _ _ _ _ (held V c _) (held_ix V c _)
    · rw [outsAt2_B V hH c ⟨n + 1, hn⟩ h0]
      refine Eq.trans (b := (outsAt2 V hH c n (Nat.lt_of_succ_lt hn)).2) (by dsimp only; unfold sout2_B_0; rfl) ?_
      rw [ih]
      refine congrArg (held V c) (Fin.ext ?_)
      rw [(batch_of _).1, (batch_of _).1]
      show n / 16 = (n + 1) / 16
      omega

end Cert.KernelIdeal.Run

end
-- ==== Proof.KernelIdeal.AggBlock.lean ====
/- One block of the third call's result: each row is the sum of eight weighted rows of the values, a lag further on each.  -/
module

public import proofs.«01_k».proof.Proof.KernelIdeal.AggScratch

@[expose] public section

set_option maxRecDepth 16384

noncomputable section

namespace Cert.KernelIdeal.Run

open Cert.KernelIdeal.Gen
open Idealize.ShloMosaic Idealize.ShloMosaic.TcCoe Idealize.ShloMosaic.Tactic
open Idealize.SL

section
variable {F : FTy → Type} [FloatOps F]

variable (V : (c : Dev nD) → (b : Ref sig .tc) → Buf (Elt F) ((c : Thread nD τ).loc b))

theorem index2_1 (t : Fin cfg2.N) : win2_1.index t (0 : Fin 2) = 0 ∧ win2_1.index t (1 : Fin 2) = 0 :=
  (by decide +kernel : ∀ t : Fin grid2.N, win2_1.index t (0 : Fin 2) = 0 ∧ win2_1.index t (1 : Fin 2) = 0) t

theorem emb2_1 (t : Fin cfg2.N) (y : S4x8.Idx) : ((cfg2.win 1).blk t).view.emb y = y := by
  obtain ⟨e0, e1⟩ := index2_1 t
  funext a; apply Fin.ext
  match a with
  | ⟨0, _⟩ => show win2_1.index t (0 : Fin 2) * 4 + 1 * (y 0).val = (y 0).val; omega
  | ⟨1, _⟩ => show win2_1.index t (1 : Fin 2) * 8 + 1 * (y 1).val = (y 1).val; omega

/-- The third call's block of weights is all of them. -/
theorem whole2_1 (c : Dev nD) (t : Fin cfg2.N) : iblk2 V c 1 t = V c main_v39 :=
  funext fun y => congrArg (V c main_v39) (emb2_1 t y)

/-- A weight as the body loads it. -/
theorem weight_load (c : Dev nD) (t : Fin cfg2.N) (k : ℕ)
    (h : ∀ a : Fin 2, (![(BitVec.ofNat 32 (grid2.coords t 0).val).toNat, k] : Fin 2 → ℕ) a + S1x1.size a ≤ S4x8.size a) (hk : k < 8) (x : S1x1.Idx) :
    (ms2_1 t).view.readAt (Elt F) (Rect.unit (s := S4x8) ![(BitVec.ofNat 32 (grid2.coords t 0).val).toNat, k] S1x1.size h).toLoadRect ((hs2_1 t).unread (iblk2 V c 1 t)) x
      = V c main_v39 (ix2 (grid2.coords t 0 : Fin 4) (⟨k, hk⟩ : Fin 8)) := by
  rw [View.readAt_eq_ld, (hs2_1 t).read_unread, whole2_1]
  refine congrArg (V c main_v39) ?_
  have hx0 : (x 0).val < 1 := (x 0).isLt
  have hx1 : (x 1).val < 1 := (x 1).isLt
  have hb : (grid2.coords t 0).val < 4 := (grid2.coords t 0).isLt
  funext a; apply Fin.ext
  match a with
  | ⟨0, _⟩ =>
    show (BitVec.ofNat 32 (grid2.coords t 0).val).toNat + 1 * (x 0).val = (grid2.coords t 0).val
    rw [BitVec.toNat_ofNat]; omega
  | ⟨1, _⟩ => show k + 1 * (x 1).val = k; omega

/-- The 264 rows of a buffer from row `p` on. -/
def band (S : Vec F S4360x1024 .f32) (p : ℕ) : FVec F S264x1024 .f32 := fun y =>
  S (ix2 (⟨(p + (y 0).val) % 4360, Nat.mod_lt _ (by decide)⟩ : Fin 4360) (y 1))

theorem band_load (off : Fin 2 → ℕ) (h : ∀ a : Fin 2, off a + S264x1024.size a ≤ S4360x1024.size a)
    (f : VS2_0.ty.Contents (Elt F)) (S : Vec F S4360x1024 .f32) (hS : VS2_0.read (Elt F) f = S) (p : ℕ) (ho : off = ![p, 0]) :
    VS2_0.readAt (Elt F) (Rect.unit (s := S4360x1024) off S264x1024.size h).toLoadRect f = band S p := by
  subst ho
  rw [View.readAt_eq_ld, hS]
  funext y
  have hp : p + 264 ≤ 4360 := h 0
  have hy : (y 0).val < 264 := (y 0).isLt
  refine congrArg S ?_
  funext a; apply Fin.ext
  match a with
  | ⟨0, _⟩ => show p + 1 * (y 0).val = (p + (y 0).val) % 4360; omega
  | ⟨1, _⟩ => show 0 + 1 * (y 1).val = (y 1).val; omega

/-- The lags, and the weights of a batch. -/
def lagWords (c : Dev nD) (k : Fin 8) : BitVec 32 := V c main_v28_0 (ix1 k)
def weightsOf (c : Dev nD) (b : Fin 4) (k : Fin 8) : Elt F .f32 := V c main_v39 (ix2 b k)

/-- A list of eight, entry by entry. -/
theorem vec8 {α : Type} (f : Fin 8 → α) {a0 a1 a2 a3 a4 a5 a6 a7 : α} (h0 : a0 = f 0) (h1 : a1 = f 1) (h2 : a2 = f 2) (h3 : a3 = f 3)
    (h4 : a4 = f 4) (h5 : a5 = f 5) (h6 : a6 = f 6) (h7 : a7 = f 7) : ![a0, a1, a2, a3, a4, a5, a6, a7] = f := by
  funext k
  fin_cases k <;> assumption

set_option maxHeartbeats 4000000 in
/-- Every block of the result, in one form. -/
theorem block_form (hH : Hyps V) (c : Dev nD) (t : Fin cfg2.N) :
    (outsAt2 V hH c t.val t.isLt).1 = aggBlock (BitVec.ofNat 32 (grid2.coords t 1).val) (lagWords V c)
      (weightsOf V c (grid2.coords t 0)) (fun k => band (held V c (grid2.coords t 0))
        (Cert.Words.row8 (BitVec.ofNat 32 (grid2.coords t 1).val) (lagWords V c k)).toNat) := by
  have hs := scratch_eq V hH c t.val t.isLt
  by_cases h0 : t.val % 16 = 0
  · rw [outsAt2_A V hH c t h0] at hs ⊢
    dsimp only at hs ⊢
    unfold sout2_A_0 at hs
    refine (block2_A _ _ _ _ _ _ _ _ _ _ _ _ _ _ _ _ _ _ _ _ _ _ _).trans ?_
    refine congr (congr (congrArg (aggBlock _) ?_) ?_) ?_
    · exact vec8 _ (lag_load V c t _ _ (by decide) _) (lag_load V c t _ _ (by decide) _) (lag_load V c t _ _ (by decide) _) (lag_load V c t _ _ (by decide) _) (lag_load V c t _ _ (by decide) _) (lag_load V c t _ _ (by decide) _) (lag_load V c t _ _ (by decide) _) (lag_load V c t _ _ (by decide) _)
    · exact vec8 _ (weight_load V c t 0 _ (by decide) _) (weight_load V c t 1 _ (by decide) _) (weight_load V c t 2 _ (by decide) _) (weight_load V c t 3 _ (by decide) _) (weight_load V c t 4 _ (by decide) _) (weight_load V c t 5 _ (by decide) _) (weight_load V c t 6 _ (by decide) _) (weight_load V c t 7 _ (by decide) _)
    · have e : ∀ v v' : BitVec 32, v = v' → (![(Cert.Words.row8 (BitVec.ofNat 32 (grid2.coords t 1).val) v).toNat, 0] : Fin 2 → ℕ) = ![(Cert.Words.row8 (BitVec.ofNat 32 (grid2.coords t 1).val) v').toNat, 0] := fun _ _ h => h ▸ rfl
      have hs' := hs
      exact vec8 _ (band_load _ _ _ _ hs' _ (e _ _ (lag_load V c t _ _ (by decide) _))) (band_load _ _ _ _ hs' _ (e _ _ (lag_load V c t _ _ (by decide) _))) (band_load _ _ _ _ hs' _ (e _ _ (lag_load V c t _ _ (by decide) _))) (band_load _ _ _ _ hs' _ (e _ _ (lag_load V c t _ _ (by decide) _))) (band_load _ _ _ _ hs' _ (e _ _ (lag_load V c t _ _ (by decide) _))) (band_load _ _ _ _ hs' _ (e _ _ (lag_load V c t _ _ (by decide) _))) (band_load _ _ _ _ hs' _ (e _ _ (lag_load V c t _ _ (by decide) _))) (band_load _ _ _ _ hs' _ (e _ _ (lag_load V c t _ _ (by decide) _)))
  · rw [outsAt2_B V hH c t h0] at hs ⊢
    dsimp only at hs ⊢
    unfold sout2_B_0 at hs
    refine (block2_B _ _ _ _ _ _ _ _ _ _ _ _ _ _ _ _ _ _ _ _ _ _ _).trans ?_
    refine congr (congr (congrArg (aggBlock _) ?_) ?_) ?_
    · exact vec8 _ (lag_load V c t _ _ (by decide) _) (lag_load V c t _ _ (by decide) _) (lag_load V c t _ _ (by decide) _) (lag_load V c t _ _ (by decide) _) (lag_load V c t _ _ (by decide) _) (lag_load V c t _ _ (by decide) _) (lag_load V c t _ _ (by decide) _) (lag_load V c t _ _ (by decide) _)
    · exact vec8 _ (weight_load V c t 0 _ (by decide) _) (weight_load V c t 1 _ (by decide) _) (weight_load V c t 2 _ (by decide) _) (weight_load V c t 3 _ (by decide) _) (weight_load V c t 4 _ (by decide) _) (weight_load V c t 5 _ (by decide) _) (weight_load V c t 6 _ (by decide) _) (weight_load V c t 7 _ (by decide) _)
    · have e : ∀ v v' : BitVec 32, v = v' → (![(Cert.Words.row8 (BitVec.ofNat 32 (grid2.coords t 1).val) v).toNat, 0] : Fin 2 → ℕ) = ![(Cert.Words.row8 (BitVec.ofNat 32 (grid2.coords t 1).val) v').toNat, 0] := fun _ _ h => h ▸ rfl
      exact vec8 _ (band_load _ _ _ _ (((Memref.isWhole_whole _).read_unread _).trans hs) _ (e _ _ (lag_load V c t _ _ (by decide) _))) (band_load _ _ _ _ (((Memref.isWhole_whole _).read_unread _).trans hs) _ (e _ _ (lag_load V c t _ _ (by decide) _))) (band_load _ _ _ _ (((Memref.isWhole_whole _).read_unread _).trans hs) _ (e _ _ (lag_load V c t _ _ (by decide) _))) (band_load _ _ _ _ (((Memref.isWhole_whole _).read_unread _).trans hs) _ (e _ _ (lag_load V c t _ _ (by decide) _))) (band_load _ _ _ _ (((Memref.isWhole_whole _).read_unread _).trans hs) _ (e _ _ (lag_load V c t _ _ (by decide) _))) (band_load _ _ _ _ (((Memref.isWhole_whole _).read_unread _).trans hs) _ (e _ _ (lag_load V c t _ _ (by decide) _))) (band_load _ _ _ _ (((Memref.isWhole_whole _).read_unread _).trans hs) _ (e _ _ (lag_load V c t _ _ (by decide) _))) (band_load _ _ _ _ (((Memref.isWhole_whole _).read_unread _).trans hs) _ (e _ _ (lag_load V c t _ _ (by decide) _)))

end

/-- The eight terms of a block at one place. -/
theorem eight_apply (a : BitVec 32) (l : Fin 8 → BitVec 32) (w : Fin 8 → EReal) (x : Fin 8 → FVec Ideal S264x1024 .f32)
    (κ : Fin 8 → Fin 8) (hκ : ∀ k, Cert.Words.rest a (l k) = BitVec.ofNat 32 (κ k).val) (r : Fin 256) (n : Fin 1024) :
    eight (F := Ideal) a l w x 7 (ix2 r n) = ∑ k : Fin 8, w k * x k (ix2 (⟨r.val + (κ k).val, by omega⟩ : Fin 264) n) := by
  have h : ∀ k : Fin 8, term (F := Ideal) (Cert.Words.rest a (l k)) (w k) (x k) (ix2 r n)
      = w k * x k (ix2 (⟨r.val + (κ k).val, by omega⟩ : Fin 264) n) := by
    intro k
    rw [hκ k]
    exact congrArg (fun z => w k * z) (shifted_apply (F := Ideal) (κ k) (x k) r n)
  rw [Fin.sum_univ_eight]
  simp only [← h]
  rfl

theorem aggBlock_apply (a : BitVec 32) (l : Fin 8 → BitVec 32) (w : Fin 8 → EReal) (x : Fin 8 → FVec Ideal S264x1024 .f32)
    (κ : Fin 8 → Fin 8) (hκ : ∀ k, Cert.Words.rest a (l k) = BitVec.ofNat 32 (κ k).val) (z : Fin 1) (r : Fin 256) (n : Fin 1024) :
    aggBlock (F := Ideal) a l w x (ix3 z r n) = ∑ k : Fin 8, w k * x k (ix2 (⟨r.val + (κ k).val, by omega⟩ : Fin 264) n) := by
  refine Eq.trans ?_ (eight_apply a l w x κ hκ r n)
  obtain rfl : z = 0 := Subsingleton.elim _ _
  unfold aggBlock
  pointwise

variable (V : (c : Dev nD) → (b : Ref sig .tc) → Buf (Elt Ideal) ((c : Thread nD τ).loc b))

/-- A block's rows. -/
theorem block_value (hH : Hyps V) (c : Dev nD) (lag : Fin 8 → Fin 4096)
    (hl : ∀ k : Fin 8, V c main_v28_0 (ix1 k) = BitVec.ofNat 32 (lag k).val) (t : Fin cfg2.N) (z : Fin 1) (r : Fin 256) (n : Fin 1024) :
    (outsAt2 V hH c t.val t.isLt).1 (ix3 z r n)
      = ∑ k : Fin 8, (weightsOf V c (grid2.coords t 0) k : EReal) * (V c main_v40 (ix3 (grid2.coords t 0 : Fin 4)
          (⟨((grid2.coords t 1).val * 256 + r.val + (lag k).val) % 4096, Nat.mod_lt _ (by decide)⟩ : Fin 4096) n) : EReal) := by
  rw [block_form V hH c t]
  have hj : (grid2.coords t 1).val < 16 := (grid2.coords t 1).isLt
  have e : ∀ k : Fin 8, (lagWords V c k).toNat = (lag k).val := fun k => by
    unfold lagWords
    rw [hl k, BitVec.toNat_ofNat]; have := (lag k).isLt; omega
  have hv : ∀ k : Fin 8, (lagWords V c k).toNat ≤ 4096 := fun k => by rw [e k]; have := (lag k).isLt; omega
  refine (aggBlock_apply _ _ _ _ (fun k => ⟨((grid2.coords t 1).val * 256 + (lag k).val) % 4096 % 8, by omega⟩) (fun k => ?_) z r n).trans ?_
  · rw [Cert.Words.rest_eq (grid2.coords t 1) _ (hv k), e k]
  · refine Finset.sum_congr rfl fun k _ => ?_
    refine congrArg (fun q => (weightsOf V c (grid2.coords t 0) k : EReal) * q) ?_
    refine congrArg (fun q => V c main_v40 (ix3 (grid2.coords t 0 : Fin 4) q n)) (Fin.ext ?_)
    show ((Cert.Words.row8 (BitVec.ofNat 32 (grid2.coords t 1).val) (lagWords V c k)).toNat
      + (r.val + ((grid2.coords t 1).val * 256 + (lag k).val) % 4096 % 8)) % 4360 % 4096 = _
    rw [Cert.Words.row8_toNat (grid2.coords t 1) _ (hv k), e k]
    show _ = ((grid2.coords t 1).val * 256 + r.val + (lag k).val) % 4096
    have := r.isLt
    omega

end Cert.KernelIdeal.Run

end
-- ==== Proof.KernelIdeal.AggFinal.lean ====
/- The third call's result: at each time the eight weighted values, a lag further on each.  -/
module

public import proofs.«01_k».proof.Proof.KernelIdeal.AggBlock

@[expose] public section

set_option maxRecDepth 16384

noncomputable section

namespace Cert.KernelIdeal.Run

open Cert.KernelIdeal.Gen
open Idealize.ShloMosaic Idealize.ShloMosaic.TcCoe Idealize.ShloMosaic.Tactic
open Idealize.SL

variable (V : (c : Dev nD) → (b : Ref sig .tc) → Buf (Elt Ideal) ((c : Thread nD τ).loc b))

/-- The sum at a batch, a time and a channel. -/
def lagged (c : Dev nD) (lag : Fin 8 → Fin 4096) (b : Fin 4) (t : ℕ) (n : Fin 1024) : EReal :=
  ∑ k : Fin 8, (weightsOf V c b k : EReal) * (V c main_v40 (ix3 b (⟨(t + (lag k).val) % 4096, Nat.mod_lt _ (by decide)⟩ : Fin 4096) n) : EReal)

/-- The third call's result. -/
def G8 (c : Dev nD) (lag : Fin 8 → Fin 4096) : Buf (Elt Ideal) ((c : Thread nD τ).loc main_v41) := fun i : S4x4096x1024.Idx =>
  lagged V c lag (i 0) (i 1).val (i 2)

theorem index2_2 : ∀ t : Fin cfg2.N, win2_2.index t (0 : Fin 3) = (grid2.coords t 0).val ∧ win2_2.index t (1 : Fin 3) = (grid2.coords t 1).val
    ∧ win2_2.index t (2 : Fin 3) = 0 :=
  (by decide +kernel : ∀ t : Fin grid2.N, win2_2.index t (0 : Fin 3) = (grid2.coords t 0).val ∧ win2_2.index t (1 : Fin 3) = (grid2.coords t 1).val
    ∧ win2_2.index t (2 : Fin 3) = 0)

theorem index2_2_onto : ∀ (q0 : Fin 4) (q1 : Fin 16), ∃ t : Fin cfg2.N, (cfg2.win 2).flush t = true ∧ win2_2.index t = ![q0.val, q1.val, 0] :=
  (by decide +kernel : ∀ (q0 : Fin 4) (q1 : Fin 16), ∃ t : Fin grid2.N, win2_2.flush t = true ∧ win2_2.index t = ![q0.val, q1.val, 0])

variable (hH : Hyps V)

/-- What a point writes back is its block of the result. -/
theorem flushed8_eq (c : Dev nD) (lag : Fin 8 → Fin 4096) (hl : ∀ k : Fin 8, V c main_v28_0 (ix1 k) = BitVec.ofNat 32 (lag k).val) (t : Fin cfg2.N) :
    (dat2 V hH c).flushed 2 t = ((cfg2.win 2).blk t).view.read (Elt Ideal) (G8 V c lag) := by
  show (cfg2.win 2).cut (grid2.coords t) ((dat2 V hH c).after 2 t) = _
  rw [after2_2]
  obtain ⟨e0, e1, e2⟩ := index2_2 t
  funext y
  obtain ⟨z, r, n, rfl⟩ : ∃ (z : Fin 1) (r : Fin 256) (n : Fin 1024), y = ix3 z r n := ⟨y 0, y 1, y 2, eq_ix3 y⟩
  refine (block_value V hH c lag hl t z r n).trans ?_
  have hz : z.val < 1 := z.isLt
  have hi : ((cfg2.win 2).blk t).view.emb (ix3 z r n) = ix3 (grid2.coords t 0 : Fin 4) (⟨(grid2.coords t 1).val * 256 + r.val, by have : (grid2.coords t 1).val < 16 := (grid2.coords t 1).isLt; omega⟩ : Fin 4096) n := by
    funext a; apply Fin.ext
    match a with
    | ⟨0, _⟩ => show win2_2.index t (0 : Fin 3) * 1 + 1 * z.val = (grid2.coords t 0).val; omega
    | ⟨1, _⟩ => show win2_2.index t (1 : Fin 3) * 256 + 1 * r.val = (grid2.coords t 1).val * 256 + r.val; omega
    | ⟨2, _⟩ => show win2_2.index t (2 : Fin 3) * 1024 + 1 * n.val = n.val; omega
  exact (congrArg (G8 V c lag) hi).symm

theorem mem_blk8 (t : Fin cfg2.N) (i : S4x4096x1024.Idx) :
    i ∈ ((cfg2.win 2).blk t).view.set ↔ ∀ a : Fin 3, win2_2.index t a * S1x256x1024.size a ≤ (i a).val ∧ (i a).val < win2_2.index t a * S1x256x1024.size a + S1x256x1024.size a := by
  show i ∈ ((View.whole main_v41).slice (win2_2.rect t)).set ↔ _
  rw [View.set_slice_whole, Rect.mem_set_unit]
  exact Iff.rfl

/-- The written-back blocks cover the array. -/
theorem covered8 (i : S4x4096x1024.Idx) : ∃ t : Fin cfg2.N, (cfg2.win 2).flush t = true ∧ i ∈ ((cfg2.win 2).blk t).view.set := by
  have hi0 : (i 0).val < 4 := (i 0).isLt
  have hi1 : (i 1).val < 4096 := (i 1).isLt
  have hi2 : (i 2).val < 1024 := (i 2).isLt
  obtain ⟨t, hft, ht⟩ := index2_2_onto ⟨(i 0).val, hi0⟩ ⟨(i 1).val / 256, by omega⟩
  have q0 : win2_2.index t (0 : Fin 3) = (i 0).val := congrFun ht 0
  have q1 : win2_2.index t (1 : Fin 3) = (i 1).val / 256 := congrFun ht 1
  have q2 : win2_2.index t (2 : Fin 3) = 0 := congrFun ht 2
  refine ⟨t, hft, ?_⟩
  rw [mem_blk8]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 256 ≤ (i 1).val ∧ (i 1).val < win2_2.index t (1 : Fin 3) * 256 + 256; omega
  | ⟨2, _⟩ => show win2_2.index t (2 : Fin 3) * 1024 ≤ (i 2).val ∧ (i 2).val < win2_2.index t (2 : Fin 3) * 1024 + 1024; omega

/-- The third call's result is `G8`. -/
theorem final8 (c : Dev nD) (lag : Fin 8 → Fin 4096) (hl : ∀ k : Fin 8, V c main_v28_0 (ix1 k) = BitVec.ofNat 32 (lag k).val) :
    (dat2 V hH c).arrAt 2 cfg2.N = G8 V c lag :=
  (dat2 V hH c).arrAt_eq_of_cover 2 _ (fun t _ => flushed8_eq V hH c lag hl t) covered8

end Cert.KernelIdeal.Run

end
-- ==== Proof.KernelIdeal.CorrSums.lean ====
/- The first call's arithmetic on a block of 128 channels, over finite numbers: the first step of the transform, the turn
   by the twiddle angles, the second step, and the product of the two transforms summed over the block's channels.  -/
module

public import proofs.«01_k».proof.Proof.Gen.KernelIdeal.Skeleton
public import proofs.«01_k».proof.Proof.Finite

@[expose] public section

noncomputable section

namespace Cert.KernelIdeal.Sums

open Idealize.ShloMosaic Cert.KernelIdeal Cert.KernelIdeal.Gen Cert.Finite

/-- The rows of the queries above the rows of the keys. -/
def rows (xq xk : S1x64x128x64.Idx → ℝ) (r : Fin 16384) (k : Fin 64) : ℝ :=
  if h : r.val < 8192 then xq (ix4 (0 : Fin 1) (⟨r.val / 128, by omega⟩ : Fin 64) (⟨r.val % 128, by omega⟩ : Fin 128) k)
  else xk (ix4 (0 : Fin 1) (⟨(r.val - 8192) / 128, by omega⟩ : Fin 64) (⟨(r.val - 8192) % 128, by omega⟩ : Fin 128) k)

/-- The first step for all rows: along the coarse time index. -/
def table (csh : S64x128.Idx → ℝ) (xq xk : S1x64x128x64.Idx → ℝ) : S16384x128.Idx → ℝ := fun j =>
  ∑ k : Fin 64, rows xq xk (j 0) k * csh (ix2 k (j 1))

theorem pay10 (csh : S64x128.Idx → ℝ) (xq xk : S1x64x128x64.Idx → ℝ) :
    k0_pay10 (F := Ideal) (up csh) (up xq) (up xk) = up (table csh xq xk) := by
  funext j
  obtain ⟨r, n, rfl⟩ : ∃ (r : Fin 16384) (n : Fin 128), j = ix2 r n := ⟨j 0, j 1, eq_ix2 j⟩
  unfold k0_pay10
  pointwise
  have e : ∀ k : Fin 64, (if h : r.val < 8192 then up xq (ix4 (0 : Fin 1) (⟨r.val / 128, by omega⟩ : Fin 64) (⟨r.val % 128, by omega⟩ : Fin 128) k)
    else up xk (ix4 (0 : Fin 1) (⟨(r.val - 8192) / 128, by omega⟩ : Fin 64) (⟨(r.val - 8192) % 128, by omega⟩ : Fin 128) k)) = ((rows xq xk r k : ℝ) : EReal) := by
    intro k
    unfold rows
    split <;> rfl
  simp only [e]
  simp only [up_apply, sub_self_real, mul_zero, zero_mul, Finset.sum_const_zero, add_zero, ← EReal.coe_mul, coe_sum]
  rfl

/-- A block's first step along the coarse time index, at a fine time `t`, a channel `c` and a column. -/
def first (csh : S64x128.Idx → ℝ) (x : S1x64x128x64.Idx → ℝ) (t : Fin 64) (c : Fin 128) (n : Fin 128) : ℝ :=
  ∑ k : Fin 64, x (ix4 (0 : Fin 1) t c k) * csh (ix2 k n)

/-- A column or row of the cosine half. -/
def lo (f : Fin 64) : Fin 128 := ⟨f.val, by omega⟩
/-- A column or row of the sine half. -/
def hi (f : Fin 64) : Fin 128 := ⟨64 + f.val, by omega⟩

theorem rows_q (xq xk : S1x64x128x64.Idx → ℝ) (t : Fin 64) (c : Fin 128) (k : Fin 64) (h : t.val * 128 + c.val < 16384) :
    rows xq xk ⟨t.val * 128 + c.val, h⟩ k = xq (ix4 (0 : Fin 1) t c k) := by
  unfold rows
  rw [dif_pos (by simp only; omega)]
  have h1 : (⟨(t.val * 128 + c.val) / 128, by omega⟩ : Fin 64) = t := Fin.ext (by simp only; omega)
  have h2 : (⟨(t.val * 128 + c.val) % 128, by omega⟩ : Fin 128) = c := Fin.ext (by simp only; omega)
  exact congrArg₂ (fun a b => xq (ix4 (0 : Fin 1) a b k)) h1 h2

theorem rows_k (xq xk : S1x64x128x64.Idx → ℝ) (t : Fin 64) (c : Fin 128) (k : Fin 64) (h : 8192 + (t.val * 128 + c.val) < 16384) :
    rows xq xk ⟨8192 + (t.val * 128 + c.val), h⟩ k = xk (ix4 (0 : Fin 1) t c k) := by
  unfold rows
  rw [dif_neg (by simp only; omega)]
  have h1 : (⟨(8192 + (t.val * 128 + c.val) - 8192) / 128, by omega⟩ : Fin 64) = t := Fin.ext (by simp only; omega)
  have h2 : (⟨(8192 + (t.val * 128 + c.val) - 8192) % 128, by omega⟩ : Fin 128) = c := Fin.ext (by simp only; omega)
  exact congrArg₂ (fun a b => xk (ix4 (0 : Fin 1) a b k)) h1 h2

theorem table_apply (csh : S64x128.Idx → ℝ) (xq xk : S1x64x128x64.Idx → ℝ) (r : Fin 16384) (n : Fin 128) :
    table csh xq xk (ix2 r n) = ∑ k : Fin 64, rows xq xk r k * csh (ix2 k n) := rfl

/-- The first step of the queries' block, cosine columns. -/
theorem pay11 (csh : S64x128.Idx → ℝ) (xq xk : S1x64x128x64.Idx → ℝ) :
    k0_pay11 (F := Ideal) (up csh) (up xq) (up xk) = up fun j => first csh xq (j 0) (j 1) (lo (j 2)) := by
  funext j
  obtain ⟨t, c, f, rfl⟩ : ∃ (t : Fin 64) (c : Fin 128) (f : Fin 64), j = ix3 t c f := ⟨j 0, j 1, j 2, eq_ix3 j⟩
  unfold k0_pay11
  rw [pay10]
  pointwise
  simp only [up_apply, table_apply, rows_q]
  rfl

/-- The first step of the queries' block, sine columns. -/
theorem pay12 (csh : S64x128.Idx → ℝ) (xq xk : S1x64x128x64.Idx → ℝ) :
    k0_pay12 (F := Ideal) (up csh) (up xq) (up xk) = up fun j => first csh xq (j 0) (j 1) (hi (j 2)) := by
  funext j
  obtain ⟨t, c, f, rfl⟩ : ∃ (t : Fin 64) (c : Fin 128) (f : Fin 64), j = ix3 t c f := ⟨j 0, j 1, j 2, eq_ix3 j⟩
  unfold k0_pay12
  rw [pay10]
  pointwise
  simp only [up_apply, table_apply, rows_q]
  rfl

theorem pay7 (g : S128x64.Idx → ℝ) : k0_pay7 (F := Ideal) (up g) = up g := by
  funext j
  obtain ⟨r, n, rfl⟩ : ∃ (r : Fin 128) (n : Fin 64), j = ix2 r n := ⟨j 0, j 1, eq_ix2 j⟩
  unfold k0_pay7
  pointwise

theorem pay8 (g : S64x64.Idx → ℝ) : k0_pay8 (F := Ideal) (up g) = up fun j => g (ix2 (j 0) (j 2)) := by
  funext j
  obtain ⟨t, c, f, rfl⟩ : ∃ (t : Fin 64) (c : Fin 1) (f : Fin 64), j = ix3 t c f := ⟨j 0, j 1, j 2, eq_ix3 j⟩
  unfold k0_pay8
  pointwise
  rfl

theorem pay9 (g : S64x64.Idx → ℝ) : k0_pay9 (F := Ideal) (up g) = up fun j => g (ix2 (j 0) (j 2)) := by
  funext j
  obtain ⟨t, c, f, rfl⟩ : ∃ (t : Fin 64) (c : Fin 1) (f : Fin 64), j = ix3 t c f := ⟨j 0, j 1, j 2, eq_ix3 j⟩
  unfold k0_pay9
  pointwise
  rfl

/-- The real part after the turn by the twiddle angle. -/
def zre (csh : S64x128.Idx → ℝ) (twc tws : S64x64.Idx → ℝ) (x : S1x64x128x64.Idx → ℝ) (t : Fin 64) (c : Fin 128) (f : Fin 64) : ℝ :=
  first csh x t c (lo f) * twc (ix2 t f) - first csh x t c (hi f) * tws (ix2 t f)

/-- The imaginary part after the turn by the twiddle angle. -/
def zim (csh : S64x128.Idx → ℝ) (twc tws : S64x64.Idx → ℝ) (x : S1x64x128x64.Idx → ℝ) (t : Fin 64) (c : Fin 128) (f : Fin 64) : ℝ :=
  0 - first csh x t c (hi f) * twc (ix2 t f) - first csh x t c (lo f) * tws (ix2 t f)

theorem pay13 (csh : S64x128.Idx → ℝ) (twc tws : S64x64.Idx → ℝ) (xq xk : S1x64x128x64.Idx → ℝ) :
    k0_pay13 (F := Ideal) (up csh) (up twc) (up tws) (up xq) (up xk) = up fun j => zre csh twc tws xq (j 0) (j 1) (j 2) := by
  funext j
  obtain ⟨t, c, f, rfl⟩ : ∃ (t : Fin 64) (c : Fin 128) (f : Fin 64), j = ix3 t c f := ⟨j 0, j 1, j 2, eq_ix3 j⟩
  unfold k0_pay13
  rw [pay8, pay9, pay11, pay12]
  pointwise
  simp only [up_apply, ← EReal.coe_mul, ← EReal.coe_sub]
  rfl

/-- The real part of a channel's transform at the frequency `f1 + 64·f2`. -/
def fre (csh : S64x128.Idx → ℝ) (csv : S128x64.Idx → ℝ) (twc tws : S64x64.Idx → ℝ) (x : S1x64x128x64.Idx → ℝ) (g : Fin 64) (c : Fin 128) (f : Fin 64) : ℝ :=
  (∑ t : Fin 64, csv (ix2 (lo g) t) * zre csh twc tws x t c f) + ∑ t : Fin 64, csv (ix2 (hi g) t) * zim csh twc tws x t c f

/-- The imaginary part of a channel's transform at the frequency `f1 + 64·f2`. -/
def fim (csh : S64x128.Idx → ℝ) (csv : S128x64.Idx → ℝ) (twc tws : S64x64.Idx → ℝ) (x : S1x64x128x64.Idx → ℝ) (g : Fin 64) (c : Fin 128) (f : Fin 64) : ℝ :=
  (∑ t : Fin 64, csv (ix2 (lo g) t) * zim csh twc tws x t c f) - ∑ t : Fin 64, csv (ix2 (hi g) t) * zre csh twc tws x t c f

/-- Four blocks of columns side by side. -/
def wide (a b c d : FVec Ideal S64x8192 .f32) : FVec Ideal S64x32768 .f32 :=
  concatenate S64x32768 1 [⟨S64x8192, a⟩, ⟨S64x8192, b⟩, ⟨S64x8192, c⟩, ⟨S64x8192, d⟩] concatenates_S64x8192_S64x8192_S64x8192_S64x8192_S64x32768_d1

/-- The product in three parts: each factor and what its rounding leaves. -/
def dot3 (u : FVec Ideal S128x64 .f32) (w : FVec Ideal S64x32768 .f32) : FVec Ideal S128x32768 .f32 :=
  addf (addf
    (matmul dot_S128x64_S64x32768_S128x32768_1_0_0_1_n_n none (truncf .bf16 u bitsLt_bf16_f32) (truncf .bf16 w bitsLt_bf16_f32) (constant S128x32768 .f32 0x00000000#32))
    (matmul dot_S128x64_S64x32768_S128x32768_1_0_0_1_n_n none (truncf .bf16 u bitsLt_bf16_f32) (truncf .bf16 (subf w (extf .f32 (truncf .bf16 w bitsLt_bf16_f32 : FVec Ideal S64x32768 .bf16) bitsLt_bf16_f32)) bitsLt_bf16_f32) (constant S128x32768 .f32 0x00000000#32)))
    (matmul dot_S128x64_S64x32768_S128x32768_1_0_0_1_n_n none (truncf .bf16 (subf u (extf .f32 (truncf .bf16 u bitsLt_bf16_f32 : FVec Ideal S128x64 .bf16) bitsLt_bf16_f32)) bitsLt_bf16_f32) (truncf .bf16 w bitsLt_bf16_f32) (constant S128x32768 .f32 0x00000000#32))

theorem dot3_up (u : S128x64.Idx → ℝ) (w : S64x32768.Idx → ℝ) :
    dot3 (up u) (up w) = up fun j => ∑ t : Fin 64, u (ix2 (j 0) t) * w (ix2 t (j 1)) := by
  funext j
  obtain ⟨r, n, rfl⟩ : ∃ (r : Fin 128) (n : Fin 32768), j = ix2 r n := ⟨j 0, j 1, eq_ix2 j⟩
  unfold dot3
  pointwise
  simp only [up_apply, sub_self_real, mul_zero, zero_mul, Finset.sum_const_zero, add_zero, ← EReal.coe_mul, coe_sum]
  rfl

/-- The imaginary part from the two columns of the first step. -/
def turned (tc ts : FVec Ideal S64x1x64 .f32) (a b : FVec Ideal S64x128x64 .f32) : FVec Ideal S64x128x64 .f32 :=
  subf (subf (broadcast S64x128x64 (Scalar.ofBits .f32 0x00000000#32)) (mulf b (broadcastTo S64x128x64 tc broadcasts_S64x1x64_S64x128x64)))
    (mulf a (broadcastTo S64x128x64 ts broadcasts_S64x1x64_S64x128x64))

/-- The real part from the two columns of the first step. -/
def kept (tc ts : FVec Ideal S64x1x64 .f32) (a b : FVec Ideal S64x128x64 .f32) : FVec Ideal S64x128x64 .f32 :=
  subf (mulf a (broadcastTo S64x128x64 tc broadcasts_S64x1x64_S64x128x64)) (mulf b (broadcastTo S64x128x64 ts broadcasts_S64x1x64_S64x128x64))

/-- The keys' rows of the first step, cosine columns. -/
def keysLo (v : FVec Ideal S16384x128 .f32) : FVec Ideal S64x128x64 .f32 :=
  shapeCast S64x128x64 (extractStridedSlice S8192x64 ![8192, 0] v slices_S16384x128_o8192_0_S8192x64) shapeCasts_S8192x64_S64x128x64

/-- The keys' rows of the first step, sine columns. -/
def keysHi (v : FVec Ideal S16384x128 .f32) : FVec Ideal S64x128x64 .f32 :=
  shapeCast S64x128x64 (extractStridedSlice S8192x64 ![8192, 64] v slices_S16384x128_o8192_64_S8192x64) shapeCasts_S8192x64_S64x128x64

/-- Channels and columns in one axis. -/
def flat (v : FVec Ideal S64x128x64 .f32) : FVec Ideal S64x8192 .f32 := shapeCast S64x8192 v shapeCasts_S64x128x64_S64x8192

theorem pay14_eq (u : FVec Ideal S128x64 .f32) (tc ts : FVec Ideal S64x1x64 .f32) (v : FVec Ideal S16384x128 .f32) (a b z : FVec Ideal S64x128x64 .f32) :
    k0_pay14 u tc ts v a b z = dot3 u (wide (flat z) (flat (turned tc ts a b)) (flat (kept tc ts (keysLo v) (keysHi v))) (flat (turned tc ts (keysLo v) (keysHi v)))) := rfl

theorem keysLo_table (csh : S64x128.Idx → ℝ) (xq xk : S1x64x128x64.Idx → ℝ) :
    keysLo (up (table csh xq xk)) = up fun j => first csh xk (j 0) (j 1) (lo (j 2)) := by
  funext j
  obtain ⟨t, c, f, rfl⟩ : ∃ (t : Fin 64) (c : Fin 128) (f : Fin 64), j = ix3 t c f := ⟨j 0, j 1, j 2, eq_ix3 j⟩
  unfold keysLo
  pointwise
  simp only [up_apply, table_apply, rows_k]
  rfl

theorem keysHi_table (csh : S64x128.Idx → ℝ) (xq xk : S1x64x128x64.Idx → ℝ) :
    keysHi (up (table csh xq xk)) = up fun j => first csh xk (j 0) (j 1) (hi (j 2)) := by
  funext j
  obtain ⟨t, c, f, rfl⟩ : ∃ (t : Fin 64) (c : Fin 128) (f : Fin 64), j = ix3 t c f := ⟨j 0, j 1, j 2, eq_ix3 j⟩
  unfold keysHi
  pointwise
  simp only [up_apply, table_apply, rows_k]
  rfl

theorem turned_up (csh : S64x128.Idx → ℝ) (twc tws : S64x64.Idx → ℝ) (x : S1x64x128x64.Idx → ℝ) :
    turned (up fun j => twc (ix2 (j 0) (j 2))) (up fun j => tws (ix2 (j 0) (j 2))) (up fun j => first csh x (j 0) (j 1) (lo (j 2))) (up fun j => first csh x (j 0) (j 1) (hi (j 2)))
      = up fun j => zim csh twc tws x (j 0) (j 1) (j 2) := by
  funext j
  obtain ⟨t, c, f, rfl⟩ : ∃ (t : Fin 64) (c : Fin 128) (f : Fin 64), j = ix3 t c f := ⟨j 0, j 1, j 2, eq_ix3 j⟩
  unfold turned
  pointwise
  simp only [up_apply, ← EReal.coe_mul, ← EReal.coe_sub, ← EReal.coe_zero]
  rfl

theorem kept_up (csh : S64x128.Idx → ℝ) (twc tws : S64x64.Idx → ℝ) (x : S1x64x128x64.Idx → ℝ) :
    kept (up fun j => twc (ix2 (j 0) (j 2))) (up fun j => tws (ix2 (j 0) (j 2))) (up fun j => first csh x (j 0) (j 1) (lo (j 2))) (up fun j => first csh x (j 0) (j 1) (hi (j 2)))
      = up fun j => zre csh twc tws x (j 0) (j 1) (j 2) := by
  funext j
  obtain ⟨t, c, f, rfl⟩ : ∃ (t : Fin 64) (c : Fin 128) (f : Fin 64), j = ix3 t c f := ⟨j 0, j 1, j 2, eq_ix3 j⟩
  unfold kept
  pointwise
  simp only [up_apply, ← EReal.coe_mul, ← EReal.coe_sub]
  rfl

/-- A channel and a column from their common axis. -/
def flatR (g : S64x128x64.Idx → ℝ) : S64x8192.Idx → ℝ := fun j =>
  g (ix3 (j 0) (⟨(j 1).val / 64, by have := (j 1).isLt; change (j 1).val < 8192 at this; omega⟩ : Fin 128) (⟨(j 1).val % 64, by omega⟩ : Fin 64))

theorem flat_up (g : S64x128x64.Idx → ℝ) : flat (up g) = up (flatR g) := by
  funext j
  obtain ⟨r, n, rfl⟩ : ∃ (r : Fin 64) (n : Fin 8192), j = ix2 r n := ⟨j 0, j 1, eq_ix2 j⟩
  unfold flat
  pointwise
  rfl

/-- Four blocks of columns of finite numbers side by side. -/
def wideR (a b c d : S64x8192.Idx → ℝ) : S64x32768.Idx → ℝ := fun j =>
  if h : (j 1).val < 8192 then a (ix2 (j 0) (⟨(j 1).val, h⟩ : Fin 8192))
  else if h : (j 1).val - 8192 < 8192 then b (ix2 (j 0) (⟨(j 1).val - 8192, h⟩ : Fin 8192))
  else if h : (j 1).val - 8192 - 8192 < 8192 then c (ix2 (j 0) (⟨(j 1).val - 8192 - 8192, h⟩ : Fin 8192))
  else d (ix2 (j 0) (⟨(j 1).val - 8192 - 8192 - 8192, by have := (j 1).isLt; change (j 1).val < 32768 at this; omega⟩ : Fin 8192))

theorem wideR_apply (a b c d : S64x8192.Idx → ℝ) (r : Fin 64) (n : Fin 32768) : wideR a b c d (ix2 r n) =
    if h : n.val < 8192 then a (ix2 r (⟨n.val, h⟩ : Fin 8192))
    else if h : n.val - 8192 < 8192 then b (ix2 r (⟨n.val - 8192, h⟩ : Fin 8192))
    else if h : n.val - 8192 - 8192 < 8192 then c (ix2 r (⟨n.val - 8192 - 8192, h⟩ : Fin 8192))
    else d (ix2 r (⟨n.val - 8192 - 8192 - 8192, by omega⟩ : Fin 8192)) := rfl

theorem wide_up (a b c d : S64x8192.Idx → ℝ) : wide (up a) (up b) (up c) (up d) = up (wideR a b c d) := by
  funext j
  obtain ⟨r, n, rfl⟩ : ∃ (r : Fin 64) (n : Fin 32768), j = ix2 r n := ⟨j 0, j 1, eq_ix2 j⟩
  unfold wide
  pointwise
  rw [up_apply, wideR_apply]
  split_ifs <;> rfl

/-- The second step's product over all four blocks. -/
def secondR (csh : S64x128.Idx → ℝ) (csv : S128x64.Idx → ℝ) (twc tws : S64x64.Idx → ℝ) (xq xk : S1x64x128x64.Idx → ℝ) : S128x32768.Idx → ℝ := fun j =>
  ∑ t : Fin 64, csv (ix2 (j 0) t) * wideR (flatR fun j => zre csh twc tws xq (j 0) (j 1) (j 2)) (flatR fun j => zim csh twc tws xq (j 0) (j 1) (j 2))
    (flatR fun j => zre csh twc tws xk (j 0) (j 1) (j 2)) (flatR fun j => zim csh twc tws xk (j 0) (j 1) (j 2)) (ix2 t (j 1))

theorem pay14 (csh : S64x128.Idx → ℝ) (csv : S128x64.Idx → ℝ) (twc tws : S64x64.Idx → ℝ) (xq xk : S1x64x128x64.Idx → ℝ) :
    k0_pay14 (F := Ideal) (k0_pay7 (up csv)) (k0_pay8 (up twc)) (k0_pay9 (up tws)) (k0_pay10 (up csh) (up xq) (up xk)) (k0_pay11 (up csh) (up xq) (up xk)) (k0_pay12 (up csh) (up xq) (up xk)) (k0_pay13 (up csh) (up twc) (up tws) (up xq) (up xk))
      = up (secondR csh csv twc tws xq xk) := by
  rw [pay7, pay8, pay9, pay10, pay11, pay12, pay13, pay14_eq, keysLo_table, keysHi_table, turned_up, turned_up, kept_up, flat_up, flat_up, flat_up, flat_up, wide_up, dot3_up]
  rfl

/-- Reading the block of columns that starts at `s`. -/
theorem wideR_0 (a b c d : S64x128x64.Idx → ℝ) (t : Fin 64) (ch : Fin 128) (f : Fin 64) (n : Fin 32768) (hn : n.val = ch.val * 64 + f.val) :
    wideR (flatR a) (flatR b) (flatR c) (flatR d) (ix2 t n) = a (ix3 t ch f) := by
  have h1 : ∀ h, (⟨n.val / 64, h⟩ : Fin 128) = ch := fun h => Fin.ext (by simp only; omega)
  have h2 : ∀ h, (⟨n.val % 64, h⟩ : Fin 64) = f := fun h => Fin.ext (by simp only; omega)
  refine (dif_pos (show n.val < 8192 by omega)).trans ?_
  exact congrArg₂ (fun p q => a (ix3 t p q)) (h1 _) (h2 _)

theorem wideR_1 (a b c d : S64x128x64.Idx → ℝ) (t : Fin 64) (ch : Fin 128) (f : Fin 64) (n : Fin 32768) (hn : n.val = 8192 + (ch.val * 64 + f.val)) :
    wideR (flatR a) (flatR b) (flatR c) (flatR d) (ix2 t n) = b (ix3 t ch f) := by
  have h1 : ∀ h, (⟨(n.val - 8192) / 64, h⟩ : Fin 128) = ch := fun h => Fin.ext (by simp only; omega)
  have h2 : ∀ h, (⟨(n.val - 8192) % 64, h⟩ : Fin 64) = f := fun h => Fin.ext (by simp only; omega)
  refine (dif_neg (show ¬ n.val < 8192 by omega)).trans ((dif_pos (show n.val - 8192 < 8192 by omega)).trans ?_)
  exact congrArg₂ (fun p q => b (ix3 t p q)) (h1 _) (h2 _)

theorem wideR_2 (a b c d : S64x128x64.Idx → ℝ) (t : Fin 64) (ch : Fin 128) (f : Fin 64) (n : Fin 32768) (hn : n.val = 16384 + (ch.val * 64 + f.val)) :
    wideR (flatR a) (flatR b) (flatR c) (flatR d) (ix2 t n) = c (ix3 t ch f) := by
  have h1 : ∀ h, (⟨(n.val - 8192 - 8192) / 64, h⟩ : Fin 128) = ch := fun h => Fin.ext (by simp only; omega)
  have h2 : ∀ h, (⟨(n.val - 8192 - 8192) % 64, h⟩ : Fin 64) = f := fun h => Fin.ext (by simp only; omega)
  refine (dif_neg (show ¬ n.val < 8192 by omega)).trans ((dif_neg (show ¬ n.val - 8192 < 8192 by omega)).trans
    ((dif_pos (show n.val - 8192 - 8192 < 8192 by omega)).trans ?_))
  exact congrArg₂ (fun p q => c (ix3 t p q)) (h1 _) (h2 _)

theorem wideR_3 (a b c d : S64x128x64.Idx → ℝ) (t : Fin 64) (ch : Fin 128) (f : Fin 64) (n : Fin 32768) (hn : n.val = 24576 + (ch.val * 64 + f.val)) :
    wideR (flatR a) (flatR b) (flatR c) (flatR d) (ix2 t n) = d (ix3 t ch f) := by
  have h1 : ∀ h, (⟨(n.val - 8192 - 8192 - 8192) / 64, h⟩ : Fin 128) = ch := fun h => Fin.ext (by simp only; omega)
  have h2 : ∀ h, (⟨(n.val - 8192 - 8192 - 8192) % 64, h⟩ : Fin 64) = f := fun h => Fin.ext (by simp only; omega)
  refine (dif_neg (show ¬ n.val < 8192 by omega)).trans ((dif_neg (show ¬ n.val - 8192 < 8192 by omega)).trans
    ((dif_neg (show ¬ n.val - 8192 - 8192 < 8192 by omega)).trans ?_))
  exact congrArg₂ (fun p q => d (ix3 t p q)) (h1 _) (h2 _)

section Second

variable (csh : S64x128.Idx → ℝ) (csv : S128x64.Idx → ℝ) (twc tws : S64x64.Idx → ℝ) (xq xk : S1x64x128x64.Idx → ℝ)

theorem second_0 (r : Fin 128) (ch : Fin 128) (f : Fin 64) (h : ch.val * 64 + f.val < 32768) :
    secondR csh csv twc tws xq xk (ix2 r ⟨ch.val * 64 + f.val, h⟩) = ∑ t : Fin 64, csv (ix2 r t) * zre csh twc tws xq t ch f :=
  Finset.sum_congr rfl fun t _ => congrArg (csv (ix2 r t) * ·) (wideR_0 _ _ _ _ t ch f _ rfl)

theorem second_1 (r : Fin 128) (ch : Fin 128) (f : Fin 64) (h : 8192 + (ch.val * 64 + f.val) < 32768) :
    secondR csh csv twc tws xq xk (ix2 r ⟨8192 + (ch.val * 64 + f.val), h⟩) = ∑ t : Fin 64, csv (ix2 r t) * zim csh twc tws xq t ch f :=
  Finset.sum_congr rfl fun t _ => congrArg (csv (ix2 r t) * ·) (wideR_1 _ _ _ _ t ch f _ rfl)

theorem second_2 (r : Fin 128) (ch : Fin 128) (f : Fin 64) (h : 16384 + (ch.val * 64 + f.val) < 32768) :
    secondR csh csv twc tws xq xk (ix2 r ⟨16384 + (ch.val * 64 + f.val), h⟩) = ∑ t : Fin 64, csv (ix2 r t) * zre csh twc tws xk t ch f :=
  Finset.sum_congr rfl fun t _ => congrArg (csv (ix2 r t) * ·) (wideR_2 _ _ _ _ t ch f _ rfl)

theorem second_3 (r : Fin 128) (ch : Fin 128) (f : Fin 64) (h : 24576 + (ch.val * 64 + f.val) < 32768) :
    secondR csh csv twc tws xq xk (ix2 r ⟨24576 + (ch.val * 64 + f.val), h⟩) = ∑ t : Fin 64, csv (ix2 r t) * zim csh twc tws xk t ch f :=
  Finset.sum_congr rfl fun t _ => congrArg (csv (ix2 r t) * ·) (wideR_3 _ _ _ _ t ch f _ rfl)

/-- The block's real part of the product of the two transforms, summed over its channels, on top of `p`. -/
theorem pay5 (p : S1x64x64.Idx → EReal) (g f : Fin 64) :
    k0_pay5 (F := Ideal)
      (k0_pay15 (k0_pay7 (up csv)) (k0_pay8 (up twc)) (k0_pay9 (up tws)) (k0_pay10 (up csh) (up xq) (up xk)) (k0_pay11 (up csh) (up xq) (up xk)) (k0_pay12 (up csh) (up xq) (up xk)) (k0_pay13 (up csh) (up twc) (up tws) (up xq) (up xk)))
      (k0_pay16 (k0_pay7 (up csv)) (k0_pay8 (up twc)) (k0_pay9 (up tws)) (k0_pay10 (up csh) (up xq) (up xk)) (k0_pay11 (up csh) (up xq) (up xk)) (k0_pay12 (up csh) (up xq) (up xk)) (k0_pay13 (up csh) (up twc) (up tws) (up xq) (up xk)))
      (k0_pay17 (k0_pay7 (up csv)) (k0_pay8 (up twc)) (k0_pay9 (up tws)) (k0_pay10 (up csh) (up xq) (up xk)) (k0_pay11 (up csh) (up xq) (up xk)) (k0_pay12 (up csh) (up xq) (up xk)) (k0_pay13 (up csh) (up twc) (up tws) (up xq) (up xk)))
      (k0_pay18 (k0_pay7 (up csv)) (k0_pay8 (up twc)) (k0_pay9 (up tws)) (k0_pay10 (up csh) (up xq) (up xk)) (k0_pay11 (up csh) (up xq) (up xk)) (k0_pay12 (up csh) (up xq) (up xk)) (k0_pay13 (up csh) (up twc) (up tws) (up xq) (up xk)))
      p (ix3 (0 : Fin 1) g f)
      = p (ix3 (0 : Fin 1) g f) + ((∑ c : Fin 128, (fre csh csv twc tws xq g c f * fre csh csv twc tws xk g c f + fim csh csv twc tws xq g c f * fim csh csv twc tws xk g c f) : ℝ) : EReal) := by
  unfold k0_pay5 k0_pay15 k0_pay16 k0_pay17 k0_pay18 k0_pay1 k0_pay2
  rw [pay14]
  pointwise
  simp only [up_apply, second_0, second_1, second_2, second_3, ← EReal.coe_mul, ← EReal.coe_add, ← EReal.coe_sub, coe_sum]
  rfl

/-- The block's imaginary part of the product of the two transforms, summed over its channels, on top of `p`. -/
theorem pay6 (p : S1x64x64.Idx → EReal) (g f : Fin 64) :
    k0_pay6 (F := Ideal)
      (k0_pay15 (k0_pay7 (up csv)) (k0_pay8 (up twc)) (k0_pay9 (up tws)) (k0_pay10 (up csh) (up xq) (up xk)) (k0_pay11 (up csh) (up xq) (up xk)) (k0_pay12 (up csh) (up xq) (up xk)) (k0_pay13 (up csh) (up twc) (up tws) (up xq) (up xk)))
      (k0_pay16 (k0_pay7 (up csv)) (k0_pay8 (up twc)) (k0_pay9 (up tws)) (k0_pay10 (up csh) (up xq) (up xk)) (k0_pay11 (up csh) (up xq) (up xk)) (k0_pay12 (up csh) (up xq) (up xk)) (k0_pay13 (up csh) (up twc) (up tws) (up xq) (up xk)))
      (k0_pay17 (k0_pay7 (up csv)) (k0_pay8 (up twc)) (k0_pay9 (up tws)) (k0_pay10 (up csh) (up xq) (up xk)) (k0_pay11 (up csh) (up xq) (up xk)) (k0_pay12 (up csh) (up xq) (up xk)) (k0_pay13 (up csh) (up twc) (up tws) (up xq) (up xk)))
      (k0_pay18 (k0_pay7 (up csv)) (k0_pay8 (up twc)) (k0_pay9 (up tws)) (k0_pay10 (up csh) (up xq) (up xk)) (k0_pay11 (up csh) (up xq) (up xk)) (k0_pay12 (up csh) (up xq) (up xk)) (k0_pay13 (up csh) (up twc) (up tws) (up xq) (up xk)))
      p (ix3 (0 : Fin 1) g f)
      = p (ix3 (0 : Fin 1) g f) + ((∑ c : Fin 128, (fim csh csv twc tws xq g c f * fre csh csv twc tws xk g c f - fre csh csv twc tws xq g c f * fim csh csv twc tws xk g c f) : ℝ) : EReal) := by
  unfold k0_pay6 k0_pay15 k0_pay16 k0_pay17 k0_pay18 k0_pay1 k0_pay2
  rw [pay14]
  pointwise
  simp only [up_apply, second_0, second_1, second_2, second_3, ← EReal.coe_mul, ← EReal.coe_add, ← EReal.coe_sub, coe_sum]
  rfl

end Second

end Cert.KernelIdeal.Sums

end
-- ==== Proof.KernelIdeal.Tables.lean ====
/- What the host operations before the first call leave in its operands: the tables of cosines and sines, and the queries
   and the keys by batch, fine time, channel and coarse time.  -/
module

public import proofs.«01_k».proof.Proof.KernelIdeal.Boundaries
public import proofs.«01_k».proof.Proof.KernelIdeal.CorrSums
public import proofs.«01_k».proof.Proof.Angles
public import Idealize.ShloMosaic.Lib.StableHlo.ReadAt

@[expose] public section

set_option maxRecDepth 16384

noncomputable section

namespace Cert.KernelIdeal.Run

open Cert.KernelIdeal.Gen Cert.KernelIdeal.Sums Cert.Finite
open Idealize.ShloMosaic Idealize.ShloMosaic.TcCoe

variable (m : (ℓ : Loc nD τ sig) → Buf (Elt Ideal) ℓ) (ρ : Dev nD → PrngReg)

/-- The twiddle cosines. -/
def twcR : S64x64.Idx → ℝ := fun j => Fourier.C ((j 0).val * (j 1).val)
/-- The twiddle sines. -/
def twsR : S64x64.Idx → ℝ := fun j => Fourier.S ((j 0).val * (j 1).val)
/-- The 64-point cosines. -/
def c64R : S64x64.Idx → ℝ := fun j => Fourier.C (64 * ((j 0).val * (j 1).val))
/-- The 64-point sines. -/
def s64R : S64x64.Idx → ℝ := fun j => Fourier.S (64 * ((j 0).val * (j 1).val))
/-- The 64-point cosines and sines side by side. -/
def cshR : S64x128.Idx → ℝ := fun j =>
  if (j 1).val < 64 then Fourier.C (64 * ((j 0).val * (j 1).val)) else Fourier.S (64 * ((j 0).val * ((j 1).val - 64)))
/-- The 64-point cosines above the sines. -/
def csvR : S128x64.Idx → ℝ := fun j =>
  if (j 0).val < 64 then Fourier.C (64 * ((j 0).val * (j 1).val)) else Fourier.S (64 * (((j 0).val - 64) * (j 1).val))

theorem twc_eq (c : Dev nD) : V1 m ρ c main_v19 = up twcR := by
  funext j
  obtain ⟨a, b, rfl⟩ : ∃ (a : Fin 64) (b : Fin 64), j = ix2 a b := ⟨j 0, j 1, eq_ix2 j⟩
  refine Eq.trans ?_ (Angles.cos_4096 a.val b.val (by omega) (by omega))
  after_reads_at

theorem tws_eq (c : Dev nD) : V1 m ρ c main_v20 = up twsR := by
  funext j
  obtain ⟨a, b, rfl⟩ : ∃ (a : Fin 64) (b : Fin 64), j = ix2 a b := ⟨j 0, j 1, eq_ix2 j⟩
  refine Eq.trans ?_ (Angles.sin_4096 a.val b.val (by omega) (by omega))
  after_reads_at

theorem c64_eq (c : Dev nD) : V1 m ρ c main_v17 = up c64R := by
  funext j
  obtain ⟨a, b, rfl⟩ : ∃ (a : Fin 64) (b : Fin 64), j = ix2 a b := ⟨j 0, j 1, eq_ix2 j⟩
  refine Eq.trans ?_ (Angles.cos_64 a.val b.val (by omega) (by omega))
  after_reads_at

theorem s64_eq (c : Dev nD) : V1 m ρ c main_v18 = up s64R := by
  funext j
  obtain ⟨a, b, rfl⟩ : ∃ (a : Fin 64) (b : Fin 64), j = ix2 a b := ⟨j 0, j 1, eq_ix2 j⟩
  refine Eq.trans ?_ (Angles.sin_64 a.val b.val (by omega) (by omega))
  after_reads_at

theorem csh_apply (a : Fin 64) (b : Fin 128) : up cshR (ix2 a b)
    = if b.val < 64 then ((Fourier.C (64 * (a.val * b.val)) : ℝ) : EReal) else ((Fourier.S (64 * (a.val * (b.val - 64))) : ℝ) : EReal) :=
  apply_ite (fun x : ℝ => (x : EReal)) _ _ _

theorem csv_apply (a : Fin 128) (b : Fin 64) : up csvR (ix2 a b)
    = if a.val < 64 then ((Fourier.C (64 * (a.val * b.val)) : ℝ) : EReal) else ((Fourier.S (64 * ((a.val - 64) * b.val)) : ℝ) : EReal) :=
  apply_ite (fun x : ℝ => (x : EReal)) _ _ _

theorem csh_eq (c : Dev nD) : V1 m ρ c main_v21 = up cshR := by
  funext j
  obtain ⟨a, b, rfl⟩ : ∃ (a : Fin 64) (b : Fin 128), j = ix2 a b := ⟨j 0, j 1, eq_ix2 j⟩
  rw [csh_apply]
  after_reads_at
  split_ifs
  · exact Angles.cos_64 a.val b.val (by omega) (by omega)
  · exact Angles.sin_64 a.val (b.val - 64) (by omega) (by omega)

theorem csv_eq (c : Dev nD) : V1 m ρ c main_v22 = up csvR := by
  funext j
  obtain ⟨a, b, rfl⟩ : ∃ (a : Fin 128) (b : Fin 64), j = ix2 a b := ⟨j 0, j 1, eq_ix2 j⟩
  rw [csv_apply]
  after_reads_at
  split_ifs
  · exact Angles.cos_64 a.val b.val (by omega) (by omega)
  · exact Angles.sin_64 (a.val - 64) b.val (by omega) (by omega)

/-- An argument's channel of a batch over the times. -/
def series (x : S4x4096x16x64.Idx → ℝ) (b : Fin 4) (ch : Fin 1024) (t : ℕ) : ℝ :=
  x (ix4 b (⟨t % 4096, Nat.mod_lt _ (by decide)⟩ : Fin 4096) (⟨ch.val / 64, by omega⟩ : Fin 16) (⟨ch.val % 64, by omega⟩ : Fin 64))

/-- The argument laid out by batch, fine time, channel and coarse time. -/
def laid (x : S4x4096x16x64.Idx → ℝ) : S4x64x1024x64.Idx → ℝ := fun j => series x (j 0) (j 2) (64 * (j 3).val + (j 1).val)

theorem laid_apply (x : S4x4096x16x64.Idx → ℝ) (b : Fin 4) (t : Fin 64) (ch : Fin 1024) (s : Fin 64) (h : s.val * 64 + t.val < 4096) :
    laid x (ix4 b t ch s) = x (ix4 b (⟨s.val * 64 + t.val, h⟩ : Fin 4096) (⟨ch.val / 64, by omega⟩ : Fin 16) (⟨ch.val % 64, by omega⟩ : Fin 64)) := by
  have e : (⟨(64 * s.val + t.val) % 4096, Nat.mod_lt _ (by decide)⟩ : Fin 4096) = ⟨s.val * 64 + t.val, h⟩ := Fin.ext (by simp only; omega)
  exact congrArg (fun a => x (ix4 b a (⟨ch.val / 64, by omega⟩ : Fin 16) (⟨ch.val % 64, by omega⟩ : Fin 64))) e

theorem queries_eq (c : Dev nD) (x : S4x4096x16x64.Idx → ℝ) (h : m ((c.tc : Thread nD τ).loc main_arg0) = up x) : V1 m ρ c main_v24 = up (laid x) := by
  funext j
  obtain ⟨b, t, ch, s, rfl⟩ : ∃ (b : Fin 4) (t : Fin 64) (ch : Fin 1024) (s : Fin 64), j = ix4 b t ch s := ⟨j 0, j 1, j 2, j 3, eq_ix4 j⟩
  rw [up_apply, laid_apply x b t ch s (by omega)]
  after_reads_at
  exact congrFun h _

theorem keys_eq (c : Dev nD) (x : S4x4096x16x64.Idx → ℝ) (h : m ((c.tc : Thread nD τ).loc main_arg1) = up x) : V1 m ρ c main_v26 = up (laid x) := by
  funext j
  obtain ⟨b, t, ch, s, rfl⟩ : ∃ (b : Fin 4) (t : Fin 64) (ch : Fin 1024) (s : Fin 64), j = ix4 b t ch s := ⟨j 0, j 1, j 2, j 3, eq_ix4 j⟩
  rw [up_apply, laid_apply x b t ch s (by omega)]
  after_reads_at
  exact congrFun h _

end Cert.KernelIdeal.Run

end
-- ==== Proof.KernelIdeal.Inverse.lean ====
/- One batch's inverse transform in the second call, over a finite spectrum: the two short transforms with the twiddle
   between them are the transform of length 4096.  -/
module

public import proofs.«01_k».proof.Proof.KernelIdeal.TopKForm
public import proofs.«01_k».proof.Proof.KernelIdeal.Tables

@[expose] public section

set_option maxRecDepth 16384

noncomputable section

namespace Cert.KernelIdeal.Run

open Cert.KernelIdeal.Gen Cert.Finite
open Idealize.ShloMosaic Idealize.ShloMosaic.TcCoe

/-- A spectrum laid out with frequency `f + 64 · g` at row `g`, column `f`. -/
def spread (R : Fin 4 → ℕ → ℝ) : S4x64x64.Idx → ℝ := fun j => R (j 0) ((j 2).val + 64 * (j 1).val)

theorem batchOf_apply (x : S4x64x64.Idx → EReal) (b : Fin 4) (g f : Fin 64) :
    batchOf (F := Ideal) x b (ix3 (0 : Fin 1) g f) = x (ix3 b g f) := by
  refine match b with
    | 0 => congrArg x (funext fun a => Fin.ext ?_)
    | 1 => congrArg x (funext fun a => Fin.ext ?_)
    | 2 => congrArg x (funext fun a => Fin.ext ?_)
    | 3 => congrArg x (funext fun a => Fin.ext ?_) <;>
  (fin_cases a <;> simp [Rect.unit, ix3])

theorem batchOf_spread (R : Fin 4 → ℕ → ℝ) (b : Fin 4) :
    batchOf (F := Ideal) (up (spread R)) b = up (fun j : S1x64x64.Idx => R b ((j 2).val + 64 * (j 1).val)) := by
  funext j
  obtain ⟨z, g, f, rfl⟩ : ∃ (z : Fin 1) (g f : Fin 64), j = ix3 z g f := ⟨j 0, j 1, j 2, eq_ix3 j⟩
  obtain rfl : z = 0 := Subsingleton.elim _ _
  exact batchOf_apply _ b g f

/-- The two short transforms of the spectrum, over finite entries. -/
theorem pay6_apply (R I : ℕ → ℝ) (u w : Fin 64) :
    k1_pay6 (F := Ideal) (up c64R) (up s64R) (up twcR) (up twsR)
      (up fun j : S1x64x64.Idx => R ((j 2).val + 64 * (j 1).val)) (up fun j : S1x64x64.Idx => I ((j 2).val + 64 * (j 1).val)) (ix2 u w)
      = ((Fourier.inverse R I (u.val + 64 * w.val) : ℝ) : EReal) := by
  rw [← Fourier.two_steps_inverse]
  unfold k1_pay6 k1_pay2 k1_pay3 k1_pay4 k1_pay5
  pointwise
  simp only [up_apply, sub_self_real, mul_zero, zero_mul, Finset.sum_const_zero, add_zero, zero_add, ← EReal.coe_mul, ← EReal.coe_add, ← EReal.coe_sub, coe_sum]
  rfl

/-- One batch's inverse transform. -/
theorem inv_apply (R I : Fin 4 → ℕ → ℝ) (b : Fin 4) (u w : Fin 64) :
    inv (F := Ideal) (up (spread R)) (up (spread I)) (up c64R) (up s64R) (up twcR) (up twsR) b (ix2 u w)
      = ((Fourier.inverse (R b) (I b) (u.val + 64 * w.val) : ℝ) : EReal) := by
  unfold inv
  rw [batchOf_spread, batchOf_spread]
  exact pay6_apply (R b) (I b) u w

/-- What the selection starts from: the four batches added. -/
theorem start_apply (R I : Fin 4 → ℕ → ℝ) (u w : Fin 64) :
    start (F := Ideal) (up (spread R)) (up (spread I)) (up c64R) (up s64R) (up twcR) (up twsR) (ix2 u w)
      = ((∑ b : Fin 4, Fourier.inverse (R b) (I b) (u.val + 64 * w.val) : ℝ) : EReal) := by
  show ((inv (F := Ideal) _ _ _ _ _ _ 0 (ix2 u w) + inv (F := Ideal) _ _ _ _ _ _ 1 (ix2 u w) + inv (F := Ideal) _ _ _ _ _ _ 2 (ix2 u w) + inv (F := Ideal) _ _ _ _ _ _ 3 (ix2 u w) : EReal)) = _
  simp only [inv_apply, ← EReal.coe_add, Fin.sum_univ_four]

end Cert.KernelIdeal.Run

end
-- ==== Proof.Selection.lean ====
/- Choosing the greatest entries one at a time, the least position first where several are greatest, is taking the first
   positions of the stable descending sort.  -/
module

public import Idealize.ShloMosaic.Lib.SortPrefix
public import Idealize.ShloMosaic.PureOps.Ideal.Laws
public import Idealize.ShloMosaic.Lib.Pointwise

@[expose] public section

noncomputable section

namespace Cert.Selection

open Idealize.ShloMosaic

variable {n : ℕ} (M : Fin n → ℝ)

/-- The entries left before round `t`: −∞ where an earlier round chose. -/
def remaining (σ : ℕ → Fin n) : ℕ → Fin n → EReal
  | 0 => fun p => ((M p : ℝ) : EReal)
  | t + 1 => fun p => if p = σ t then ⊥ else remaining σ t p

/-- Each round up to `k` chooses the least position of a greatest entry. -/
def Greedy (σ : ℕ → Fin n) (k : ℕ) : Prop :=
  ∀ t, t < k → (∀ p, remaining M σ t p ≤ remaining M σ t (σ t)) ∧ (∀ p, remaining M σ t p = remaining M σ t (σ t) → σ t ≤ p)

variable {M}

theorem remaining_chosen (σ : ℕ → Fin n) (t s : ℕ) (h : s < t) : remaining M σ t (σ s) = ⊥ := by
  induction t with
  | zero => omega
  | succ t ih =>
    unfold remaining
    by_cases e : σ s = σ t
    · rw [if_pos e]
    · rw [if_neg e]
      refine ih ?_
      rcases Nat.lt_succ_iff_lt_or_eq.mp h with h | h
      · exact h
      · exact absurd (congrArg σ h) e

theorem remaining_other (σ : ℕ → Fin n) (t : ℕ) (p : Fin n) (h : ∀ s, s < t → σ s ≠ p) : remaining M σ t p = ((M p : ℝ) : EReal) := by
  induction t with
  | zero => rfl
  | succ t ih =>
    unfold remaining
    rw [if_neg (fun e => h t (Nat.lt_succ_self t) e.symm)]
    exact ih fun s hs => h s (by omega)

/-- With fewer rounds than positions some position is not chosen. -/
theorem exists_other (σ : ℕ → Fin n) (t : ℕ) (h : t < n) : ∃ p : Fin n, ∀ s, s < t → σ s ≠ p := by
  classical
  have hc : ((Finset.range t).image σ).card < (Finset.univ : Finset (Fin n)).card := by
    rw [Finset.card_univ, Fintype.card_fin]
    exact lt_of_le_of_lt Finset.card_image_le (by rw [Finset.card_range]; exact h)
  obtain ⟨p, hp⟩ := Finset.exists_mem_notMem_of_card_lt_card hc
  exact ⟨p, fun s hs e => hp.2 (Finset.mem_image.mpr ⟨s, Finset.mem_range.mpr hs, e⟩)⟩

variable {σ : ℕ → Fin n} {k : ℕ} (hσ : Greedy M σ k) (hk : k ≤ n)
include hσ hk

/-- No position is chosen twice. -/
theorem chosen_ne {s t : ℕ} (hst : s < t) (ht : t < k) : σ s ≠ σ t := by
  intro e
  obtain ⟨p, hp⟩ := exists_other σ t (by omega)
  have h := (hσ t ht).1 p
  rw [remaining_other σ t p hp, ← e, remaining_chosen σ t s hst] at h
  exact absurd (le_bot_iff.mp h) (EReal.coe_ne_bot _)

theorem remaining_self (t : ℕ) (ht : t < k) : remaining M σ t (σ t) = ((M (σ t) : ℝ) : EReal) :=
  remaining_other σ t _ fun s hs => chosen_ne hσ hk hs ht

/-- A position not chosen before round `t` is not before the one chosen then. -/
theorem not_before (t : ℕ) (ht : t < k) (p : Fin n) (hp : ∀ s, s < t → σ s ≠ p) : M p ≤ M (σ t) ∧ (M p = M (σ t) → σ t ≤ p) := by
  have h := hσ t ht
  have h1 := h.1 p
  have h2 := h.2 p
  rw [remaining_other σ t p hp, remaining_self hσ hk t ht] at h1 h2
  exact ⟨EReal.coe_le_coe_iff.mp h1, fun e => h2 (congrArg _ e)⟩

/-- The chosen positions are the first of the stable descending sort. -/
theorem sortedFrom_eq (i : Fin k) :
    sortedFrom (fun a b : Fin n => decide (M b < M a)) (i.castLE hk) = σ i.val := by
  classical
  have hB := StrictTotalBefore.of_key_then_position (n := n) (fun x y : ℝ => decide (y < x)) M (fun a => by simp)
    (fun a b c h h' => by simp only [decide_eq_true_eq] at *; linarith)
    (fun a b => by simp only [decide_eq_true_eq]; rcases lt_trichotomy a b with h | h | h <;> tauto)
  have e : sortedFrom (fun a b : Fin n => decide (M b < M a))
      = sortedFrom (fun a b : Fin n => decide (M b < M a) || (decide (M a = M b) && decide (a < b))) := by
    funext q
    unfold sortedFrom
    have hl : sortPositions n (fun a b : Fin n => decide (M b < M a))
        = sortPositions n (fun a b : Fin n => decide (M b < M a) || (decide (M a = M b) && decide (a < b))) := by
      unfold sortPositions
      have hs : (List.finRange n).Pairwise (· < ·) := List.pairwise_lt_finRange n
      generalize List.finRange n = l at hs
      induction l with
      | nil => rfl
      | cons a l ih =>
        rw [List.pairwise_cons] at hs
        unfold stableSort
        rw [ih hs.2]
        refine insertBefore_congr _ _ a _ fun b hb => ?_
        have hab : a < b := hs.1 b ((perm_stableSort _ l).mem_iff.mp hb)
        have : ¬ b < a := not_lt.mpr hab.le
        simp [this]
    rw [List.get_of_eq hl]; rfl
  rw [e]
  refine hB.sortedFrom_eq_of_prefix hk (fun i : Fin k => σ i.val) ?_ ?_ ?_ i
  · intro i j h
    by_contra hne
    rcases lt_or_gt_of_ne (fun e => hne (Fin.ext e) : i.val ≠ j.val) with h' | h'
    · exact chosen_ne hσ hk h' j.isLt h
    · exact chosen_ne hσ hk h' i.isLt h.symm
  · intro i j hij
    obtain ⟨h1, h2⟩ := not_before hσ hk i.val i.isLt (σ j.val) fun s hs => chosen_ne hσ hk (hs.trans hij) j.isLt
    simp only [Bool.or_eq_false_iff, decide_eq_false_iff_not, not_lt, Bool.and_eq_false_imp, decide_eq_true_eq]
    exact ⟨h1, h2⟩
  · intro i p hp
    obtain ⟨h1, h2⟩ := not_before hσ hk i.val i.isLt p fun s hs => hp ⟨s, hs.trans i.isLt⟩
    simp only [Bool.or_eq_false_iff, decide_eq_false_iff_not, not_lt, Bool.and_eq_false_imp, decide_eq_true_eq]
    exact ⟨h1, h2⟩

/-- The same with the entries multiplied by one positive number. -/
theorem topK_apply (x : (⟨1, ![n]⟩ : Shape).Idx → EReal) (r : ℝ) (hr : 0 < r)
    (hx : ∀ p : Fin n, x (ix1 p) = ((r * M p : ℝ) : EReal)) (h : (⟨1, ![n]⟩ : Shape).Slices (fun _ => 0) ⟨1, ![k]⟩) (i : Fin k) :
    (Host.topK (s := ⟨1, ![n]⟩) ⟨1, ![k]⟩ 0 (FloatOps.cmpfTotal (F := Ideal) (φ := .f32) .gt) x h).2 (ix1 i) = BitVec.ofNat 32 (σ i.val).val := by
  rw [← sortedFrom_eq hσ hk i]
  have hc : ∀ a b : EReal, (FloatOps.cmpfTotal (F := Ideal) (φ := .f32) .gt a b == 1#1) = decide (b < a) := fun a b => by
    show (BitVec.ofBool (decide (b < a)) == 1#1) = _
    by_cases hab : b < a <;> simp [hab]
  have hal : ∀ (j : (⟨1, ![n]⟩ : Shape).Idx) (p : Fin n), Shape.Idx.along (s := ⟨1, ![n]⟩) j (0 : Fin 1) p = ix1 p := fun j p =>
    (Shape.Idx.along_rank1 j p).trans (funext fun a => by obtain rfl : a = 0 := Subsingleton.elim _ _; rfl)
  have hb : ∀ j : (⟨1, ![n]⟩ : Shape).Idx, (fun a b : Fin n =>
      (FloatOps.cmpfTotal (F := Ideal) (φ := .f32) .gt (x (Shape.Idx.along (s := ⟨1, ![n]⟩) j (0 : Fin 1) a)) (x (Shape.Idx.along (s := ⟨1, ![n]⟩) j (0 : Fin 1) b)) == 1#1))
      = fun a b : Fin n => decide (M b < M a) := fun j => by
    funext a b
    rw [hc, hal, hal, hx, hx]
    refine decide_eq_decide.mpr ?_
    rw [EReal.coe_lt_coe_iff]
    exact mul_lt_mul_iff_right₀ hr
  have key : ∀ (j : (⟨1, ![n]⟩ : Shape).Idx), j 0 = i.castLE hk →
      BitVec.ofNat 32 ((Shape.Idx.along (s := ⟨1, ![n]⟩) j (0 : Fin 1) (sortedFrom (fun a b : Fin n =>
        (FloatOps.cmpfTotal (F := Ideal) (φ := .f32) .gt (x (Shape.Idx.along (s := ⟨1, ![n]⟩) j (0 : Fin 1) a)) (x (Shape.Idx.along (s := ⟨1, ![n]⟩) j (0 : Fin 1) b)) == 1#1)) (j 0))) (0 : Fin 1)).val
        = BitVec.ofNat 32 (sortedFrom (fun a b : Fin n => decide (M b < M a)) (i.castLE hk)).val := fun j hj => by
    rw [hb]
    refine (congrArg (fun q : (⟨1, ![n]⟩ : Shape).Idx => BitVec.ofNat 32 (q 0).val) (hal j _)).trans ?_
    exact congrArg (fun q : Fin n => BitVec.ofNat 32 (sortedFrom (fun a b : Fin n => decide (M b < M a)) q).val) hj
  refine Eq.trans ?_ (key (fun a => ⟨0 + (ix1 i (a.cast h.1.symm)).val, Nat.lt_of_lt_of_le (Nat.add_lt_add_left ((ix1 i) _).isLt _) (h.2 a)⟩) (Fin.ext (Nat.zero_add _)))
  rfl

end Cert.Selection

end
-- ==== Proof.KernelIdeal.Rounds.lean ====
/- The eight rounds of the second call over finite entries: each chooses the least lag of a greatest entry left.  -/
module

public import proofs.«01_k».proof.Proof.KernelIdeal.TopKPick
public import proofs.«01_k».proof.Proof.KernelIdeal.Tables
public import proofs.«01_k».proof.Proof.Selection

@[expose] public section

set_option maxRecDepth 16384

noncomputable section

namespace Cert.KernelIdeal.Run

open Cert.KernelIdeal.Gen Cert.Finite
open Idealize.ShloMosaic Idealize.ShloMosaic.TcCoe

theorem word_bot : Ideal.ofBits .f32 0xFF800000#32 = (⊥ : EReal) := by
  simp [Ideal.ofBits, Ideal.ieee]

instance maxComm : Std.Commutative (FloatOps.maximumf (F := Ideal) (φ := .f32)) := ⟨fun a b => max_comm a b⟩
instance maxAssoc : Std.Associative (FloatOps.maximumf (F := Ideal) (φ := .f32)) := ⟨fun a b c => max_assoc a b c⟩

theorem wide_apply {α : Type} (a : S64x64.Idx → α) (u w : Fin 64) :
    shapeCast S1x64x64 a shapeCasts_S64x64_S1x64x64 (ix3 (0 : Fin 1) u w) = a (ix2 u w) :=
  shapeCast_apply _ _ (ix3 (0 : Fin 1) u w) (ix2 u w) (by rw [Shape.rowMajor_val_two, Shape.rowMajor_val_three]; simp [ix2, ix3])

/-- The greatest entry, as a fold of the maximum. -/
theorem top_fold (a : S64x64.Idx → EReal) :
    top (F := Ideal) a = (Finset.univ : Finset S1x64x64.Idx).fold max ⊥ (shapeCast S1x64x64 a shapeCasts_S64x64_S1x64x64) := by
  have e : top (F := Ideal) a = multiReduction (F := Ideal) (φ := .f32) .maximumf [1, 2] S1 (shapeCast S1x64x64 a shapeCasts_S64x64_S1x64x64) 0xFF800000#32 reduces_S1x64x64_S1 (.inl rfl) rfl (ix1 (0 : Fin 1)) := by
    unfold top
    exact congrArg (multiReduction (F := Ideal) (φ := .f32) .maximumf [1, 2] S1 (shapeCast S1x64x64 a shapeCasts_S64x64_S1x64x64) 0xFF800000#32 reduces_S1x64x64_S1 (.inl rfl) rfl) (one_idx1 _)
  rw [e]
  refine (multiReduction_maximumf_eq_fold _ _ _ _ _ _).trans ?_
  rw [Finset.filter_true_of_mem (fun i _ => (one_idx1 _).trans (one_idx1 _).symm)]
  show Finset.fold max (Ideal.ofBits .f32 0xFF800000#32) _ _ = _
  rw [word_bot]

/-- Every entry is at most it, -/
theorem le_top (a : S64x64.Idx → EReal) (u w : Fin 64) : a (ix2 u w) ≤ top (F := Ideal) a := by
  rw [top_fold]
  exact (Finset.le_fold_max _).2 (.inr ⟨ix3 (0 : Fin 1) u w, Finset.mem_univ _, le_of_eq (wide_apply a u w).symm⟩)

/-- and one of them is it. -/
theorem exists_top (a : S64x64.Idx → EReal) : ∃ u w : Fin 64, a (ix2 u w) = top (F := Ideal) a := by
  rcases (Finset.le_fold_max (b := (⊥ : EReal)) (f := shapeCast S1x64x64 a shapeCasts_S64x64_S1x64x64) (s := Finset.univ) _).1 le_rfl with h | ⟨i, _, hi⟩
  · refine ⟨0, 0, le_antisymm (le_top a 0 0) ?_⟩
    rw [top_fold]; exact h.trans bot_le
  · obtain ⟨z, u, w, rfl⟩ : ∃ (z : Fin 1) (u w : Fin 64), i = ix3 z u w := ⟨i 0, i 1, i 2, eq_ix3 i⟩
    obtain rfl : z = 0 := Subsingleton.elim _ _
    refine ⟨u, w, le_antisymm (le_top a u w) ?_⟩
    rw [wide_apply] at hi
    rw [top_fold]; exact hi

/-- The entry a lag has in the square. -/
def cell (p : Fin 4096) : S64x64.Idx := ix2 (⟨p.val % 64, Nat.mod_lt _ (by decide)⟩ : Fin 64) (⟨p.val / 64, by omega⟩ : Fin 64)

/-- The lag of an entry. -/
def lagOf (u w : Fin 64) : Fin 4096 := ⟨64 * w.val + u.val, by omega⟩

theorem cell_lagOf (u w : Fin 64) : cell (lagOf u w) = ix2 u w := by
  have e0 : (⟨(lagOf u w).val % 64, Nat.mod_lt _ (by decide)⟩ : Fin 64) = u := Fin.ext (by show (64 * w.val + u.val) % 64 = u.val; omega)
  have e1 : (⟨(lagOf u w).val / 64, by omega⟩ : Fin 64) = w := Fin.ext (by show (64 * w.val + u.val) / 64 = w.val; omega)
  unfold cell; rw [e0, e1]

theorem lag_cell (p : Fin 4096) : (lags (cell p)).toNat = p.val := by
  rw [lags_toNat]; show 64 * (p.val / 64) + p.val % 64 = p.val; omega

theorem candidate_eq (a : S64x64.Idx → EReal) (p : Fin 4096) :
    (candidate (F := Ideal) a (cell p)).toNat = if a (cell p) = top (F := Ideal) a then p.val else 4096 := by
  unfold candidate
  have hc : FloatOps.cmpf (F := Ideal) (φ := .f32) .oeq (a (cell p)) (top (F := Ideal) a) = BitVec.ofBool (decide (a (cell p) = top (F := Ideal) a)) := rfl
  rw [hc]
  by_cases h : a (cell p) = top (F := Ideal) a
  · rw [if_pos h, decide_eq_true h]; exact lag_cell p
  · rw [if_neg h, decide_eq_false h]; rfl

/-- The pick as a lag (0 where it were none). -/
def pickOf (a : S64x64.Idx → EReal) : Fin 4096 := ⟨(pick (F := Ideal) a).toNat % 4096, Nat.mod_lt _ (by decide)⟩

theorem pick_lt (a : S64x64.Idx → EReal) : (pick (F := Ideal) a).toNat < 4096 := by
  obtain ⟨u, w, h⟩ := exists_top a
  have := pick_le (F := Ideal) a (cell (lagOf u w))
  rw [candidate_eq, if_pos (by rw [cell_lagOf]; exact h)] at this
  exact lt_of_le_of_lt this (lagOf u w).isLt

theorem pickOf_val (a : S64x64.Idx → EReal) : (pickOf a).val = (pick (F := Ideal) a).toNat := Nat.mod_eq_of_lt (pick_lt a)

/-- The entry picked is the greatest, -/
theorem at_pick (a : S64x64.Idx → EReal) : a (cell (pickOf a)) = top (F := Ideal) a := by
  obtain ⟨j, hj⟩ := pick_mem (F := Ideal) a
  obtain ⟨u, w, rfl⟩ : ∃ (u w : Fin 64), j = ix2 u w := ⟨j 0, j 1, eq_ix2 j⟩
  rw [← cell_lagOf, candidate_eq] at hj
  have hlt := pick_lt a
  by_cases h : a (cell (lagOf u w)) = top (F := Ideal) a
  · rw [if_pos h] at hj
    have e : pickOf a = lagOf u w := Fin.ext ((pickOf_val a).trans hj)
    rw [e]; exact h
  · rw [if_neg h] at hj; omega

/-- and its lag the least of those. -/
theorem pick_least (a : S64x64.Idx → EReal) (p : Fin 4096) (h : a (cell p) = a (cell (pickOf a))) : pickOf a ≤ p := by
  have := pick_le (F := Ideal) a (cell p)
  rw [candidate_eq, if_pos (h.trans (at_pick a)), ← pickOf_val] at this
  exact this

theorem le_pick (a : S64x64.Idx → EReal) (p : Fin 4096) : a (cell p) ≤ a (cell (pickOf a)) := by
  exact (le_top a _ _).trans (le_of_eq (at_pick a).symm)

theorem at_apply (a : S64x64.Idx → EReal) (p : Fin 4096) : at_ (pick (F := Ideal) a) (cell p) = BitVec.ofBool (decide (p = pickOf a)) := by
  have h1 : at_ (pick (F := Ideal) a) (cell p) = BitVec.ofBool (decide (lags (cell p) = pick (F := Ideal) a)) := by
    unfold at_; pointwise
    unfold IntOp.cmpi; rfl
  rw [h1]
  congr 1
  refine decide_eq_decide.mpr ⟨fun h => Fin.ext ?_, fun h => BitVec.eq_of_toNat_eq ?_⟩
  · rw [← lag_cell p, h, pickOf_val]
  · rw [lag_cell, h, pickOf_val]

theorem next_apply (a : S64x64.Idx → EReal) (p : Fin 4096) :
    next (F := Ideal) a (cell p) = if p = pickOf a then ⊥ else a (cell p) := by
  have h1 : next (F := Ideal) a (cell p) = Scalar.select (at_ (pick (F := Ideal) a) (cell p)) (Ideal.ofBits .f32 0xFF800000#32) (a (cell p)) := by
    unfold next; pointwise
  rw [h1, at_apply, word_bot]
  by_cases h : p = pickOf a
  · rw [if_pos h, decide_eq_true h]; rfl
  · rw [if_neg h, decide_eq_false h]; rfl

section Rounds

variable (x0 x1 : S4x64x64.Idx → EReal) (x2 x3 x4 x5 : S64x64.Idx → EReal)

/-- The lag of each round. -/
def chosen (t : ℕ) : Fin 4096 := pickOf (left (F := Ideal) x0 x1 x2 x3 x4 x5 t)

variable (M : Fin 4096 → ℝ) (hM : ∀ p, start (F := Ideal) x0 x1 x2 x3 x4 x5 (cell p) = ((M p : ℝ) : EReal))
include hM

/-- What is left before each round. -/
theorem left_apply (t : ℕ) (p : Fin 4096) :
    left (F := Ideal) x0 x1 x2 x3 x4 x5 t (cell p) = Selection.remaining M (chosen x0 x1 x2 x3 x4 x5) t p := by
  induction t with
  | zero => exact hM p
  | succ t ih =>
    show next (F := Ideal) (left (F := Ideal) x0 x1 x2 x3 x4 x5 t) (cell p) = _
    rw [next_apply, ih]; rfl

/-- The rounds choose as the selection asks. -/
theorem greedy (k : ℕ) : Selection.Greedy M (chosen x0 x1 x2 x3 x4 x5) k := by
  intro t _
  refine ⟨fun p => ?_, fun p hp => ?_⟩
  · rw [← left_apply x0 x1 x2 x3 x4 x5 M hM, ← left_apply x0 x1 x2 x3 x4 x5 M hM]; exact le_pick _ p
  · rw [← left_apply x0 x1 x2 x3 x4 x5 M hM, ← left_apply x0 x1 x2 x3 x4 x5 M hM] at hp; exact pick_least _ p hp

end Rounds

/-- A sum over the square of entries that vanish but at one lag. -/
theorem sum_one_lag (g y : S64x64.Idx → EReal) (p : Fin 4096) (h : ∀ p', g (cell p') = if p' = p then y (cell p') else 0) :
    (∑ i : S1x64x64.Idx, shapeCast S1x64x64 g shapeCasts_S64x64_S1x64x64 i) = y (cell p) := by
  have hg : ∀ i : S1x64x64.Idx, ∃ u w : Fin 64, i = ix3 (0 : Fin 1) u w := fun i => by
    obtain ⟨z, u, w, rfl⟩ : ∃ (z : Fin 1) (u w : Fin 64), i = ix3 z u w := ⟨i 0, i 1, i 2, eq_ix3 i⟩
    obtain rfl : z = 0 := Subsingleton.elim _ _
    exact ⟨u, w, rfl⟩
  obtain ⟨u0, w0, rfl⟩ : ∃ u w : Fin 64, p = lagOf u w :=
    ⟨⟨p.val % 64, Nat.mod_lt _ (by decide)⟩, ⟨p.val / 64, by omega⟩, Fin.ext (by show p.val = 64 * (p.val / 64) + p.val % 64; omega)⟩
  refine (Finset.sum_eq_single (ix3 (0 : Fin 1) u0 w0) (fun i _ hi => ?_) (fun hn => absurd (Finset.mem_univ _) hn)).trans ?_
  · obtain ⟨u, w, rfl⟩ := hg i
    rw [wide_apply, ← cell_lagOf, h, if_neg]
    intro e
    have e' : 64 * w.val + u.val = 64 * w0.val + u0.val := congrArg Fin.val e
    obtain rfl : u = u0 := Fin.ext (by omega)
    obtain rfl : w = w0 := Fin.ext (by omega)
    exact hi rfl
  · rw [wide_apply, ← cell_lagOf, h, if_pos rfl]

/-- A batch's entry at the lag picked, scaled. -/
theorem scaledAt_apply (a y : S64x64.Idx → EReal) :
    scaledAt (F := Ideal) y (pick (F := Ideal) a) = y (cell (pickOf a)) * Ideal.ofBits .f32 0x34800000#32 := by
  have e : scaledAt (F := Ideal) y (pick (F := Ideal) a)
      = multiReduction (F := Ideal) (φ := .f32) .add [1, 2] S1 (shapeCast S1x64x64 (select (at_ (pick (F := Ideal) a)) y (broadcast S64x64 (Scalar.ofBits (F := Ideal) .f32 0x00000000#32))) shapeCasts_S64x64_S1x64x64) 0x00000000#32 reduces_S1x64x64_S1 (.inl rfl) rfl (ix1 (0 : Fin 1)) * Ideal.ofBits .f32 0x34800000#32 := by
    unfold scaledAt
    exact congrArg (fun j => multiReduction (F := Ideal) (φ := .f32) .add [1, 2] S1 (shapeCast S1x64x64 (select (at_ (pick (F := Ideal) a)) y (broadcast S64x64 (Scalar.ofBits (F := Ideal) .f32 0x00000000#32))) shapeCasts_S64x64_S1x64x64) 0x00000000#32 reduces_S1x64x64_S1 (.inl rfl) rfl j * Ideal.ofBits .f32 0x34800000#32) (one_idx1 _)
  rw [e]
  refine congrArg (· * Ideal.ofBits .f32 0x34800000#32) ((Ideal.multiReduction_add_total _ _ _ (by decide) _ _ _).trans ?_)
  have hs : ∀ p : Fin 4096, select (at_ (pick (F := Ideal) a)) y (broadcast S64x64 (Scalar.ofBits (F := Ideal) .f32 0x00000000#32)) (cell p)
      = if p = pickOf a then y (cell p) else 0 := fun p => by
    have h1 : select (at_ (pick (F := Ideal) a)) y (broadcast S64x64 (Scalar.ofBits (F := Ideal) .f32 0x00000000#32)) (cell p)
        = Scalar.select (at_ (pick (F := Ideal) a) (cell p)) (y (cell p)) (Ideal.ofBits .f32 0x00000000#32) := by pointwise
    rw [h1, at_apply]
    by_cases h : p = pickOf a
    · rw [if_pos h, decide_eq_true h]; rfl
    · rw [if_neg h, decide_eq_false h]; show Ideal.ofBits .f32 0x00000000#32 = 0; simp [Ideal.ofBits, Ideal.ieee]
  exact sum_one_lag _ y (pickOf a) hs

end Cert.KernelIdeal.Run

end
-- ==== Proof.KernelIdeal.CorrValue.lean ====
/- What the two results of the first call hold after it: at each index the fold, over the eight channel blocks of the
   batch, of the body's sum.  -/
module

public import proofs.«01_k».proof.Proof.KernelIdeal.Corr
public import Idealize.ShloMosaic.Lib.Pipeline.Value

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At the first block of a batch the first result's buffer is left at the product over the block added to zero. -/
theorem out_A_6_eq (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) :
    out0_A_6 c i arg2 harg2 arg3 harg3 arg4 harg4 arg5 harg5 arg6 harg6 arg7 harg7 arg8 harg8 arg9 harg9 hc0 x0 x1 x2 x3 x4 x5 = k0_pay5 (k0_pay15 (k0_pay7 x3) (k0_pay8 x4) (k0_pay9 x5) (k0_pay10 x2 x0 x1) (k0_pay11 x2 x0 x1) (k0_pay12 x2 x0 x1) (k0_pay13 x2 x4 x5 x0 x1)) (k0_pay16 (k0_pay7 x3) (k0_pay8 x4) (k0_pay9 x5) (k0_pay10 x2 x0 x1) (k0_pay11 x2 x0 x1) (k0_pay12 x2 x0 x1) (k0_pay13 x2 x4 x5 x0 x1)) (k0_pay17 (k0_pay7 x3) (k0_pay8 x4) (k0_pay9 x5) (k0_pay10 x2 x0 x1) (k0_pay11 x2 x0 x1) (k0_pay12 x2 x0 x1) (k0_pay13 x2 x4 x5 x0 x1)) (k0_pay18 (k0_pay7 x3) (k0_pay8 x4) (k0_pay9 x5) (k0_pay10 x2 x0 x1) (k0_pay11 x2 x0 x1) (k0_pay12 x2 x0 x1) (k0_pay13 x2 x4 x5 x0 x1)) (k0_pay3 (F := F)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  try sl_unfold_words
  rw [View.canon_cons_unit_zero (S := S1x64x64) hz3, View.readCov_unit_zero (S := S1x64x64) _ hz3]
  simp only [View.readAt_eq_ld, harg2.read_unread, harg3.read_unread, harg4.read_unread, harg5.read_unread, harg6.read_unread, harg7.read_unread, harg8.read_unread, harg9.read_unread, View.ld_unit_zero (S := S128x64) hz2, View.ld_unit_zero (S := S1x64x128x64) hz4, View.ld_unit_zero (S := S1x64x64) hz3, View.ld_unit_zero (S := S64x128) hz2, View.ld_unit_zero (S := S64x64) hz2, shapeCast_self]

/-- At a later block the product over the block is added to what the buffer held. -/
theorem out_B_6_eq (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : ¬cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) (xo6 : Vec F S1x64x64 .f32) (xo7 : Vec F S1x64x64 .f32) :
    out0_B_6 c i arg2 harg2 arg3 harg3 arg4 harg4 arg5 harg5 arg6 harg6 arg7 harg7 arg8 harg8 arg9 harg9 hc0 x0 x1 x2 x3 x4 x5 xo6 xo7 = k0_pay5 (k0_pay15 (k0_pay7 x3) (k0_pay8 x4) (k0_pay9 x5) (k0_pay10 x2 x0 x1) (k0_pay11 x2 x0 x1) (k0_pay12 x2 x0 x1) (k0_pay13 x2 x4 x5 x0 x1)) (k0_pay16 (k0_pay7 x3) (k0_pay8 x4) (k0_pay9 x5) (k0_pay10 x2 x0 x1) (k0_pay11 x2 x0 x1) (k0_pay12 x2 x0 x1) (k0_pay13 x2 x4 x5 x0 x1)) (k0_pay17 (k0_pay7 x3) (k0_pay8 x4) (k0_pay9 x5) (k0_pay10 x2 x0 x1) (k0_pay11 x2 x0 x1) (k0_pay12 x2 x0 x1) (k0_pay13 x2 x4 x5 x0 x1)) (k0_pay18 (k0_pay7 x3) (k0_pay8 x4) (k0_pay9 x5) (k0_pay10 x2 x0 x1) (k0_pay11 x2 x0 x1) (k0_pay12 x2 x0 x1) (k0_pay13 x2 x4 x5 x0 x1)) xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xo6 xo7)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S128x64) hz2, View.ld_unit_zero (S := S1x64x128x64) hz4, View.ld_unit_zero (S := S1x64x64) hz3, View.ld_unit_zero (S := S64x128) hz2, View.ld_unit_zero (S := S64x64) hz2, shapeCast_self]

/-- What the first block of a batch leaves in the first result's buffer. -/
def reset6 (c : Dev nD) (n : ℕ) (h : n < cfg0.N) : Vec F S1x64x64 .f32 :=
  k0_pay5 (k0_pay15 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay16 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay17 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay18 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay3 (F := F))

/-- What a later block leaves in it, over the contents `acc` the block before left. -/
def step6 (c : Dev nD) (n : ℕ) (h : n < cfg0.N) (acc : Vec F S1x64x64 .f32) : Vec F S1x64x64 .f32 :=
  k0_pay5 (k0_pay15 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay16 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay17 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay18 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) acc

/-- After point `t` the buffer holds the fold of the batch's blocks up to `t`. -/
theorem outsAt_6_eq (c : Dev nD) (t : Fin cfg0.N) :
    (outsAt0 V c t.val t.isLt).1 = Pipeline.accAt (reset6 V c) (step6 V c) (8 * (t.val / 8)) (t.val % 8)
      (by have h1 := t.isLt; have h2 := Nat.div_add_mod t.val 8; omega) :=
  Pipeline.eq_accAt_of_mod (fun n h => (outsAt0 V c n h).1) 8 (reset6 V c) (step6 V c)
    (fun n h hn => by have hN := lt_of_lt_of_eq h (show cfg0.N = 32 from N_0); rw [outsAt0_A V c ⟨n, h⟩ (by (try dsimp only); omega)]; dsimp only; exact out_A_6_eq ..)
    (fun n h hn => by have hN := lt_of_lt_of_eq h (show cfg0.N = 32 from N_0); rw [outsAt0_B V c ⟨n + 1, h⟩ (by (try dsimp only); omega)]; dsimp only; exact out_B_6_eq ..)
    (by decide) t.val t.isLt _

/-- The batch whose last point writes the array index `i` back. -/
abbrev run6Of (i : S4x64x64.Idx) : ℕ := 1 * ((i 0).val / 1 - 0) + 1 * ((i 1).val / 64 - 0) + 1 * ((i 2).val / 64 - 0)
set_option backward.proofsInPublic true in
abbrev loc6Of (i : S4x64x64.Idx) : S1x64x64.Idx := fun a => match a with
  | ⟨0, _⟩ => ⟨(i 0).val % 1, Nat.mod_lt _ (by decide)⟩
  | ⟨1, _⟩ => ⟨(i 1).val % 64, Nat.mod_lt _ (by decide)⟩
  | ⟨2, _⟩ => ⟨(i 2).val % 64, Nat.mod_lt _ (by decide)⟩

/-- The first result after the call: at each index the fold over the eight blocks of its batch. -/
def G6 (c : Dev nD) : Buf (Elt F) ((c : Thread nD τ).loc main_v27_0) := fun i =>
  if h : 8 * run6Of i + 7 < cfg0.N then
    (Pipeline.accAt (reset6 V c) (step6 V c) (8 * run6Of i) 7 h) (loc6Of i)
  else V c (Pipeline.arrRef spec0 6) i

theorem idx_facts6 : ∀ t : Fin cfg0.N, 0 ≤ win0_6.index t (0 : Fin 3) ∧ win0_6.index t (0 : Fin 3) ≤ 3
    ∧ 0 ≤ win0_6.index t (1 : Fin 3) ∧ win0_6.index t (1 : Fin 3) ≤ 0
    ∧ 0 ≤ win0_6.index t (2 : Fin 3) ∧ win0_6.index t (2 : Fin 3) ≤ 0
    ∧ 1 * (win0_6.index t (0 : Fin 3) - 0) + 1 * (win0_6.index t (1 : Fin 3) - 0) + 1 * (win0_6.index t (2 : Fin 3) - 0) = t.val / 8 :=
  (by decide +kernel : ∀ t : Fin grid0.N, _)

theorem idx_onto6 : ∀ (q0 : Fin 4) (q1 : Fin 1) (q2 : Fin 1), ∃ t : Fin cfg0.N, (cfg0.win 6).flush t = true ∧ win0_6.index t = ![q0.val + 0, q1.val + 0, q2.val + 0] :=
  (by decide +kernel : ∀ (q0 : Fin 4) (q1 : Fin 1) (q2 : Fin 1), ∃ t : Fin grid0.N, win0_6.flush t = true ∧ win0_6.index t = ![q0.val + 0, q1.val + 0, q2.val + 0])

/-- What a batch's last point writes back is its block of `G6`. -/
theorem flushed6_eq (c : Dev nD) (t : Fin cfg0.N) (hf : (cfg0.win 6).flush t = true) :
    (dat0 V c).flushed 6 t = ((cfg0.win 6).blk t).view.read (Elt F) (G6 V c) := by
  show (cfg0.win 6).cut (grid0.coords t) ((dat0 V c).after 6 t) = _
  rw [after0_6, outsAt_6_eq]
  have hm : t.val % 8 = 7 := (flush0_6 t).mp hf
  obtain ⟨e0, e1, e2, e3⟩ := idx_facts6 t
  funext y
  have hy0 : (y 0).val < 1 := (y 0).isLt
  have hy1 : (y 1).val < 64 := (y 1).isLt
  have hy2 : (y 2).val < 64 := (y 2).isLt
  have hb0 : (((cfg0.win 6).blk t).view.emb y 0).val = win0_6.index t (0 : Fin 3) * 1 + 1 * (y 0).val := rfl
  have hb1 : (((cfg0.win 6).blk t).view.emb y 1).val = win0_6.index t (1 : Fin 3) * 64 + 1 * (y 1).val := rfl
  have hb2 : (((cfg0.win 6).blk t).view.emb y 2).val = win0_6.index t (2 : Fin 3) * 64 + 1 * (y 2).val := rfl
  have hr : run6Of (((cfg0.win 6).blk t).view.emb y) = t.val / 8 := by
    show 1 * ((((cfg0.win 6).blk t).view.emb y 0).val / 1 - 0) + 1 * ((((cfg0.win 6).blk t).view.emb y 1).val / 64 - 0) + 1 * ((((cfg0.win 6).blk t).view.emb y 2).val / 64 - 0) = _
    rw [hb0, hb1, hb2]
    rw [show (win0_6.index t (0 : Fin 3) * 1 + 1 * (y 0).val) / 1 = win0_6.index t (0 : Fin 3) from by omega]; rw [show (win0_6.index t (1 : Fin 3) * 64 + 1 * (y 1).val) / 64 = win0_6.index t (1 : Fin 3) from by omega]; rw [show (win0_6.index t (2 : Fin 3) * 64 + 1 * (y 2).val) / 64 = win0_6.index t (2 : Fin 3) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 64 = (y 1).val; rw [hb1]; omega
    | ⟨2, _⟩ => show (((cfg0.win 6).blk t).view.emb y 2).val % 64 = (y 2).val; rw [hb2]; omega
  show (Pipeline.accAt (reset6 V c) (step6 V c) (8 * (t.val / 8)) (t.val % 8) _) ((cfg0.win 6).xinj (grid0.coords t) y) = G6 V c (((cfg0.win 6).blk t).view.emb y)
  unfold G6
  rw [dif_pos (by rw [hr]; have := t.isLt; have := Nat.div_add_mod t.val 8; omega), hl]
  have e : ∀ (b j : ℕ) (h : b + j < cfg0.N) (b' j' : ℕ) (h' : b' + j' < cfg0.N), b = b' → j = j' →
      Pipeline.accAt (reset6 V c) (step6 V c) b j h = Pipeline.accAt (reset6 V c) (step6 V c) b' j' h' := by
    intro b j h b' j' h' hb hj; subst hb; subst hj; rfl
  have hb : 8 * (t.val / 8) = 8 * run6Of (((cfg0.win 6).blk t).view.emb y) := by rw [hr]
  exact congrFun (e _ _ _ _ _ _ hb hm) _

theorem mem_blk6 (t : Fin cfg0.N) (i : S4x64x64.Idx) :
    i ∈ ((cfg0.win 6).blk t).view.set ↔ ∀ a : Fin 3, win0_6.index t a * S1x64x64.size a ≤ (i a).val ∧ (i a).val < win0_6.index t a * S1x64x64.size a + S1x64x64.size a := by
  show i ∈ ((View.whole main_v27_0).slice (win0_6.rect t)).set ↔ _
  rw [View.set_slice_whole, Rect.mem_set_unit]
  exact Iff.rfl

/-- The written-back blocks cover the array. -/
theorem covered_iff6 (i : S4x64x64.Idx) :
    (∃ t : Fin cfg0.N, (cfg0.win 6).flush t = true ∧ i ∈ ((cfg0.win 6).blk t).view.set) ↔ 0 ≤ (i 0).val ∧ (i 0).val < 4 ∧ 0 ≤ (i 1).val ∧ (i 1).val < 64 ∧ 0 ≤ (i 2).val ∧ (i 2).val < 64 := by
  constructor
  · rintro ⟨t, -, hi⟩
    rw [mem_blk6] at hi
    have b0 : win0_6.index t (0 : Fin 3) * 1 ≤ (i 0).val ∧ (i 0).val < win0_6.index t (0 : Fin 3) * 1 + 1 := hi 0
    have b1 : win0_6.index t (1 : Fin 3) * 64 ≤ (i 1).val ∧ (i 1).val < win0_6.index t (1 : Fin 3) * 64 + 64 := hi 1
    have b2 : win0_6.index t (2 : Fin 3) * 64 ≤ (i 2).val ∧ (i 2).val < win0_6.index t (2 : Fin 3) * 64 + 64 := hi 2
    obtain ⟨e0, e1, e2, e3⟩ := idx_facts6 t
    omega
  · intro h
    have hi0 : (i 0).val < 4 := (i 0).isLt
    have hi1 : (i 1).val < 64 := (i 1).isLt
    have hi2 : (i 2).val < 64 := (i 2).isLt
    obtain ⟨t, hft, ht⟩ := idx_onto6 ⟨(i 0).val / 1 - 0, by omega⟩ ⟨(i 1).val / 64 - 0, by omega⟩ ⟨(i 2).val / 64 - 0, by omega⟩
    have q0 : win0_6.index t (0 : Fin 3) = (i 0).val / 1 - 0 + 0 := congrFun ht 0
    have q1 : win0_6.index t (1 : Fin 3) = (i 1).val / 64 - 0 + 0 := congrFun ht 1
    have q2 : win0_6.index t (2 : Fin 3) = (i 2).val / 64 - 0 + 0 := congrFun ht 2
    refine ⟨t, hft, ?_⟩
    rw [mem_blk6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 64 ≤ (i 1).val ∧ (i 1).val < win0_6.index t (1 : Fin 3) * 64 + 64; omega
    | ⟨2, _⟩ => show win0_6.index t (2 : Fin 3) * 64 ≤ (i 2).val ∧ (i 2).val < win0_6.index t (2 : Fin 3) * 64 + 64; omega

/-- The first result after the call is `G6`. -/
theorem final6 (c : Dev nD) : (dat0 V c).arrAt 6 cfg0.N = G6 V c :=
  (dat0 V c).arrAt_eq_of_cover 6 _ (fun t hf => flushed6_eq V c t hf) (fun i => (covered_iff6 i).2 (by
    have h0 : (i 0).val < 4 := (i 0).isLt; have h1 : (i 1).val < 64 := (i 1).isLt; have h2 : (i 2).val < 64 := (i 2).isLt; omega))

/-- The same for the second result. -/
theorem out_A_7_eq (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) :
    out0_A_7 c i arg2 harg2 arg3 harg3 arg4 harg4 arg5 harg5 arg6 harg6 arg7 harg7 arg8 harg8 arg9 harg9 hc0 x0 x1 x2 x3 x4 x5 = k0_pay6 (k0_pay15 (k0_pay7 x3) (k0_pay8 x4) (k0_pay9 x5) (k0_pay10 x2 x0 x1) (k0_pay11 x2 x0 x1) (k0_pay12 x2 x0 x1) (k0_pay13 x2 x4 x5 x0 x1)) (k0_pay16 (k0_pay7 x3) (k0_pay8 x4) (k0_pay9 x5) (k0_pay10 x2 x0 x1) (k0_pay11 x2 x0 x1) (k0_pay12 x2 x0 x1) (k0_pay13 x2 x4 x5 x0 x1)) (k0_pay17 (k0_pay7 x3) (k0_pay8 x4) (k0_pay9 x5) (k0_pay10 x2 x0 x1) (k0_pay11 x2 x0 x1) (k0_pay12 x2 x0 x1) (k0_pay13 x2 x4 x5 x0 x1)) (k0_pay18 (k0_pay7 x3) (k0_pay8 x4) (k0_pay9 x5) (k0_pay10 x2 x0 x1) (k0_pay11 x2 x0 x1) (k0_pay12 x2 x0 x1) (k0_pay13 x2 x4 x5 x0 x1)) (k0_pay4 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5)]
  unfold kernelRun0_A
  dsimp only
  try sl_unfold_words
  rw [View.canon_cons_unit_zero (S := S1x64x64) hz3, View.readCov_unit_zero (S := S1x64x64) _ hz3]
  simp only [View.readAt_eq_ld, harg2.read_unread, harg3.read_unread, harg4.read_unread, harg5.read_unread, harg6.read_unread, harg7.read_unread, harg8.read_unread, harg9.read_unread, View.ld_unit_zero (S := S128x64) hz2, View.ld_unit_zero (S := S1x64x128x64) hz4, View.ld_unit_zero (S := S1x64x64) hz3, View.ld_unit_zero (S := S64x128) hz2, View.ld_unit_zero (S := S64x64) hz2, shapeCast_self]

theorem out_B_7_eq (c : Dev nD) (i : grid0.Coords) (arg2 : Memref sig .tc .vmem S1x64x128x64 .f32) (harg2 : arg2.IsWhole) (arg3 : Memref sig .tc .vmem S1x64x128x64 .f32) (harg3 : arg3.IsWhole) (arg4 : Memref sig .tc .vmem S64x128 .f32) (harg4 : arg4.IsWhole) (arg5 : Memref sig .tc .vmem S128x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64x64 .f32) (harg8 : arg8.IsWhole) (arg9 : Memref sig .tc .vmem S1x64x64 .f32) (harg9 : arg9.IsWhole) (hc0 : ¬cond0_0 i)
    (x0 : Vec F S1x64x128x64 .f32) (x1 : Vec F S1x64x128x64 .f32) (x2 : Vec F S64x128 .f32) (x3 : Vec F S128x64 .f32) (x4 : Vec F S64x64 .f32) (x5 : Vec F S64x64 .f32) (xo6 : Vec F S1x64x64 .f32) (xo7 : Vec F S1x64x64 .f32) :
    out0_B_7 c i arg2 harg2 arg3 harg3 arg4 harg4 arg5 harg5 arg6 harg6 arg7 harg7 arg8 harg8 arg9 harg9 hc0 x0 x1 x2 x3 x4 x5 xo6 xo7 = k0_pay6 (k0_pay15 (k0_pay7 x3) (k0_pay8 x4) (k0_pay9 x5) (k0_pay10 x2 x0 x1) (k0_pay11 x2 x0 x1) (k0_pay12 x2 x0 x1) (k0_pay13 x2 x4 x5 x0 x1)) (k0_pay16 (k0_pay7 x3) (k0_pay8 x4) (k0_pay9 x5) (k0_pay10 x2 x0 x1) (k0_pay11 x2 x0 x1) (k0_pay12 x2 x0 x1) (k0_pay13 x2 x4 x5 x0 x1)) (k0_pay17 (k0_pay7 x3) (k0_pay8 x4) (k0_pay9 x5) (k0_pay10 x2 x0 x1) (k0_pay11 x2 x0 x1) (k0_pay12 x2 x0 x1) (k0_pay13 x2 x4 x5 x0 x1)) (k0_pay18 (k0_pay7 x3) (k0_pay8 x4) (k0_pay9 x5) (k0_pay10 x2 x0 x1) (k0_pay11 x2 x0 x1) (k0_pay12 x2 x0 x1) (k0_pay13 x2 x4 x5 x0 x1)) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 xo6 xo7)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S128x64) hz2, View.ld_unit_zero (S := S1x64x128x64) hz4, View.ld_unit_zero (S := S1x64x64) hz3, View.ld_unit_zero (S := S64x128) hz2, View.ld_unit_zero (S := S64x64) hz2, shapeCast_self]

def reset7 (c : Dev nD) (n : ℕ) (h : n < cfg0.N) : Vec F S1x64x64 .f32 :=
  k0_pay6 (k0_pay15 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay16 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay17 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay18 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay4 (F := F))

def step7 (c : Dev nD) (n : ℕ) (h : n < cfg0.N) (acc : Vec F S1x64x64 .f32) : Vec F S1x64x64 .f32 :=
  k0_pay6 (k0_pay15 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay16 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay17 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) (k0_pay18 (k0_pay7 (iblk0 V c 3 ⟨n, h⟩)) (k0_pay8 (iblk0 V c 4 ⟨n, h⟩)) (k0_pay9 (iblk0 V c 5 ⟨n, h⟩)) (k0_pay10 (iblk0 V c 2 ⟨n, h⟩) (iblk0 V c 0 ⟨n, h⟩) (iblk0 V c 1 ⟨n, h⟩)) (k0_pay11 (iblk0 V c 2 ⟨n, h⟩) (iblk0 V c 0 ⟨n, h⟩) (iblk0 V c 1 ⟨n, h⟩)) (k0_pay12 (iblk0 V c 2 ⟨n, h⟩) (iblk0 V c 0 ⟨n, h⟩) (iblk0 V c 1 ⟨n, h⟩)) (k0_pay13 (iblk0 V c 2 ⟨n, h⟩) (iblk0 V c 4 ⟨n, h⟩) (iblk0 V c 5 ⟨n, h⟩) (iblk0 V c 0 ⟨n, h⟩) (iblk0 V c 1 ⟨n, h⟩))) acc

theorem outsAt_7_eq (c : Dev nD) (t : Fin cfg0.N) :
    (outsAt0 V c t.val t.isLt).2 = Pipeline.accAt (reset7 V c) (step7 V c) (8 * (t.val / 8)) (t.val % 8)
      (by have h1 := t.isLt; have h2 := Nat.div_add_mod t.val 8; omega) :=
  Pipeline.eq_accAt_of_mod (fun n h => (outsAt0 V c n h).2) 8 (reset7 V c) (step7 V c)
    (fun n h hn => by have hN := lt_of_lt_of_eq h (show cfg0.N = 32 from N_0); rw [outsAt0_A V c ⟨n, h⟩ (by (try dsimp only); omega)]; dsimp only; exact out_A_7_eq ..)
    (fun n h hn => by have hN := lt_of_lt_of_eq h (show cfg0.N = 32 from N_0); rw [outsAt0_B V c ⟨n + 1, h⟩ (by (try dsimp only); omega)]; dsimp only; exact out_B_7_eq ..)
    (by decide) t.val t.isLt _

abbrev run7Of (i : S4x64x64.Idx) : ℕ := 1 * ((i 0).val / 1 - 0) + 1 * ((i 1).val / 64 - 0) + 1 * ((i 2).val / 64 - 0)
set_option backward.proofsInPublic true in
abbrev loc7Of (i : S4x64x64.Idx) : S1x64x64.Idx := fun a => match a with
  | ⟨0, _⟩ => ⟨(i 0).val % 1, Nat.mod_lt _ (by decide)⟩
  | ⟨1, _⟩ => ⟨(i 1).val % 64, Nat.mod_lt _ (by decide)⟩
  | ⟨2, _⟩ => ⟨(i 2).val % 64, Nat.mod_lt _ (by decide)⟩

/-- The second result after the call. -/
def G7 (c : Dev nD) : Buf (Elt F) ((c : Thread nD τ).loc main_v27_1) := fun i =>
  if h : 8 * run7Of i + 7 < cfg0.N then
    (Pipeline.accAt (reset7 V c) (step7 V c) (8 * run7Of i) 7 h) (loc7Of i)
  else V c (Pipeline.arrRef spec0 7) i

theorem idx_facts7 : ∀ t : Fin cfg0.N, 0 ≤ win0_7.index t (0 : Fin 3) ∧ win0_7.index t (0 : Fin 3) ≤ 3
    ∧ 0 ≤ win0_7.index t (1 : Fin 3) ∧ win0_7.index t (1 : Fin 3) ≤ 0
    ∧ 0 ≤ win0_7.index t (2 : Fin 3) ∧ win0_7.index t (2 : Fin 3) ≤ 0
    ∧ 1 * (win0_7.index t (0 : Fin 3) - 0) + 1 * (win0_7.index t (1 : Fin 3) - 0) + 1 * (win0_7.index t (2 : Fin 3) - 0) = t.val / 8 :=
  (by decide +kernel : ∀ t : Fin grid0.N, _)

theorem idx_onto7 : ∀ (q0 : Fin 4) (q1 : Fin 1) (q2 : Fin 1), ∃ t : Fin cfg0.N, (cfg0.win 7).flush t = true ∧ win0_7.index t = ![q0.val + 0, q1.val + 0, q2.val + 0] :=
  (by decide +kernel : ∀ (q0 : Fin 4) (q1 : Fin 1) (q2 : Fin 1), ∃ t : Fin grid0.N, win0_7.flush t = true ∧ win0_7.index t = ![q0.val + 0, q1.val + 0, q2.val + 0])

theorem flushed7_eq (c : Dev nD) (t : Fin cfg0.N) (hf : (cfg0.win 7).flush t = true) :
    (dat0 V c).flushed 7 t = ((cfg0.win 7).blk t).view.read (Elt F) (G7 V c) := by
  show (cfg0.win 7).cut (grid0.coords t) ((dat0 V c).after 7 t) = _
  rw [after0_7, outsAt_7_eq]
  have hm : t.val % 8 = 7 := (flush0_7 t).mp hf
  obtain ⟨e0, e1, e2, e3⟩ := idx_facts7 t
  funext y
  have hy0 : (y 0).val < 1 := (y 0).isLt
  have hy1 : (y 1).val < 64 := (y 1).isLt
  have hy2 : (y 2).val < 64 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 64 + 1 * (y 1).val := rfl
  have hb2 : (((cfg0.win 7).blk t).view.emb y 2).val = win0_7.index t (2 : Fin 3) * 64 + 1 * (y 2).val := rfl
  have hr : run7Of (((cfg0.win 7).blk t).view.emb y) = t.val / 8 := by
    show 1 * ((((cfg0.win 7).blk t).view.emb y 0).val / 1 - 0) + 1 * ((((cfg0.win 7).blk t).view.emb y 1).val / 64 - 0) + 1 * ((((cfg0.win 7).blk t).view.emb y 2).val / 64 - 0) = _
    rw [hb0, hb1, hb2]
    rw [show (win0_7.index t (0 : Fin 3) * 1 + 1 * (y 0).val) / 1 = win0_7.index t (0 : Fin 3) from by omega]; rw [show (win0_7.index t (1 : Fin 3) * 64 + 1 * (y 1).val) / 64 = win0_7.index t (1 : Fin 3) from by omega]; rw [show (win0_7.index t (2 : Fin 3) * 64 + 1 * (y 2).val) / 64 = win0_7.index t (2 : Fin 3) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 64 = (y 1).val; rw [hb1]; omega
    | ⟨2, _⟩ => show (((cfg0.win 7).blk t).view.emb y 2).val % 64 = (y 2).val; rw [hb2]; omega
  show (Pipeline.accAt (reset7 V c) (step7 V c) (8 * (t.val / 8)) (t.val % 8) _) ((cfg0.win 7).xinj (grid0.coords t) y) = G7 V c (((cfg0.win 7).blk t).view.emb y)
  unfold G7
  rw [dif_pos (by rw [hr]; have := t.isLt; have := Nat.div_add_mod t.val 8; omega), hl]
  have e : ∀ (b j : ℕ) (h : b + j < cfg0.N) (b' j' : ℕ) (h' : b' + j' < cfg0.N), b = b' → j = j' →
      Pipeline.accAt (reset7 V c) (step7 V c) b j h = Pipeline.accAt (reset7 V c) (step7 V c) b' j' h' := by
    intro b j h b' j' h' hb hj; subst hb; subst hj; rfl
  have hb : 8 * (t.val / 8) = 8 * run7Of (((cfg0.win 7).blk t).view.emb y) := by rw [hr]
  exact congrFun (e _ _ _ _ _ _ hb hm) _

theorem mem_blk7 (t : Fin cfg0.N) (i : S4x64x64.Idx) :
    i ∈ ((cfg0.win 7).blk t).view.set ↔ ∀ a : Fin 3, win0_7.index t a * S1x64x64.size a ≤ (i a).val ∧ (i a).val < win0_7.index t a * S1x64x64.size a + S1x64x64.size a := by
  show i ∈ ((View.whole main_v27_1).slice (win0_7.rect t)).set ↔ _
  rw [View.set_slice_whole, Rect.mem_set_unit]
  exact Iff.rfl

theorem covered_iff7 (i : S4x64x64.Idx) :
    (∃ t : Fin cfg0.N, (cfg0.win 7).flush t = true ∧ i ∈ ((cfg0.win 7).blk t).view.set) ↔ 0 ≤ (i 0).val ∧ (i 0).val < 4 ∧ 0 ≤ (i 1).val ∧ (i 1).val < 64 ∧ 0 ≤ (i 2).val ∧ (i 2).val < 64 := by
  constructor
  · rintro ⟨t, -, hi⟩
    rw [mem_blk7] at hi
    have b0 : win0_7.index t (0 : Fin 3) * 1 ≤ (i 0).val ∧ (i 0).val < win0_7.index t (0 : Fin 3) * 1 + 1 := hi 0
    have b1 : win0_7.index t (1 : Fin 3) * 64 ≤ (i 1).val ∧ (i 1).val < win0_7.index t (1 : Fin 3) * 64 + 64 := hi 1
    have b2 : win0_7.index t (2 : Fin 3) * 64 ≤ (i 2).val ∧ (i 2).val < win0_7.index t (2 : Fin 3) * 64 + 64 := hi 2
    obtain ⟨e0, e1, e2, e3⟩ := idx_facts7 t
    omega
  · intro h
    have hi0 : (i 0).val < 4 := (i 0).isLt
    have hi1 : (i 1).val < 64 := (i 1).isLt
    have hi2 : (i 2).val < 64 := (i 2).isLt
    obtain ⟨t, hft, ht⟩ := idx_onto7 ⟨(i 0).val / 1 - 0, by omega⟩ ⟨(i 1).val / 64 - 0, by omega⟩ ⟨(i 2).val / 64 - 0, by omega⟩
    have q0 : win0_7.index t (0 : Fin 3) = (i 0).val / 1 - 0 + 0 := congrFun ht 0
    have q1 : win0_7.index t (1 : Fin 3) = (i 1).val / 64 - 0 + 0 := congrFun ht 1
    have q2 : win0_7.index t (2 : Fin 3) = (i 2).val / 64 - 0 + 0 := congrFun ht 2
    refine ⟨t, hft, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 64 ≤ (i 1).val ∧ (i 1).val < win0_7.index t (1 : Fin 3) * 64 + 64; omega
    | ⟨2, _⟩ => show win0_7.index t (2 : Fin 3) * 64 ≤ (i 2).val ∧ (i 2).val < win0_7.index t (2 : Fin 3) * 64 + 64; omega

/-- The second result after the call is `G7`. -/
theorem final7 (c : Dev nD) : (dat0 V c).arrAt 7 cfg0.N = G7 V c :=
  (dat0 V c).arrAt_eq_of_cover 7 _ (fun t hf => flushed7_eq V c t hf) (fun i => (covered_iff7 i).2 (by
    have h0 : (i 0).val < 4 := (i 0).isLt; have h1 : (i 1).val < 64 := (i 1).isLt; have h2 : (i 2).val < 64 := (i 2).isLt; omega))
end Cert.KernelIdeal.Run

end
-- ==== Proof.KernelIdeal.CorrBlocks.lean ====
/- The blocks of the first call's operands at a grid point: batch `t / 8`, channels `128·(t % 8) …`; the tables whole.  -/
module

public import proofs.«01_k».proof.Proof.KernelIdeal.CorrValue
public import proofs.«01_k».proof.Proof.KernelIdeal.CorrSums

@[expose] public section

set_option maxRecDepth 16384

noncomputable section

namespace Cert.KernelIdeal.Run

open Cert.KernelIdeal.Gen Cert.KernelIdeal.Sums Cert.Finite
open Idealize.ShloMosaic Idealize.ShloMosaic.TcCoe
open Idealize.ShloMosaic.Pipeline (Dat Cfg Window)

variable (V : (c : Dev nD) → (b : Ref sig .tc) → Buf (Elt Ideal) ((c : Thread nD τ).loc b))

theorem index0_0 : ∀ t : Fin cfg0.N, win0_0.index t = ![t.val / 8, 0, t.val % 8, 0] :=
  (by decide +kernel : ∀ t : Fin grid0.N, win0_0.index t = ![t.val / 8, 0, t.val % 8, 0])
theorem index0_1 : ∀ t : Fin cfg0.N, win0_1.index t = ![t.val / 8, 0, t.val % 8, 0] :=
  (by decide +kernel : ∀ t : Fin grid0.N, win0_1.index t = ![t.val / 8, 0, t.val % 8, 0])
theorem index0_2 : ∀ t : Fin cfg0.N, win0_2.index t = ![0, 0] := (by decide +kernel : ∀ t : Fin grid0.N, win0_2.index t = ![0, 0])
theorem index0_3 : ∀ t : Fin cfg0.N, win0_3.index t = ![0, 0] := (by decide +kernel : ∀ t : Fin grid0.N, win0_3.index t = ![0, 0])
theorem index0_4 : ∀ t : Fin cfg0.N, win0_4.index t = ![0, 0] := (by decide +kernel : ∀ t : Fin grid0.N, win0_4.index t = ![0, 0])
theorem index0_5 : ∀ t : Fin cfg0.N, win0_5.index t = ![0, 0] := (by decide +kernel : ∀ t : Fin grid0.N, win0_5.index t = ![0, 0])

/-- The batch and the channel of a block's channel. -/
def blockOf (x : S4x64x1024x64.Idx → ℝ) (b : Fin 4) (j : Fin 8) : S1x64x128x64.Idx → ℝ := fun y =>
  x (ix4 b (y 1) (⟨128 * j.val + (y 2).val, by have := (y 2).isLt; change (y 2).val < 128 at this; omega⟩ : Fin 1024) (y 3))

theorem iblk0_0 (c : Dev nD) (x : S4x64x1024x64.Idx → ℝ) (h : V c main_v24 = up x) (t : Fin cfg0.N) (b : Fin 4) (j : Fin 8) (hb : t.val / 8 = b.val) (hj : t.val % 8 = j.val) :
    iblk0 V c 0 t = up (blockOf x b j) := by
  funext y
  have hi := index0_0 t
  have hy0 : (y 0).val < 1 := (y 0).isLt
  have h0 : (((cfg0.win 0).blk t).view.emb y 0).val = win0_0.index t (0 : Fin 4) * 1 + 1 * (y 0).val := rfl
  have h1 : (((cfg0.win 0).blk t).view.emb y 1).val = win0_0.index t (1 : Fin 4) * 64 + 1 * (y 1).val := rfl
  have h2 : (((cfg0.win 0).blk t).view.emb y 2).val = win0_0.index t (2 : Fin 4) * 128 + 1 * (y 2).val := rfl
  have h3 : (((cfg0.win 0).blk t).view.emb y 3).val = win0_0.index t (3 : Fin 4) * 64 + 1 * (y 3).val := rfl
  rw [hi] at h0 h1 h2 h3
  simp only [Matrix.cons_val] at h0 h1 h2 h3
  show V c main_v24 (((cfg0.win 0).blk t).view.emb y) = _
  rw [h]
  refine congrArg (up x) (funext fun a => ?_)
  apply Fin.ext
  match a with
  | ⟨0, _⟩ => exact h0.trans (by rw [hb]; show _ = b.val; omega)
  | ⟨1, _⟩ => exact h1.trans (by show _ = (y 1).val; omega)
  | ⟨2, _⟩ => exact h2.trans (by rw [hj]; show _ = 128 * j.val + (y 2).val; omega)
  | ⟨3, _⟩ => exact h3.trans (by show _ = (y 3).val; omega)

theorem iblk0_1 (c : Dev nD) (x : S4x64x1024x64.Idx → ℝ) (h : V c main_v26 = up x) (t : Fin cfg0.N) (b : Fin 4) (j : Fin 8) (hb : t.val / 8 = b.val) (hj : t.val % 8 = j.val) :
    iblk0 V c 1 t = up (blockOf x b j) := by
  funext y
  have hi := index0_1 t
  have hy0 : (y 0).val < 1 := (y 0).isLt
  have h0 : (((cfg0.win 1).blk t).view.emb y 0).val = win0_1.index t (0 : Fin 4) * 1 + 1 * (y 0).val := rfl
  have h1 : (((cfg0.win 1).blk t).view.emb y 1).val = win0_1.index t (1 : Fin 4) * 64 + 1 * (y 1).val := rfl
  have h2 : (((cfg0.win 1).blk t).view.emb y 2).val = win0_1.index t (2 : Fin 4) * 128 + 1 * (y 2).val := rfl
  have h3 : (((cfg0.win 1).blk t).view.emb y 3).val = win0_1.index t (3 : Fin 4) * 64 + 1 * (y 3).val := rfl
  rw [hi] at h0 h1 h2 h3
  simp only [Matrix.cons_val] at h0 h1 h2 h3
  show V c main_v26 (((cfg0.win 1).blk t).view.emb y) = _
  rw [h]
  refine congrArg (up x) (funext fun a => ?_)
  apply Fin.ext
  match a with
  | ⟨0, _⟩ => exact h0.trans (by rw [hb]; show _ = b.val; omega)
  | ⟨1, _⟩ => exact h1.trans (by show _ = (y 1).val; omega)
  | ⟨2, _⟩ => exact h2.trans (by rw [hj]; show _ = 128 * j.val + (y 2).val; omega)
  | ⟨3, _⟩ => exact h3.trans (by show _ = (y 3).val; omega)

theorem iblk0_2 (c : Dev nD) (t : Fin cfg0.N) : iblk0 V c 2 t = V c main_v21 := by
  funext y
  have hi := index0_2 t
  have h0 : (((cfg0.win 2).blk t).view.emb y 0).val = win0_2.index t (0 : Fin 2) * 64 + 1 * (y 0).val := rfl
  have h1 : (((cfg0.win 2).blk t).view.emb y 1).val = win0_2.index t (1 : Fin 2) * 128 + 1 * (y 1).val := rfl
  rw [hi] at h0 h1
  simp only [Matrix.cons_val] at h0 h1
  show V c main_v21 (((cfg0.win 2).blk t).view.emb y) = _
  refine congrArg (V c main_v21) (funext fun a => ?_)
  apply Fin.ext
  match a with
  | ⟨0, _⟩ => exact h0.trans (by show _ = (y 0).val; omega)
  | ⟨1, _⟩ => exact h1.trans (by show _ = (y 1).val; omega)

theorem iblk0_3 (c : Dev nD) (t : Fin cfg0.N) : iblk0 V c 3 t = V c main_v22 := by
  funext y
  have hi := index0_3 t
  have h0 : (((cfg0.win 3).blk t).view.emb y 0).val = win0_3.index t (0 : Fin 2) * 128 + 1 * (y 0).val := rfl
  have h1 : (((cfg0.win 3).blk t).view.emb y 1).val = win0_3.index t (1 : Fin 2) * 64 + 1 * (y 1).val := rfl
  rw [hi] at h0 h1
  simp only [Matrix.cons_val] at h0 h1
  show V c main_v22 (((cfg0.win 3).blk t).view.emb y) = _
  refine congrArg (V c main_v22) (funext fun a => ?_)
  apply Fin.ext
  match a with
  | ⟨0, _⟩ => exact h0.trans (by show _ = (y 0).val; omega)
  | ⟨1, _⟩ => exact h1.trans (by show _ = (y 1).val; omega)

theorem iblk0_4 (c : Dev nD) (t : Fin cfg0.N) : iblk0 V c 4 t = V c main_v19 := by
  funext y
  have hi := index0_4 t
  have h0 : (((cfg0.win 4).blk t).view.emb y 0).val = win0_4.index t (0 : Fin 2) * 64 + 1 * (y 0).val := rfl
  have h1 : (((cfg0.win 4).blk t).view.emb y 1).val = win0_4.index t (1 : Fin 2) * 64 + 1 * (y 1).val := rfl
  rw [hi] at h0 h1
  simp only [Matrix.cons_val] at h0 h1
  show V c main_v19 (((cfg0.win 4).blk t).view.emb y) = _
  refine congrArg (V c main_v19) (funext fun a => ?_)
  apply Fin.ext
  match a with
  | ⟨0, _⟩ => exact h0.trans (by show _ = (y 0).val; omega)
  | ⟨1, _⟩ => exact h1.trans (by show _ = (y 1).val; omega)

theorem iblk0_5 (c : Dev nD) (t : Fin cfg0.N) : iblk0 V c 5 t = V c main_v20 := by
  funext y
  have hi := index0_5 t
  have h0 : (((cfg0.win 5).blk t).view.emb y 0).val = win0_5.index t (0 : Fin 2) * 64 + 1 * (y 0).val := rfl
  have h1 : (((cfg0.win 5).blk t).view.emb y 1).val = win0_5.index t (1 : Fin 2) * 64 + 1 * (y 1).val := rfl
  rw [hi] at h0 h1
  simp only [Matrix.cons_val] at h0 h1
  show V c main_v20 (((cfg0.win 5).blk t).view.emb y) = _
  refine congrArg (V c main_v20) (funext fun a => ?_)
  apply Fin.ext
  match a with
  | ⟨0, _⟩ => exact h0.trans (by show _ = (y 0).val; omega)
  | ⟨1, _⟩ => exact h1.trans (by show _ = (y 1).val; omega)

section Fold

variable (c : Dev nD) (csh : S64x128.Idx → ℝ) (csv : S128x64.Idx → ℝ) (twc tws : S64x64.Idx → ℝ) (q k : S4x64x1024x64.Idx → ℝ)
  (h2 : V c main_v21 = up csh) (h3 : V c main_v22 = up csv) (h4 : V c main_v19 = up twc) (h5 : V c main_v20 = up tws)
  (h0 : V c main_v24 = up q) (h1 : V c main_v26 = up k)

/-- A channel's real part of the product of the two transforms. -/
def prodRe (b : Fin 4) (j : Fin 8) (g f : Fin 64) (ch : Fin 128) : ℝ :=
  fre csh csv twc tws (blockOf q b j) g ch f * fre csh csv twc tws (blockOf k b j) g ch f
    + fim csh csv twc tws (blockOf q b j) g ch f * fim csh csv twc tws (blockOf k b j) g ch f

/-- A channel's imaginary part of the product of the two transforms. -/
def prodIm (b : Fin 4) (j : Fin 8) (g f : Fin 64) (ch : Fin 128) : ℝ :=
  fim csh csv twc tws (blockOf q b j) g ch f * fre csh csv twc tws (blockOf k b j) g ch f
    - fre csh csv twc tws (blockOf q b j) g ch f * fim csh csv twc tws (blockOf k b j) g ch f

include h0 h1 h2 h3 h4 h5

theorem step6_apply (b : Fin 4) (j : Fin 8) (n : ℕ) (hn : n < cfg0.N) (hb : n / 8 = b.val) (hj : n % 8 = j.val) (acc : S1x64x64.Idx → EReal) (g f : Fin 64) :
    step6 V c n hn acc (ix3 (0 : Fin 1) g f) = acc (ix3 (0 : Fin 1) g f) + ((∑ ch : Fin 128, prodRe csh csv twc tws q k b j g f ch : ℝ) : EReal) := by
  unfold step6
  rw [iblk0_0 V c q h0 ⟨n, hn⟩ b j hb hj, iblk0_1 V c k h1 ⟨n, hn⟩ b j hb hj, iblk0_2, iblk0_3, iblk0_4, iblk0_5, h2, h3, h4, h5]
  exact pay5 csh csv twc tws (blockOf q b j) (blockOf k b j) acc g f

theorem step7_apply (b : Fin 4) (j : Fin 8) (n : ℕ) (hn : n < cfg0.N) (hb : n / 8 = b.val) (hj : n % 8 = j.val) (acc : S1x64x64.Idx → EReal) (g f : Fin 64) :
    step7 V c n hn acc (ix3 (0 : Fin 1) g f) = acc (ix3 (0 : Fin 1) g f) + ((∑ ch : Fin 128, prodIm csh csv twc tws q k b j g f ch : ℝ) : EReal) := by
  unfold step7
  rw [iblk0_0 V c q h0 ⟨n, hn⟩ b j hb hj, iblk0_1 V c k h1 ⟨n, hn⟩ b j hb hj, iblk0_2, iblk0_3, iblk0_4, iblk0_5, h2, h3, h4, h5]
  exact pay6 csh csv twc tws (blockOf q b j) (blockOf k b j) acc g f

end Fold

end Cert.KernelIdeal.Run

end
-- ==== Proof.KernelIdeal.Spectrum.lean ====
/- What the two results of the first call are over finite queries and keys: the real and the imaginary part, summed over
   the channels, of the queries' transform times the conjugate of the keys' transform.  -/
module

public import proofs.«01_k».proof.Proof.KernelIdeal.CorrBlocks
public import proofs.«01_k».proof.Proof.KernelIdeal.Tables

@[expose] public section

set_option maxRecDepth 16384

noncomputable section

namespace Cert.KernelIdeal.Run

open Cert.KernelIdeal.Gen Cert.KernelIdeal.Sums Cert.Finite
open Idealize.ShloMosaic Idealize.ShloMosaic.TcCoe

/-- A block's channel among all channels. -/
def chan (j : Fin 8) (c : Fin 128) : Fin 1024 := ⟨128 * j.val + c.val, by omega⟩

theorem cshR_lo (a f : Fin 64) : cshR (ix2 a (lo f)) = Fourier.C (64 * (a.val * f.val)) := if_pos f.isLt
theorem cshR_hi (a f : Fin 64) : cshR (ix2 a (hi f)) = Fourier.S (64 * (a.val * f.val)) :=
  (if_neg (show ¬ 64 + f.val < 64 by omega)).trans (by show Fourier.S (64 * (a.val * (64 + f.val - 64))) = _; rw [Nat.add_sub_cancel_left])
theorem csvR_lo (g t : Fin 64) : csvR (ix2 (lo g) t) = Fourier.C (64 * (g.val * t.val)) := if_pos g.isLt
theorem csvR_hi (g t : Fin 64) : csvR (ix2 (hi g) t) = Fourier.S (64 * (g.val * t.val)) :=
  (if_neg (show ¬ 64 + g.val < 64 by omega)).trans (by show Fourier.S (64 * ((64 + g.val - 64) * t.val)) = _; rw [Nat.add_sub_cancel_left])

variable (q k x : S4x4096x16x64.Idx → ℝ)

theorem first_lo (b : Fin 4) (j : Fin 8) (t : Fin 64) (c : Fin 128) (f : Fin 64) :
    first cshR (blockOf (laid x) b j) t c (lo f) = ∑ a : Fin 64, series x b (chan j c) (64 * a.val + t.val) * Fourier.C (64 * (a.val * f.val)) :=
  Finset.sum_congr rfl fun a _ => congrArg₂ (· * ·) rfl (cshR_lo a f)

theorem first_hi (b : Fin 4) (j : Fin 8) (t : Fin 64) (c : Fin 128) (f : Fin 64) :
    first cshR (blockOf (laid x) b j) t c (hi f) = ∑ a : Fin 64, series x b (chan j c) (64 * a.val + t.val) * Fourier.S (64 * (a.val * f.val)) :=
  Finset.sum_congr rfl fun a _ => congrArg₂ (· * ·) rfl (cshR_hi a f)

theorem zre_eq (b : Fin 4) (j : Fin 8) (t : Fin 64) (c : Fin 128) (f : Fin 64) :
    zre cshR twcR twsR (blockOf (laid x) b j) t c f = Fourier.zr (series x b (chan j c)) t.val f.val := by
  unfold zre Fourier.zr
  rw [first_lo, first_hi]
  rfl

theorem zim_eq (b : Fin 4) (j : Fin 8) (t : Fin 64) (c : Fin 128) (f : Fin 64) :
    zim cshR twcR twsR (blockOf (laid x) b j) t c f = Fourier.zi (series x b (chan j c)) t.val f.val := by
  unfold zim Fourier.zi
  rw [first_lo, first_hi]
  rfl

theorem fre_eq (b : Fin 4) (j : Fin 8) (g : Fin 64) (c : Fin 128) (f : Fin 64) :
    fre cshR csvR twcR twsR (blockOf (laid x) b j) g c f = Fourier.X (series x b (chan j c)) (f.val + 64 * g.val) := by
  rw [← Fourier.two_steps_re]
  unfold fre
  simp only [csvR_lo, csvR_hi, zre_eq, zim_eq]

theorem fim_eq (b : Fin 4) (j : Fin 8) (g : Fin 64) (c : Fin 128) (f : Fin 64) :
    fim cshR csvR twcR twsR (blockOf (laid x) b j) g c f = -Fourier.Y (series x b (chan j c)) (f.val + 64 * g.val) := by
  rw [← Fourier.two_steps_im]
  unfold fim
  simp only [csvR_lo, csvR_hi, zre_eq, zim_eq]

/-- A channel's term of the real part of the spectrum. -/
def termRe (b : Fin 4) (n : ℕ) (ch : Fin 1024) : ℝ :=
  Fourier.X (series q b ch) n * Fourier.X (series k b ch) n + Fourier.Y (series q b ch) n * Fourier.Y (series k b ch) n
/-- A channel's term of the imaginary part of the spectrum. -/
def termIm (b : Fin 4) (n : ℕ) (ch : Fin 1024) : ℝ :=
  Fourier.X (series q b ch) n * Fourier.Y (series k b ch) n - Fourier.Y (series q b ch) n * Fourier.X (series k b ch) n
/-- The real part of the spectrum, summed over the channels. -/
def specRe (b : Fin 4) (n : ℕ) : ℝ := ∑ ch : Fin 1024, termRe q k b n ch
/-- The imaginary part of the spectrum, summed over the channels. -/
def specIm (b : Fin 4) (n : ℕ) : ℝ := ∑ ch : Fin 1024, termIm q k b n ch

/-- The channels block by block. -/
theorem sum_chan (h : Fin 1024 → ℝ) : (∑ ch : Fin 1024, h ch) = ∑ j : Fin 8, ∑ c : Fin 128, h (chan j c) := by
  rw [← Fintype.sum_prod_type' (f := fun (j : Fin 8) (c : Fin 128) => h (chan j c)), ← (finProdFinEquiv (m := 8) (n := 128)).sum_comp h]
  refine Finset.sum_congr rfl fun p _ => congrArg h (Fin.ext ?_)
  rw [finProdFinEquiv_apply_val]
  show p.2.val + 128 * p.1.val = 128 * p.1.val + p.2.val
  omega

theorem prodRe_eq (b : Fin 4) (j : Fin 8) (g f : Fin 64) (c : Fin 128) :
    prodRe cshR csvR twcR twsR (laid q) (laid k) b j g f c = termRe q k b (f.val + 64 * g.val) (chan j c) := by
  unfold prodRe termRe
  rw [fre_eq, fre_eq, fim_eq, fim_eq]
  ring

theorem prodIm_eq (b : Fin 4) (j : Fin 8) (g f : Fin 64) (c : Fin 128) :
    prodIm cshR csvR twcR twsR (laid q) (laid k) b j g f c = termIm q k b (f.val + 64 * g.val) (chan j c) := by
  unfold prodIm termIm
  rw [fre_eq, fre_eq, fim_eq, fim_eq]
  ring

variable (m : (ℓ : Loc nD τ sig) → Buf (Elt Ideal) ℓ) (ρ : Dev nD → PrngReg) (c : Dev nD)
  (hq : m ((c.tc : Thread nD τ).loc main_arg0) = up q) (hk : m ((c.tc : Thread nD τ).loc main_arg1) = up k)

theorem pay3_apply (g f : Fin 64) : k0_pay3 (F := Ideal) (ix3 (0 : Fin 1) g f) = 0 := by unfold k0_pay3; pointwise
theorem pay4_apply (g f : Fin 64) : k0_pay4 (F := Ideal) (ix3 (0 : Fin 1) g f) = 0 := by unfold k0_pay4; pointwise

/-- The eight blocks' sums are the sum over all channels. -/
theorem sum_blocks (h : Fin 1024 → ℝ) (b : ℕ) :
    (∑ s ∈ Finset.range 8, ((∑ ch : Fin 128, h (chan (⟨(8 * b + s) % 8, Nat.mod_lt _ (by decide)⟩ : Fin 8) ch) : ℝ) : EReal)) = ((∑ ch : Fin 1024, h ch : ℝ) : EReal) := by
  rw [sum_chan h, ← Fin.sum_univ_eq_sum_range (fun s => ((∑ ch : Fin 128, h (chan (⟨(8 * b + s) % 8, Nat.mod_lt _ (by decide)⟩ : Fin 8) ch) : ℝ) : EReal)) 8, ← coe_sum]
  refine Finset.sum_congr rfl fun j _ => ?_
  have e : (⟨(8 * b + j.val) % 8, Nat.mod_lt _ (by decide)⟩ : Fin 8) = j := Fin.ext (by simp only; omega)
  rw [e]

include hq hk

theorem spectrum_re (b : Fin 4) (g f : Fin 64) :
    G6 (V1 m ρ) c (ix3 b g f) = ((specRe q k b (f.val + 64 * g.val) : ℝ) : EReal) := by
  have hN : cfg0.N = 32 := N_0
  have hr : run6Of (ix3 b g f) = b.val := by show 1 * (b.val / 1 - 0) + 1 * (g.val / 64 - 0) + 1 * (f.val / 64 - 0) = b.val; omega
  have hl : loc6Of (ix3 b g f) = ix3 (0 : Fin 1) g f := by
    funext a
    apply Fin.ext
    match a with
    | ⟨0, _⟩ => exact Nat.mod_one _
    | ⟨1, _⟩ => exact Nat.mod_eq_of_lt g.isLt
    | ⟨2, _⟩ => exact Nat.mod_eq_of_lt f.isLt
  have hlt : 8 * b.val + 7 < cfg0.N := by rw [hN]; omega
  unfold G6
  rw [dif_pos (by rw [hr]; exact hlt), hl]
  have key := Pipeline.accAt_add_apply (reset6 (V1 m ρ) c) (step6 (V1 m ρ) c) (fun _ => (0 : EReal))
    (fun n i => ((∑ ch : Fin 128, termRe q k b ((i 2).val + 64 * (i 1).val) (chan (⟨n % 8, Nat.mod_lt _ (by decide)⟩ : Fin 8) ch) : ℝ) : EReal)) (8 * b.val) 7
    (fun h i => by
      obtain ⟨u, g', f', rfl⟩ : ∃ (u : Fin 1) (g' f' : Fin 64), i = ix3 u g' f' := ⟨i 0, i 1, i 2, eq_ix3 i⟩
      obtain rfl : u = 0 := Subsingleton.elim _ _
      have e := step6_apply (V1 m ρ) c cshR csvR twcR twsR (laid q) (laid k) (csh_eq m ρ c) (csv_eq m ρ c) (twc_eq m ρ c) (tws_eq m ρ c) (queries_eq m ρ c q hq) (keys_eq m ρ c k hk)
        b ⟨(8 * b.val) % 8, Nat.mod_lt _ (by decide)⟩ (8 * b.val) h (by omega) rfl (k0_pay3 (F := Ideal)) g' f'
      rw [pay3_apply] at e
      simp only [prodRe_eq] at e
      exact e)
    (fun n h acc i h1 h2 => by
      obtain ⟨u, g', f', rfl⟩ : ∃ (u : Fin 1) (g' f' : Fin 64), i = ix3 u g' f' := ⟨i 0, i 1, i 2, eq_ix3 i⟩
      obtain rfl : u = 0 := Subsingleton.elim _ _
      have e := step6_apply (V1 m ρ) c cshR csvR twcR twsR (laid q) (laid k) (csh_eq m ρ c) (csv_eq m ρ c) (twc_eq m ρ c) (tws_eq m ρ c) (queries_eq m ρ c q hq) (keys_eq m ρ c k hk)
        b ⟨n % 8, Nat.mod_lt _ (by decide)⟩ n h (by omega) rfl acc g' f'
      simp only [prodRe_eq] at e
      exact e) 7 le_rfl hlt (ix3 (0 : Fin 1) g f)
  have e : ∀ (b' : ℕ) (h' : b' + 7 < cfg0.N), b' = 8 * b.val → Pipeline.accAt (reset6 (V1 m ρ) c) (step6 (V1 m ρ) c) b' 7 h' = Pipeline.accAt (reset6 (V1 m ρ) c) (step6 (V1 m ρ) c) (8 * b.val) 7 hlt := by
    intro b' h' hb; subst hb; rfl
  rw [e _ _ (by rw [hr])]
  refine key.trans ((zero_add _).trans ?_)
  exact sum_blocks (termRe q k b (f.val + 64 * g.val)) b.val

theorem spectrum_im (b : Fin 4) (g f : Fin 64) :
    G7 (V1 m ρ) c (ix3 b g f) = ((specIm q k b (f.val + 64 * g.val) : ℝ) : EReal) := by
  have hN : cfg0.N = 32 := N_0
  have hr : run7Of (ix3 b g f) = b.val := by show 1 * (b.val / 1 - 0) + 1 * (g.val / 64 - 0) + 1 * (f.val / 64 - 0) = b.val; omega
  have hl : loc7Of (ix3 b g f) = ix3 (0 : Fin 1) g f := by
    funext a
    apply Fin.ext
    match a with
    | ⟨0, _⟩ => exact Nat.mod_one _
    | ⟨1, _⟩ => exact Nat.mod_eq_of_lt g.isLt
    | ⟨2, _⟩ => exact Nat.mod_eq_of_lt f.isLt
  have hlt : 8 * b.val + 7 < cfg0.N := by rw [hN]; omega
  unfold G7
  rw [dif_pos (by rw [hr]; exact hlt), hl]
  have key := Pipeline.accAt_add_apply (reset7 (V1 m ρ) c) (step7 (V1 m ρ) c) (fun _ => (0 : EReal))
    (fun n i => ((∑ ch : Fin 128, termIm q k b ((i 2).val + 64 * (i 1).val) (chan (⟨n % 8, Nat.mod_lt _ (by decide)⟩ : Fin 8) ch) : ℝ) : EReal)) (8 * b.val) 7
    (fun h i => by
      obtain ⟨u, g', f', rfl⟩ : ∃ (u : Fin 1) (g' f' : Fin 64), i = ix3 u g' f' := ⟨i 0, i 1, i 2, eq_ix3 i⟩
      obtain rfl : u = 0 := Subsingleton.elim _ _
      have e := step7_apply (V1 m ρ) c cshR csvR twcR twsR (laid q) (laid k) (csh_eq m ρ c) (csv_eq m ρ c) (twc_eq m ρ c) (tws_eq m ρ c) (queries_eq m ρ c q hq) (keys_eq m ρ c k hk)
        b ⟨(8 * b.val) % 8, Nat.mod_lt _ (by decide)⟩ (8 * b.val) h (by omega) rfl (k0_pay4 (F := Ideal)) g' f'
      rw [pay4_apply] at e
      simp only [prodIm_eq] at e
      exact e)
    (fun n h acc i h1 h2 => by
      obtain ⟨u, g', f', rfl⟩ : ∃ (u : Fin 1) (g' f' : Fin 64), i = ix3 u g' f' := ⟨i 0, i 1, i 2, eq_ix3 i⟩
      obtain rfl : u = 0 := Subsingleton.elim _ _
      have e := step7_apply (V1 m ρ) c cshR csvR twcR twsR (laid q) (laid k) (csh_eq m ρ c) (csv_eq m ρ c) (twc_eq m ρ c) (tws_eq m ρ c) (queries_eq m ρ c q hq) (keys_eq m ρ c k hk)
        b ⟨n % 8, Nat.mod_lt _ (by decide)⟩ n h (by omega) rfl acc g' f'
      simp only [prodIm_eq] at e
      exact e) 7 le_rfl hlt (ix3 (0 : Fin 1) g f)
  have e : ∀ (b' : ℕ) (h' : b' + 7 < cfg0.N), b' = 8 * b.val → Pipeline.accAt (reset7 (V1 m ρ) c) (step7 (V1 m ρ) c) b' 7 h' = Pipeline.accAt (reset7 (V1 m ρ) c) (step7 (V1 m ρ) c) (8 * b.val) 7 hlt := by
    intro b' h' hb; subst hb; rfl
  rw [e _ _ (by rw [hr])]
  refine key.trans ((zero_add _).trans ?_)
  exact sum_blocks (termIm q k b (f.val + 64 * g.val)) b.val

end Cert.KernelIdeal.Run

end
-- ==== Proof.KernelIdeal.Value.lean ====
/- What the kernel computes from finite queries and keys: the eight lags, their weights, and the weighted sum of the values
   moved by them.  -/
module

public import proofs.«01_k».proof.Proof.KernelIdeal.AggFinal
public import proofs.«01_k».proof.Proof.KernelIdeal.Inverse
public import proofs.«01_k».proof.Proof.KernelIdeal.Rounds
public import proofs.«01_k».proof.Proof.KernelIdeal.Spectrum
public import proofs.«01_k».proof.Proof.KernelIdeal.Slices
public import proofs.«01_k».proof.Proof.KernelIdeal.Whole
public import Idealize.ShloMosaic.Lib.StableHlo.ReadAt

@[expose] public section

set_option maxRecDepth 16384

noncomputable section

namespace Cert.KernelIdeal.Run

open Cert.KernelIdeal.Gen Cert.KernelIdeal.Sums Cert.Finite
open Idealize.ShloMosaic Idealize.ShloMosaic.TcCoe Idealize.ShloMosaic.Tactic

/-- The softmax over the eight lags of a batch. -/
def soft (x : FVec Ideal S4x8 .f32) : FVec Ideal S4x8 .f32 :=
  Host.divf (Host.exp (subf x (broadcastInDim S4x8 ![0, 1] bcast_S4x1_S4x8_0_1 (broadcastInDim S4x1 ![0] bcast_S4_S4x1_0 (maximumf (broadcastInDim S4 ![] bcast_S_S4 (constant S_ .f32 0xFF800000#32)) (Host.reduce FloatOps.maximumf x (constant S_ .f32 0xFF800000#32) reducesTo_S4x8_S4_d1 h_S_))))))
    (broadcastInDim S4x8 ![0, 1] bcast_S4x1_S4x8_0_1 (broadcastInDim S4x1 ![0] bcast_S4_S4x1_0 (Host.reduceAdd (Host.exp (subf x (broadcastInDim S4x8 ![0, 1] bcast_S4x1_S4x8_0_1 (broadcastInDim S4x1 ![0] bcast_S4_S4x1_0 (maximumf (broadcastInDim S4 ![] bcast_S_S4 (constant S_ .f32 0xFF800000#32)) (Host.reduce FloatOps.maximumf x (constant S_ .f32 0xFF800000#32) reducesTo_S4x8_S4_d1 h_S_)))))) (constant S_ .f32 0x00000000#32) reducesTo_S4x8_S4_d1 h_S_)))

section
variable (W : Valuation τ sig (Elt Ideal))

/-- The host's weights are the softmax of what the second call left. -/
theorem soft_read : StableHlo.after hostOps2 W (Proc.devRef .tc main_v39) = soft (W (Proc.devRef .tc main_v28_1)) := by
  unfold soft
  after_reads_simp

/-- The host's values are the third argument with heads and features in one axis. -/
theorem values_read (b : Fin 4) (t : Fin 4096) (h : Fin 16) (e : Fin 64) :
    StableHlo.after hostOps2 W (Proc.devRef .tc main_v40) (ix3 b t (⟨h.val * 64 + e.val, by omega⟩ : Fin 1024)) = W (Proc.devRef .tc main_arg2) (ix4 b t h e) := by
  after_reads_at

/-- The host's result splits that axis again. -/
theorem result_read (b : Fin 4) (t : Fin 4096) (h : Fin 16) (e : Fin 64) :
    StableHlo.after hostOps3 W (Proc.devRef .tc main_v42) (ix4 b t h e) = W (Proc.devRef .tc main_v41) (ix3 b t (⟨h.val * 64 + e.val, by omega⟩ : Fin 1024)) := by
  after_reads_at

end

/-- The transform's autocorrelation of a batch at a lag, summed over the channels. -/
def corr (q k : S4x4096x16x64.Idx → ℝ) (b : Fin 4) (p : ℕ) : ℝ := Fourier.inverse (specRe q k b) (specIm q k b) p

/-- The eight lags. -/
def lagsOf (q k : S4x4096x16x64.Idx → ℝ) : ℕ → Fin 4096 :=
  chosen (up (spread (specRe q k))) (up (spread (specIm q k))) (up c64R) (up s64R) (up twcR) (up twsR)

/-- The lags are the greedy choice from the correlations summed over the batches. -/
theorem lags_greedy (q k : S4x4096x16x64.Idx → ℝ) (n : ℕ) :
    Selection.Greedy (fun p : Fin 4096 => ∑ b : Fin 4, corr q k b p.val) (lagsOf q k) n := by
  refine greedy _ _ _ _ _ _ _ (fun p => ?_) n
  refine (start_apply (specRe q k) (specIm q k) (⟨p.val % 64, Nat.mod_lt _ (by decide)⟩ : Fin 64) (⟨p.val / 64, by omega⟩ : Fin 64)).trans ?_
  have e : p.val % 64 + 64 * (p.val / 64) = p.val := by omega
  simp only [e]
  rfl

/-- The weights before the softmax. -/
def rawOf (q k : S4x4096x16x64.Idx → ℝ) : FVec Ideal S4x8 .f32 := fun j =>
  ((corr q k (j 0) (lagsOf q k (j 1).val).val * (1 / (4096 * (16 * 64))) : ℝ) : EReal)

variable (m : (ℓ : Loc nD τ sig) → Buf (Elt Ideal) ℓ) (ρ : Dev nD → PrngReg) (c : Dev nD)
variable (q k : S4x4096x16x64.Idx → ℝ)
variable (hq : m ((c.tc : Thread nD τ).loc main_arg0) = up q) (hk : m ((c.tc : Thread nD τ).loc main_arg1) = up k)

section
include hq hk

theorem in0 : V2 m ρ c main_v27_0 = up (spread (specRe q k)) := by
  refine (W2_arr m ρ c 6).trans ((final6 (V1 m ρ) c).trans ?_)
  funext j
  obtain ⟨b, g, f, rfl⟩ : ∃ (b : Fin 4) (g f : Fin 64), j = ix3 b g f := ⟨j 0, j 1, j 2, eq_ix3 j⟩
  exact spectrum_re q k m ρ c hq hk b g f

theorem in1 : V2 m ρ c main_v27_1 = up (spread (specIm q k)) := by
  refine (W2_arr m ρ c 7).trans ((final7 (V1 m ρ) c).trans ?_)
  funext j
  obtain ⟨b, g, f, rfl⟩ : ∃ (b : Fin 4) (g f : Fin 64), j = ix3 b g f := ⟨j 0, j 1, j 2, eq_ix3 j⟩
  exact spectrum_im q k m ρ c hq hk b g f

end

theorem in2 : V2 m ρ c main_v17 = up c64R := (W2_of m ρ c main_v17 (by decide)).trans (c64_eq m ρ c)
theorem in3 : V2 m ρ c main_v18 = up s64R := (W2_of m ρ c main_v18 (by decide)).trans (s64_eq m ρ c)
theorem in4 : V2 m ρ c main_v19 = up twcR := (W2_of m ρ c main_v19 (by decide)).trans (twc_eq m ρ c)
theorem in5 : V2 m ρ c main_v20 = up twsR := (W2_of m ρ c main_v20 (by decide)).trans (tws_eq m ρ c)

/-- The second call's lags over its six operands. -/
theorem P6_of (V : (c : Dev nD) → (b : Ref sig .tc) → Buf (Elt Ideal) ((c : Thread nD τ).loc b)) (c : Dev nD) (x0 x1 : S4x64x64.Idx → EReal) (x2 x3 x4 x5 : S64x64.Idx → EReal)
    (h0 : V c main_v27_0 = x0) (h1 : V c main_v27_1 = x1) (h2 : V c main_v17 = x2) (h3 : V c main_v18 = x3) (h4 : V c main_v19 = x4) (h5 : V c main_v20 = x5) (i : S8.Idx) :
    P6 V c i = BitVec.ofNat 32 (chosen x0 x1 x2 x3 x4 x5 (i 0).val).val := by
  subst h0 h1 h2 h3 h4 h5
  have e : ∀ a : S64x64.Idx → EReal, pick (F := Ideal) a = BitVec.ofNat 32 (pickOf a).val := fun a => by
    rw [pickOf_val]; exact (BitVec.eq_of_toNat_eq (by rw [BitVec.toNat_ofNat]; exact Nat.mod_eq_of_lt (BitVec.isLt _))).symm
  exact e _

/-- The second call's weights over its six operands. -/
theorem P7_of (V : (c : Dev nD) → (b : Ref sig .tc) → Buf (Elt Ideal) ((c : Thread nD τ).loc b)) (c : Dev nD) (x0 x1 : S4x64x64.Idx → EReal) (x2 x3 x4 x5 : S64x64.Idx → EReal)
    (h0 : V c main_v27_0 = x0) (h1 : V c main_v27_1 = x1) (h2 : V c main_v17 = x2) (h3 : V c main_v18 = x3) (h4 : V c main_v19 = x4) (h5 : V c main_v20 = x5) (i : S4x8.Idx) :
    P7 V c i = inv (F := Ideal) x0 x1 x2 x3 x4 x5 (i 0) (cell (chosen x0 x1 x2 x3 x4 x5 (i 1).val)) * Ideal.ofBits .f32 0x34800000#32 := by
  subst h0 h1 h2 h3 h4 h5
  exact scaledAt_apply _ _

/-- The lags the third call reads. -/
theorem lag_words (hq : m ((c.tc : Thread nD τ).loc main_arg0) = up q) (hk : m ((c.tc : Thread nD τ).loc main_arg1) = up k) (i : Fin 8) :
    V4 m ρ c main_v28_0 (ix1 i) = BitVec.ofNat 32 (lagsOf q k i.val).val :=
  (congrFun (idx_eq m ρ c) (ix1 i)).trans
    (P6_of (V2 m ρ) c _ _ _ _ _ _ (in0 m ρ c q k hq hk) (in1 m ρ c q k hq hk) (in2 m ρ c) (in3 m ρ c) (in4 m ρ c) (in5 m ρ c) (ix1 i))

/-- The weights before the softmax. -/
theorem raw_weights (hq : m ((c.tc : Thread nD τ).loc main_arg0) = up q) (hk : m ((c.tc : Thread nD τ).loc main_arg1) = up k) :
    W3 m ρ c (Proc.devRef .tc main_v28_1) = rawOf q k := by
  refine (scaled_eq m ρ c).trans ?_
  funext j
  refine (P7_of (V2 m ρ) c _ _ _ _ _ _ (in0 m ρ c q k hq hk) (in1 m ρ c q k hq hk) (in2 m ρ c) (in3 m ρ c) (in4 m ρ c) (in5 m ρ c) j).trans ?_
  generalize hp : chosen (up (spread (specRe q k))) (up (spread (specIm q k))) (up c64R) (up s64R) (up twcR) (up twsR) (j 1).val = p
  have hp' : lagsOf q k (j 1).val = p := hp
  unfold rawOf
  rw [hp', Angles.word_scale, EReal.coe_mul]
  refine congrArg (fun z : EReal => z * ((1 / (4096 * (16 * 64)) : ℝ) : EReal)) ?_
  refine (inv_apply (specRe q k) (specIm q k) (j 0) (⟨p.val % 64, Nat.mod_lt _ (by decide)⟩ : Fin 64) (⟨p.val / 64, by omega⟩ : Fin 64)).trans ?_
  have e : p.val % 64 + 64 * (p.val / 64) = p.val := by omega
  simp only [e]
  rfl

/-- The kernel's result. -/
theorem value (hq : m ((c.tc : Thread nD τ).loc main_arg0) = up q) (hk : m ((c.tc : Thread nD τ).loc main_arg1) = up k)
    (hH : Hyps (V4 m ρ)) (b : Fin 4) (t : Fin 4096) (h : Fin 16) (e : Fin 64) :
    W6 m ρ hH c (Proc.devRef .tc main_v42) (ix4 b t h e)
      = ∑ i : Fin 8, soft (rawOf q k) (ix2 b i) * (m ((c.tc : Thread nD τ).loc main_arg2)
          (ix4 b (⟨(t.val + (lagsOf q k i.val).val) % 4096, Nat.mod_lt _ (by decide)⟩ : Fin 4096) h e) : EReal) := by
  have hw : V4 m ρ c main_v39 = soft (rawOf q k) := (soft_read (W3 m ρ c)).trans (congrArg soft (raw_weights m ρ c q k hq hk))
  refine (result_read (W5 m ρ hH c) b t h e).trans ?_
  refine (congrFun ((W5_arr m ρ hH c 2).trans (final8 (V4 m ρ) hH c (fun i => lagsOf q k i.val) (lag_words m ρ c q k hq hk))) _).trans ?_
  show lagged (V4 m ρ) c (fun i => lagsOf q k i.val) b t.val (⟨h.val * 64 + e.val, by omega⟩ : Fin 1024) = _
  unfold lagged
  refine Finset.sum_congr rfl fun i _ => ?_
  refine congr (congrArg HMul.hMul (congrFun hw (ix2 b i))) ?_
  refine (values_read (W3 m ρ c) b _ h e).trans ?_
  exact congrFun (W3_args m ρ c main_arg2 (by decide)) _

end Cert.KernelIdeal.Run

end
-- ==== Proof.RefValue.lean ====
/- What the reference computes from finite queries and keys, in the terms of the kernel's value.  -/
module

public import proofs.«01_k».proof.Proof.RefRead
public import proofs.«01_k».proof.Proof.KernelIdeal.Value

@[expose] public section

set_option maxRecDepth 16384

noncomputable section

namespace Cert.Reference

open Cert.ReferenceIdeal Cert.ReferenceIdeal.Gen Cert.Finite
open Cert.KernelIdeal.Run (series termRe termIm specRe specIm corr lagsOf rawOf)
open Idealize.ShloMosaic Idealize.ShloMosaic.TcCoe Idealize.SL

/-- The channel of a head and a feature. -/
def ch (h : Fin 16) (e : Fin 64) : Fin 1024 := ⟨h.val * 64 + e.val, by omega⟩

variable (q k x : S4x4096x16x64.Idx → ℝ)

/-- A channel's series, read from the argument. -/
theorem series_ch (b : Fin 4) (t : Fin 4096) (h : Fin 16) (e : Fin 64) : series x b (ch h e) t.val = x (ix4 b t h e) := by
  have e0 : (⟨t.val % 4096, Nat.mod_lt _ (by decide)⟩ : Fin 4096) = t := Fin.ext (by show t.val % 4096 = t.val; omega)
  have e1 : (⟨(ch h e).val / 64, by have := (ch h e).isLt; omega⟩ : Fin 16) = h := Fin.ext (by show (h.val * 64 + e.val) / 64 = h.val; omega)
  have e2 : (⟨(ch h e).val % 64, Nat.mod_lt _ (by decide)⟩ : Fin 64) = e := Fin.ext (by show (h.val * 64 + e.val) % 64 = e.val; omega)
  show x (ix4 b _ _ _) = _
  rw [e0, e1, e2]

theorem re_apply (b : Fin 4) (h : Fin 16) (e : Fin 64) (f : Fin 4096) :
    re (up x) (ix4 b h e f) = ((Fourier.X (series x b (ch h e)) f.val : ℝ) : EReal) := by
  unfold re Fourier.X
  rw [along_apply, ← coe_sum]
  refine Finset.sum_congr rfl fun t _ => ?_
  rw [turned_apply, cos_apply, up_apply, series_ch, EReal.coe_mul]

theorem im_apply (b : Fin 4) (h : Fin 16) (e : Fin 64) (f : Fin 4096) :
    im (up x) (ix4 b h e f) = ((-Fourier.Y (series x b (ch h e)) f.val : ℝ) : EReal) := by
  have hs : along (turned (up x)) sinT (ix4 b h e f) = ((Fourier.Y (series x b (ch h e)) f.val : ℝ) : EReal) := by
    unfold Fourier.Y
    rw [along_apply, ← coe_sum]
    refine Finset.sum_congr rfl fun t _ => ?_
    rw [turned_apply, sin_apply, up_apply, series_ch, EReal.coe_mul]
  rw [EReal.coe_neg, ← hs]
  rfl

theorem resRe_apply (b : Fin 4) (h : Fin 16) (e : Fin 64) (f : Fin 4096) :
    resRe (up q) (up k) (ix4 b h e f) = ((termRe q k b f.val (ch h e) : ℝ) : EReal) := by
  show re (up q) (ix4 b h e f) * re (up k) (ix4 b h e f) + im (up q) (ix4 b h e f) * im (up k) (ix4 b h e f) = _
  rw [re_apply, re_apply, im_apply, im_apply, ← EReal.coe_mul, ← EReal.coe_mul, ← EReal.coe_add, neg_mul_neg]
  rfl

theorem resIm_apply (b : Fin 4) (h : Fin 16) (e : Fin 64) (f : Fin 4096) :
    resIm (up q) (up k) (ix4 b h e f) = ((termIm q k b f.val (ch h e) : ℝ) : EReal) := by
  show im (up q) (ix4 b h e f) * re (up k) (ix4 b h e f) - re (up q) (ix4 b h e f) * im (up k) (ix4 b h e f) = _
  rw [re_apply, re_apply, im_apply, im_apply, ← EReal.coe_mul, ← EReal.coe_mul, ← EReal.coe_sub]
  refine congrArg (fun z : ℝ => (z : EReal)) ?_
  unfold termIm
  ring

/-- The correlation of a channel. -/
def one (b : Fin 4) (c : Fin 1024) (p : ℕ) : ℝ := Fourier.inverse (fun n => termRe q k b n c) (fun n => termIm q k b n c) p

theorem corr_apply (b : Fin 4) (h : Fin 16) (e : Fin 64) (p : Fin 4096) :
    corrT (up q) (up k) (ix4 b h e p) = ((one q k b (ch h e) p.val * (1 / 4096) : ℝ) : EReal) := by
  show Ideal.div (along (resRe (up q) (up k)) cosT (ix4 b h e p) - along (resIm (up q) (up k)) sinT (ix4 b h e p)) (Ideal.ofBits .f32 0x45800000#32) = _
  rw [Angles.word_4096, Ideal.div_coe (by norm_num), along_apply, along_apply]
  unfold one Fourier.inverse
  rw [EReal.coe_mul, EReal.coe_sub, ← coe_sum, ← coe_sum]
  simp only [resRe_apply, resIm_apply, cos_apply, sin_apply, EReal.coe_mul]

/-- The sum of the channels' correlations is the correlation of the summed spectrum. -/
theorem sum_one (b : Fin 4) (p : ℕ) : (∑ e : Fin 64, ∑ h : Fin 16, one q k b (ch h e) p) = corr q k b p := by
  have hc : (∑ e : Fin 64, ∑ h : Fin 16, one q k b (ch h e) p) = ∑ c : Fin 1024, one q k b c p := by
    rw [Finset.sum_comm, ← Fintype.sum_prod_type' (f := fun (h : Fin 16) (e : Fin 64) => one q k b (ch h e) p),
      ← (finProdFinEquiv (m := 16) (n := 64)).sum_comp (fun c : Fin 1024 => one q k b c p)]
    refine Finset.sum_congr rfl fun r _ => congrArg (fun c => one q k b c p) (Fin.ext ?_)
    rw [finProdFinEquiv_apply_val]
    show r.1.val * 64 + r.2.val = r.2.val + 64 * r.1.val
    omega
  rw [hc]
  unfold one corr Fourier.inverse specRe specIm
  rw [Finset.sum_sub_distrib, Finset.sum_comm, Finset.sum_comm (f := fun (c : Fin 1024) (f : Fin 4096) => termIm q k b f.val c * Fourier.S (f.val * p))]
  simp only [Finset.sum_mul]

theorem mean_apply (b : Fin 4) (p : Fin 4096) :
    meanT (corrT (up q) (up k)) (ix2 b p) = ((corr q k b p.val * (1 / (4096 * (16 * 64))) : ℝ) : EReal) := by
  rw [meanT_apply, Angles.word_16, Angles.word_64, Ideal.div_coe (by norm_num)]
  simp only [Ideal.div_coe (show (16 : ℝ) ≠ 0 by norm_num), corr_apply, coe_sum, ← EReal.coe_mul]
  refine congrArg (fun z : ℝ => (z : EReal)) ?_
  rw [← sum_one]
  simp only [← Finset.sum_mul]
  ring

theorem meanB_value (p : Fin 4096) :
    meanB (meanT (corrT (up q) (up k))) (ix1 p) = ((1 / (4096 * (16 * 64) * 4) * ∑ b : Fin 4, corr q k b p.val : ℝ) : EReal) := by
  rw [meanB_apply, Angles.word_4, Ideal.div_coe (by norm_num)]
  simp only [mean_apply, coe_sum, ← EReal.coe_mul]
  refine congrArg (fun z : ℝ => (z : EReal)) ?_
  simp only [← Finset.sum_mul]
  ring

/-- The lags chosen are the kernel's. -/
theorem top_value (i : Fin 8) : topT (meanB (meanT (corrT (up q) (up k)))) (ix1 i) = BitVec.ofNat 32 (lagsOf q k i.val).val :=
  Selection.topK_apply (Cert.KernelIdeal.Run.lags_greedy q k 8) (by decide) _ (1 / (4096 * (16 * 64) * 4)) (by norm_num) (meanB_value q k) _ i

/-- A lag's word read as an integer. -/
theorem toInt_lag (p : ℕ) (hp : p < 8192) : (BitVec.ofNat 32 p).toInt.toNat = p := by
  have h : (BitVec.ofNat 32 p).toNat = p := by rw [BitVec.toNat_ofNat]; omega
  rw [BitVec.toInt_eq_toNat_of_lt (by rw [h]; omega), h]
  rfl

/-- The weights before the softmax are the kernel's. -/
theorem weights_value (i : IVec S8 32) (hi : ∀ j : Fin 8, i (ix1 j) = BitVec.ofNat 32 (lagsOf q k j.val).val) :
    weightsT (meanT (corrT (up q) (up k))) i = rawOf q k := by
  funext j
  obtain ⟨b, j, rfl⟩ : ∃ (b : Fin 4) (i : Fin 8), j = ix2 b i := ⟨j 0, j 1, eq_ix2 j⟩
  refine (gather_weights _ _ b j).trans ?_
  have e1 : broadcastInDim S8x1 ![0] bcast_S8_S8x1_0 i (ix2 j (0 : Fin 1)) = i (ix1 j) := by pointwise
  have hl := (lagsOf q k j.val).isLt
  have e2 : (⟨min (broadcastInDim S8x1 ![0] bcast_S8_S8x1_0 i (ix2 j (0 : Fin 1))).toInt.toNat 4095, by omega⟩ : Fin 4096) = lagsOf q k j.val :=
    Fin.ext (by show min _ 4095 = _; rw [e1, hi j, toInt_lag _ (by omega)]; omega)
  rw [e2, mean_apply]
  rfl

/-- The row read at a time for a lag. -/
theorem rows_value (i : IVec S8 32) (t : Fin 4096) (j : Fin 8) (p : Fin 4096) (hi : i (ix1 j) = BitVec.ofNat 32 p.val) :
    (rowsT i (ix2 t j)).toInt.toNat = (t.val + p.val) % 4096 := by
  have ht := t.isLt
  have hp := p.isLt
  rw [rows_apply, hi, ← BitVec.ofNat_add]
  have h : (BitVec.ofNat 32 (t.val + p.val)).toInt = ((t.val + p.val : ℕ) : ℤ) := by
    have h : (BitVec.ofNat 32 (t.val + p.val)).toNat = t.val + p.val := by rw [BitVec.toNat_ofNat]; omega
    rw [BitVec.toInt_eq_toNat_of_lt (by rw [h]; omega), h]
  unfold IntOp.remsi
  rw [if_neg (by rintro (h0 | h0) <;> revert h0 <;> simp), BitVec.toInt_srem, h]
  show (((t.val + p.val : ℕ) : ℤ).tmod ((4096 : ℕ) : ℤ)).toNat = _
  rw [← Int.ofNat_tmod]
  rfl

/-- The reference's result. -/
theorem value (v : FVec Ideal S4x4096x16x64 .f32) (b : Fin 4) (t : Fin 4096) (h : Fin 16) (e : Fin 64) :
    outT v (rowsT (topT (meanB (meanT (corrT (up q) (up k)))))) (softT (weightsT (meanT (corrT (up q) (up k))) (topT (meanB (meanT (corrT (up q) (up k))))))) (ix4 b t h e)
      = ∑ i : Fin 8, Cert.KernelIdeal.Run.soft (rawOf q k) (ix2 b i) * v (ix4 b (⟨(t.val + (lagsOf q k i.val).val) % 4096, Nat.mod_lt _ (by decide)⟩ : Fin 4096) h e) := by
  rw [out_apply, weights_value q k _ (top_value q k)]
  refine Finset.sum_congr rfl fun i _ => ?_
  have hr := rows_value (topT (meanB (meanT (corrT (up q) (up k))))) t i (lagsOf q k i.val) (top_value q k i)
  have e1 : (⟨min (rowsT (topT (meanB (meanT (corrT (up q) (up k))))) (ix2 t i)).toInt.toNat 4095, by omega⟩ : Fin 4096)
      = ⟨(t.val + (lagsOf q k i.val).val) % 4096, Nat.mod_lt _ (by decide)⟩ := Fin.ext (by show min _ 4095 = _ % 4096; rw [hr]; omega)
  rw [e1]
  exact mul_comm _ _

end Cert.Reference

end
-- ==== Proof.Algebraic.lean ====
/- Over the extended reals, the kernel and the reference compute the same array from finite queries and keys. -/
module

public import proofs.«01_k».proof.Proof.Frames
public import proofs.«01_k».proof.Proof.RefValue

@[expose] public section

set_option maxRecDepth 16384

noncomputable section

namespace Cert.Algebraic

open Idealize.ShloMosaic Idealize.SL.Sem Cert.Finite

/-- The precondition's one shape condition. -/
theorem finiteFacts : Cert.Pre_finite.Facts := ⟨by decide⟩

attribute [local instance] finiteFacts

/-- The word of positive infinity. -/
theorem inf_word : (FloatOps.ofBits .f32 0x7F800000#32 : Ideal .f32) = (⊤ : EReal) := by
  show Ideal.ofBits .f32 0x7F800000#32 = ⊤
  simp [Ideal.ofBits, Ideal.ieee]

/-- A number of absolute value below infinity is real. -/
theorem real_of_abs_lt (x : EReal) (h : Ideal.cmp .olt (max x (-x)) ⊤ = 1#1) : x = ((x.toReal : ℝ) : EReal) := by
  have hlt : max x (-x) < ⊤ := by
    by_contra hn
    simp [Ideal.cmp, hn] at h
  obtain ⟨h1, h2⟩ := max_lt_iff.mp hlt
  refine (EReal.coe_toReal h1.ne fun hb => ?_).symm
  rw [hb] at h2
  exact absurd h2 (by simp)

/-- An array whose every entry is of absolute value below infinity is an array of real numbers. -/
theorem up_of_lt (x : FVec Ideal Cert.Pre_finite.S4x4096x16x64 .f32)
    (h : cmpf .olt (Host.absf x) (broadcastInDim Cert.Pre_finite.S4x4096x16x64 ![] Cert.Pre_finite.Facts.bcast_S_S4x4096x16x64
      (constant (F := Ideal) Cert.Pre_finite.S_ .f32 0x7F800000#32)) = fun _ => 1#1) :
    x = up fun i => (x i : EReal).toReal := by
  funext i
  refine real_of_abs_lt (x i) ?_
  have hi := congrFun h i
  rw [← inf_word]
  exact hi

/-- The reference's result is the kernel's. -/
theorem same (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (q k : Cert.KernelIdeal.S4x4096x16x64.Idx → ℝ)
    (hq : m ((c.tc : Thread Cert.KernelIdeal.nD Cert.KernelIdeal.τ).loc Cert.KernelIdeal.main_arg0) = up q)
    (hk : m ((c.tc : Thread Cert.KernelIdeal.nD Cert.KernelIdeal.τ).loc Cert.KernelIdeal.main_arg1) = up k)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v68 m' c
      = Cert.KernelIdeal.Run.W6 m ρ (Cert.KernelIdeal.Run.hyps m ρ) c (Proc.devRef .tc Cert.KernelIdeal.main_v42) := by
  refine (Cert.Reference.res_eq m' c _ _ _ (h0.trans hq) (h1.trans hk) h2).trans ?_
  funext j
  obtain ⟨b, t, h, e, rfl⟩ : ∃ (b : Fin 4) (t : Fin 4096) (h : Fin 16) (e : Fin 64), j = ix4 b t h e := ⟨j 0, j 1, j 2, j 3, eq_ix4 j⟩
  exact (Cert.Reference.value q k _ b t h e).trans (Cert.KernelIdeal.Run.value m ρ c q k hq hk _ b t h e).symm

/-- The kernel and the reference, from finite queries and keys, end with equal results. -/
theorem algebraic : Cert.algebraic_KernelIdeal_ReferenceIdeal_pre_finite := fun m ρ m' ρ' hpre hargs =>
  ⟨fun c => Cert.KernelIdeal.Run.W6 m ρ (Cert.KernelIdeal.Run.hyps m ρ) c (Proc.devRef .tc Cert.KernelIdeal.main_v42),
    (θ_run Cert.KernelIdeal.defs _ _).mono
      (fun _ h c => ⟨(h.1 c).2.2.2.2, (h.1 c).1, (h.1 c).2.1, (h.1 c).2.2.1, (h.1 c).2.2.2.1⟩)
      (Cert.KernelIdeal.Run.frame (F := Ideal) m ρ (Cert.KernelIdeal.Run.hyps m ρ)),
    (θ_run Cert.ReferenceIdeal.defs _ _).mono
      (fun _ h c => ⟨((h c).1).trans (same m ρ m' c _ _ (up_of_lt _ (hpre c).1) (up_of_lt _ (hpre c).2) (hargs c).1 (hargs c).2.1 (hargs c).2.2.1), (h c).2⟩)
      (Cert.ReferenceIdeal.Value.run (F := Ideal) m' ρ')⟩

/-- The kernel's frame, on finite queries and keys. -/
theorem kernelIdeal_finite : Cert.quiescent_KernelIdeal_pre_finite := fun m ρ _ => Cert.Frames.kernelIdeal m ρ True.intro

/-- The reference's frame, on finite queries and keys. -/
theorem referenceIdeal_finite : Cert.quiescent_ReferenceIdeal_pre_finite := fun m ρ _ => Cert.Frames.referenceIdeal m ρ True.intro

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

namespace Cert.Proof

/-- The claim. -/
theorem claim : Cert.Claim :=
  ⟨Cert.Kernel.Gen.facts, Cert.KernelIdeal.Gen.facts, Cert.ReferenceIdeal.Gen.facts, Cert.Algebraic.finiteFacts,
    Cert.Frames.kernel, Cert.Frames.kernelIdeal, Cert.Algebraic.kernelIdeal_finite, Cert.Frames.referenceIdeal,
    Cert.Algebraic.referenceIdeal_finite, trivial, Cert.Algebraic.algebraic⟩

end Cert.Proof
